-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S256x2048 : Shape := ⟨2, ![256, 2048]⟩
abbrev S256x2 : Shape := ⟨2, ![256, 2]⟩
abbrev S8x4096x2048 : Shape := ⟨3, ![8, 4096, 2048]⟩
abbrev S8x2048x2048 : Shape := ⟨3, ![8, 2048, 2048]⟩
abbrev S_ : Shape := ⟨0, ![]⟩
abbrev S256x1 : Shape := ⟨2, ![256, 1]⟩
abbrev S256 : Shape := ⟨1, ![256]⟩

class Facts : Prop where
  bcast_S_S256x2 : S_.BroadcastsInDim S256x2 (![] : Fin 0 → Fin S256x2.rank)
  reducesTo_S256x2_S_d0_1 : S256x2.ReducesTo [0, 1] S_
  h_S_ : 0 < S_.numel
  slices_S256x2_S256x1_0_0 : S256x2.Slices ![0, 0] S256x1
  shapeCasts_S256x1_S256 : S256x1.ShapeCasts S256
  slices_S256x2_S256x1_0_1 : S256x2.Slices ![0, 1] S256x1
  reducesTo_S256_S_d0 : S256.ReducesTo [0] S_

variable [Facts]

def fn {F : FTy → Type} [FloatOps F] (main_arg0 : FVec F S256x2048 .f32) (main_arg1 : IVec S256x2 32) (main_arg2 : FVec F S256x2 .f32) (main_arg3 : FVec F S8x4096x2048 .f32) (main_arg4 : FVec F S8x2048x2048 .f32) : IVec S_ 1 :=
  let main_c : IVec S_ 32 := constantI S_ 32 0#32
  let main_v0 : IVec S256x2 32 := broadcastInDim S256x2 ![] bcast_S_S256x2 main_c
  let main_v1 : IVec S256x2 1 := cmpi .sge main_arg1 main_v0
  let main_c_0 : IVec S_ 32 := constantI S_ 32 8#32
  let main_v2 : IVec S256x2 32 := broadcastInDim S256x2 ![] bcast_S_S256x2 main_c_0
  let main_v3 : IVec S256x2 1 := cmpi .slt main_arg1 main_v2
  let main_v4 : IVec S256x2 1 := andi main_v1 main_v3
  let main_c_1 : IVec S_ 1 := constantI S_ 1 1#1
  let main_v5 : IVec S_ 1 := (fun x v => Host.reduce IntOp.andi x v reducesTo_S256x2_S_d0_1 h_S_) main_v4 main_c_1
  let main_v6 : IVec S256x1 32 := (extractStridedSlice S256x1 ![0, 0] · slices_S256x2_S256x1_0_0) main_arg1
  let main_v7 : IVec S256 32 := shapeCast S256 main_v6 shapeCasts_S256x1_S256
  let main_v8 : IVec S256x1 32 := (extractStridedSlice S256x1 ![0, 1] · slices_S256x2_S256x1_0_1) main_arg1
  let main_v9 : IVec S256 32 := shapeCast S256 main_v8 shapeCasts_S256x1_S256
  let main_v10 : IVec S256 1 := cmpi .ne main_v7 main_v9
  let main_c_2 : IVec S_ 1 := constantI S_ 1 1#1
  let main_v11 : IVec S_ 1 := (fun x v => Host.reduce IntOp.andi x v reducesTo_S256_S_d0 h_S_) main_v10 main_c_2
  let main_v12 : IVec S_ 1 := andi main_v5 main_v11
  main_v12
-- ==== Kernel.lean ====
abbrev S256x2048 : Shape := ⟨2, ![256, 2048]⟩
abbrev S256x2 : Shape := ⟨2, ![256, 2]⟩
abbrev S8x4096x2048 : Shape := ⟨3, ![8, 4096, 2048]⟩
abbrev S8x2048x2048 : Shape := ⟨3, ![8, 2048, 2048]⟩
abbrev S512 : Shape := ⟨1, ![512]⟩
abbrev S_ : Shape := ⟨0, ![]⟩
abbrev S1024 : Shape := ⟨1, ![1024]⟩
abbrev S256 : Shape := ⟨1, ![256]⟩
abbrev S16 : Shape := ⟨1, ![16]⟩
abbrev S4096x128 : Shape := ⟨2, ![4096, 128]⟩
abbrev S1024x1 : Shape := ⟨2, ![1024, 1]⟩
abbrev S1x16 : Shape := ⟨2, ![1, 16]⟩
abbrev S1024x16 : Shape := ⟨2, ![1024, 16]⟩
abbrev S16384 : Shape := ⟨1, ![16384]⟩
abbrev S16384x128 : Shape := ⟨2, ![16384, 128]⟩
abbrev S512x128 : Shape := ⟨2, ![512, 128]⟩
abbrev S1024x2048 : Shape := ⟨2, ![1024, 2048]⟩
abbrev S8 : Shape := ⟨1, ![8]⟩
abbrev S1x8 : Shape := ⟨2, ![1, 8]⟩
abbrev S2x8 : Shape := ⟨2, ![2, 8]⟩
abbrev S1x512x2048 : Shape := ⟨3, ![1, 512, 2048]⟩
abbrev S1 : Shape := ⟨1, ![1]⟩
abbrev S1x1 : Shape := ⟨2, ![1, 1]⟩
abbrev S512x2048 : Shape := ⟨2, ![512, 2048]⟩
abbrev S64x2048 : Shape := ⟨2, ![64, 2048]⟩
abbrev S64x512 : Shape := ⟨2, ![64, 512]⟩
abbrev S64x1 : Shape := ⟨2, ![64, 1]⟩
abbrev S256x1 : Shape := ⟨2, ![256, 1]⟩
abbrev S256x16 : Shape := ⟨2, ![256, 16]⟩
abbrev S4096 : Shape := ⟨1, ![4096]⟩
abbrev S128 : Shape := ⟨1, ![128]⟩
abbrev S128x128 : Shape := ⟨2, ![128, 128]⟩

abbrev nBuf : Table → Nat
  | .hbm => 75
  | .local .tc .vmem => 10
  | .local .tc .smem => 2
  | .local .scVector .vmem => 18
  | _ => 0

abbrev bufTy : (tb : Table) → Fin (nBuf tb) → BufTy
  | .hbm, ⟨0, _⟩ => ⟨S256x2048, .f32⟩
  | .hbm, ⟨1, _⟩ => ⟨S256x2, .i32⟩
  | .hbm, ⟨2, _⟩ => ⟨S256x2, .f32⟩
  | .hbm, ⟨3, _⟩ => ⟨S8x4096x2048, .f32⟩
  | .hbm, ⟨4, _⟩ => ⟨S8x2048x2048, .f32⟩
  | .hbm, ⟨5, _⟩ => ⟨S512, .i32⟩
  | .hbm, ⟨6, _⟩ => ⟨S512, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S1024, .i32⟩
  | .hbm, ⟨27, _⟩ => ⟨S1024, .f32⟩
  | .hbm, ⟨28, _⟩ => ⟨S256, .i32⟩
  | .hbm, ⟨29, _⟩ => ⟨S256, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S4096x128, .f32⟩
  | .hbm, ⟨34, _⟩ => ⟨S1024x1, .i32⟩
  | .hbm, ⟨35, _⟩ => ⟨S_, .i32⟩
  | .hbm, ⟨36, _⟩ => ⟨S1024x1, .i32⟩
  | .hbm, ⟨37, _⟩ => ⟨S1024x1, .i32⟩
  | .hbm, ⟨38, _⟩ => ⟨S16, .i32⟩
  | .hbm, ⟨39, _⟩ => ⟨S1x16, .i32⟩
  | .hbm, ⟨40, _⟩ => ⟨S1024x16, .i32⟩
  | .hbm, ⟨41, _⟩ => ⟨S1024x16, .i32⟩
  | .hbm, ⟨42, _⟩ => ⟨S1024x16, .i32⟩
  | .hbm, ⟨43, _⟩ => ⟨S16384, .i32⟩
  | .hbm, ⟨44, _⟩ => ⟨S16384x128, .f32⟩
  | .hbm, ⟨45, _⟩ => ⟨S1024x2048, .f32⟩
  | .hbm, ⟨46, _⟩ => ⟨S8, .i32⟩
  | .hbm, ⟨47, _⟩ => ⟨S8, .i32⟩
  | .hbm, ⟨48, _⟩ => ⟨S1x8, .i32⟩
  | .hbm, ⟨49, _⟩ => ⟨S1x8, .i32⟩
  | .hbm, ⟨50, _⟩ => ⟨S1024x1, .f32⟩
  | .hbm, ⟨51, _⟩ => ⟨S1024x2048, .f32⟩
  | .hbm, ⟨52, _⟩ => ⟨S16384x128, .f32⟩
  | .hbm, ⟨53, _⟩ => ⟨S256x1, .i32⟩
  | .hbm, ⟨54, _⟩ => ⟨S_, .i32⟩
  | .hbm, ⟨55, _⟩ => ⟨S256x1, .i32⟩
  | .hbm, ⟨56, _⟩ => ⟨S256x1, .i32⟩
  | .hbm, ⟨57, _⟩ => ⟨S16, .i32⟩
  | .hbm, ⟨58, _⟩ => ⟨S1x16, .i32⟩
  | .hbm, ⟨59, _⟩ => ⟨S256x16, .i32⟩
  | .hbm, ⟨60, _⟩ => ⟨S256x16, .i32⟩
  | .hbm, ⟨61, _⟩ => ⟨S256x16, .i32⟩
  | .hbm, ⟨62, _⟩ => ⟨S4096, .i32⟩
  | .hbm, ⟨63, _⟩ => ⟨S256x1, .i32⟩
  | .hbm, ⟨64, _⟩ => ⟨S_, .i32⟩
  | .hbm, ⟨65, _⟩ => ⟨S256x1, .i32⟩
  | .hbm, ⟨66, _⟩ => ⟨S256x1, .i32⟩
  | .hbm, ⟨67, _⟩ => ⟨S16, .i32⟩
  | .hbm, ⟨68, _⟩ => ⟨S1x16, .i32⟩
  | .hbm, ⟨69, _⟩ => ⟨S256x16, .i32⟩
  | .hbm, ⟨70, _⟩ => ⟨S256x16, .i32⟩
  | .hbm, ⟨71, _⟩ => ⟨S256x16, .i32⟩
  | .hbm, ⟨72, _⟩ => ⟨S4096, .i32⟩
  | .hbm, ⟨73, _⟩ => ⟨S4096x128, .f32⟩
  | .hbm, ⟨74, _⟩ => ⟨S256x2048, .f32⟩
  | .local .tc .vmem, ⟨0, _⟩ => ⟨S1024x2048, .f32⟩
  | .local .tc .vmem, ⟨1, _⟩ => ⟨S1x512x2048, .f32⟩
  | .local .tc .vmem, ⟨2, _⟩ => ⟨S1x512x2048, .f32⟩
  | .local .tc .vmem, ⟨3, _⟩ => ⟨S1x512x2048, .f32⟩
  | .local .tc .vmem, ⟨4, _⟩ => ⟨S1x512x2048, .f32⟩
  | .local .tc .vmem, ⟨5, _⟩ => ⟨S1x512x2048, .f32⟩
  | .local .tc .vmem, ⟨6, _⟩ => ⟨S1x512x2048, .f32⟩
  | .local .tc .vmem, ⟨7, _⟩ => ⟨S1024x1, .f32⟩
  | .local .tc .vmem, ⟨8, _⟩ => ⟨S1024x2048, .f32⟩
  | .local .tc .vmem, ⟨9, _⟩ => ⟨S256x2048, .f32⟩
  | .local .tc .smem, ⟨0, _⟩ => ⟨S8, .i32⟩
  | .local .tc .smem, ⟨1, _⟩ => ⟨S2x8, .i32⟩
  | .local .scVector .vmem, ⟨0, _⟩ => ⟨S512, .i32⟩
  | .local .scVector .vmem, ⟨1, _⟩ => ⟨S512, .f32⟩
  | .local .scVector .vmem, ⟨2, _⟩ => ⟨S512, .i32⟩
  | .local .scVector .vmem, ⟨3, _⟩ => ⟨S1024, .i32⟩
  | .local .scVector .vmem, ⟨4, _⟩ => ⟨S1024, .f32⟩
  | .local .scVector .vmem, ⟨5, _⟩ => ⟨S256, .i32⟩
  | .local .scVector .vmem, ⟨6, _⟩ => ⟨S256, .i32⟩
  | .local .scVector .vmem, ⟨7, _⟩ => ⟨S16, .i32⟩
  | .local .scVector .vmem, ⟨8, _⟩ => ⟨S16, .i32⟩
  | .local .scVector .vmem, ⟨9, _⟩ => ⟨S16, .i32⟩
  | .local .scVector .vmem, ⟨10, _⟩ => ⟨S16, .i32⟩
  | .local .scVector .vmem, ⟨11, _⟩ => ⟨S16, .i32⟩
  | .local .scVector .vmem, ⟨12, _⟩ => ⟨S512, .i32⟩
  | .local .scVector .vmem, ⟨13, _⟩ => ⟨S512x128, .f32⟩
  | .local .scVector .vmem, ⟨14, _⟩ => ⟨S128, .i32⟩
  | .local .scVector .vmem, ⟨15, _⟩ => ⟨S128, .i32⟩
  | .local .scVector .vmem, ⟨16, _⟩ => ⟨S128x128, .f32⟩
  | .local .scVector .vmem, ⟨17, _⟩ => ⟨S128x128, .f32⟩
  | _, _ => ⟨S256x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4_0 : Ref sig .tc := ⟨.hbm, 26, rfl⟩
abbrev main_v4_1 : Ref sig .tc := ⟨.hbm, 27, rfl⟩
abbrev main_v4_2 : Ref sig .tc := ⟨.hbm, 28, rfl⟩
abbrev main_v4_3 : Ref sig .tc := ⟨.hbm, 29, rfl⟩
abbrev main_v4_4 : Ref sig .tc := ⟨.hbm, 30, rfl⟩
abbrev main_v4_5 : Ref sig .tc := ⟨.hbm, 31, rfl⟩
abbrev main_v4_6 : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v22 : Ref sig .tc := ⟨.smem, 0, rfl⟩
abbrev main_v21 : Ref sig .tc := ⟨.smem, 1, rfl⟩
abbrev main_v0_scv : Ref sig .scVector := ⟨.hbm, 5, rfl⟩
abbrev main_v1_scv : Ref sig .scVector := ⟨.hbm, 6, rfl⟩
abbrev main_v3_scv : Ref sig .scVector := ⟨.hbm, 25, rfl⟩
abbrev main_v4_0_scv : Ref sig .scVector := ⟨.hbm, 26, rfl⟩
abbrev main_v4_1_scv : Ref sig .scVector := ⟨.hbm, 27, rfl⟩
abbrev main_v4_2_scv : Ref sig .scVector := ⟨.hbm, 28, rfl⟩
abbrev main_v4_3_scv : Ref sig .scVector := ⟨.hbm, 29, rfl⟩
abbrev main_v4_4_scv : Ref sig .scVector := ⟨.hbm, 30, rfl⟩
abbrev main_v4_5_scv : Ref sig .scVector := ⟨.hbm, 31, rfl⟩
abbrev main_v4_6_scv : Ref sig .scVector := ⟨.hbm, 32, rfl⟩
abbrev main_v5_scv : Ref sig .scVector := ⟨.hbm, 33, rfl⟩
abbrev main_v14_scv : Ref sig .scVector := ⟨.hbm, 43, rfl⟩
abbrev main_v15_scv : Ref sig .scVector := ⟨.hbm, 44, rfl⟩
abbrev main_v25_scv : Ref sig .scVector := ⟨.hbm, 52, rfl⟩
abbrev main_v34_scv : Ref sig .scVector := ⟨.hbm, 62, rfl⟩
abbrev main_v43_scv : Ref sig .scVector := ⟨.hbm, 72, rfl⟩
abbrev main_v44_scv : Ref sig .scVector := ⟨.hbm, 73, rfl⟩
abbrev cc2_stg0_0 : Ref sig .tc := ⟨.vmem, 0, rfl⟩
abbrev cc2_stg1_0 : Ref sig .tc := ⟨.vmem, 1, rfl⟩
abbrev cc2_stg1_1 : Ref sig .tc := ⟨.vmem, 2, rfl⟩
abbrev cc2_stg2_0 : Ref sig .tc := ⟨.vmem, 3, rfl⟩
abbrev cc2_stg2_1 : Ref sig .tc := ⟨.vmem, 4, rfl⟩
abbrev cc2_stg3_0 : Ref sig .tc := ⟨.vmem, 5, rfl⟩
abbrev cc2_stg3_1 : Ref sig .tc := ⟨.vmem, 6, rfl⟩
abbrev cc2_stg4_0 : Ref sig .tc := ⟨.vmem, 7, rfl⟩
abbrev cc2_stg5_0 : Ref sig .tc := ⟨.vmem, 8, rfl⟩
abbrev cc2_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc1_scratch0 : Ref sig .scVector := ⟨.vmem, 12, rfl⟩
abbrev cc1_scratch1 : Ref sig .scVector := ⟨.vmem, 13, rfl⟩
abbrev cc3_scratch0 : Ref sig .scVector := ⟨.vmem, 14, rfl⟩
abbrev cc3_scratch1 : Ref sig .scVector := ⟨.vmem, 15, rfl⟩
abbrev cc3_scratch2 : Ref sig .scVector := ⟨.vmem, 16, rfl⟩
abbrev cc3_scratch3 : Ref sig .scVector := ⟨.vmem, 17, rfl⟩
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_3 : BitVec 32 := 0#32
  let c64_i32 : BitVec 32 := 64#32
  let v9 : BitVec 32 := Scalar.addi c0_i32_3 c64_i32
  let c1_i32_4 : BitVec 32 := 1#32
  ⟨c0_i32_3, v9, c1_i32_4⟩
def k0_off1 (k0_t1 : Fin k0_t1_loop.trips) : Fin 1 → Nat :=
  let c0_i32_3 : BitVec 32 := 0#32
  let c1_i32_4 : BitVec 32 := 1#32
  let arg24 : BitVec 32 := Scf.iv c0_i32_3 c1_i32_4 k0_t1
  let c16_i32 : BitVec 32 := 16#32
  let v41 : BitVec 32 := Scalar.muli arg24 c16_i32
  let v42 : Index := Scalar.indexCast v41
  ![v42.toNat]
@[reducible] def k0_t2_loop : Scf.Loop 32 :=
  let c0_i32_7 : BitVec 32 := 0#32
  let c32_i32 : BitVec 32 := 32#32
  let v13 : BitVec 32 := Scalar.addi c0_i32_7 c32_i32
  let c1_i32_8 : BitVec 32 := 1#32
  ⟨c0_i32_7, v13, c1_i32_8⟩
def k0_off2 (k0_t2 : Fin k0_t2_loop.trips) : Fin 1 → Nat :=
  let c0_i32_7 : BitVec 32 := 0#32
  let c1_i32_8 : BitVec 32 := 1#32
  let arg24 : BitVec 32 := Scf.iv c0_i32_7 c1_i32_8 k0_t2
  let c16_i32 : BitVec 32 := 16#32
  let v41 : BitVec 32 := Scalar.muli arg24 c16_i32
  let v42 : Index := Scalar.indexCast v41
  ![v42.toNat]
@[reducible] def k0_t3_loop : Scf.Loop 32 :=
  let c0_i32_20 : BitVec 32 := 0#32
  let c32_i32_21 : BitVec 32 := 32#32
  let v39 : BitVec 32 := Scalar.addi c0_i32_20 c32_i32_21
  let c1_i32_22 : BitVec 32 := 1#32
  ⟨c0_i32_20, v39, c1_i32_22⟩
def k0_off3 (k0_t3 : Fin k0_t3_loop.trips) : Fin 1 → Nat :=
  let c0_i32_20 : BitVec 32 := 0#32
  let c1_i32_22 : BitVec 32 := 1#32
  let arg24 : BitVec 32 := Scf.iv c0_i32_20 c1_i32_22 k0_t3
  let c16_i32 : BitVec 32 := 16#32
  let v41 : BitVec 32 := Scalar.muli arg24 c16_i32
  let v42 : Index := Scalar.indexCast v41
  ![v42.toNat]

def k0_chk2 (i : grid0.Coords) (v43 : IVec S16 32) : Prop :=
  (∀ (k0_h1 : k0_cond1 i = 1#1), ∀ a x, ((![v43] : Fin 1 → IVec S16 32) a x).toNat < S16.size a) ∧
  (∀ (k0_h1 : k0_cond1 i = 1#1), ∀ a x, ((![v43] : Fin 1 → IVec S16 32) a x).toNat < S16.size a)
theorem k0_idx9_inb : ∀ (i : grid0.Coords) (v43 : IVec S16 32) (k0_hw2 : k0_chk2 i v43), ∀ (k0_h1 : k0_cond1 i = 1#1), ∀ a x, ((![v43] : Fin 1 → IVec S16 32) a x).toNat < S16.size a := fun i v43 k0_hw2 k0_h1 => k0_hw2.1 k0_h1
theorem k0_idx10_inb : ∀ (i : grid0.Coords) (v43 : IVec S16 32) (k0_hw2 : k0_chk2 i v43), ∀ (k0_h1 : k0_cond1 i = 1#1), ∀ a x, ((![v43] : Fin 1 → IVec S16 32) a x).toNat < S16.size a := fun i v43 k0_hw2 k0_h1 => k0_hw2.2 k0_h1

def k0_chk3 (i : grid0.Coords) (v109 : IVec S16 32) : Prop :=
  (∀ (k0_h1 : k0_cond1 i = 1#1), ∀ a x, ((![v109] : Fin 1 → IVec S16 32) a x).toNat < S1024.size a) ∧
  (∀ (k0_h1 : k0_cond1 i = 1#1), ∀ a x, ((![v109] : Fin 1 → IVec S16 32) a x).toNat < S1024.size a)
theorem k0_idx11_inb : ∀ (i : grid0.Coords) (v109 : IVec S16 32) (k0_hw3 : k0_chk3 i v109), ∀ (k0_h1 : k0_cond1 i = 1#1), ∀ a x, ((![v109] : Fin 1 → IVec S16 32) a x).toNat < S1024.size a := fun i v109 k0_hw3 k0_h1 => k0_hw3.1 k0_h1
theorem k0_idx12_inb : ∀ (i : grid0.Coords) (v109 : IVec S16 32) (k0_hw3 : k0_chk3 i v109), ∀ (k0_h1 : k0_cond1 i = 1#1), ∀ a x, ((![v109] : Fin 1 → IVec S16 32) a x).toNat < S1024.size a := fun i v109 k0_hw3 k0_h1 => k0_hw3.2 k0_h1

def k0_chk4 (i : grid0.Coords) (v49 : IVec S16 32) : Prop :=
  (∀ (k0_h1 : k0_cond1 i = 1#1), ∀ a x, ((![v49] : Fin 1 → IVec S16 32) a x).toNat < S256.size a) ∧
  (∀ (k0_h1 : k0_cond1 i = 1#1), ∀ a x, ((![v49] : Fin 1 → IVec S16 32) a x).toNat < S256.size a)
theorem k0_idx13_inb : ∀ (i : grid0.Coords) (v49 : IVec S16 32) (k0_hw4 : k0_chk4 i v49), ∀ (k0_h1 : k0_cond1 i = 1#1), ∀ a x, ((![v49] : Fin 1 → IVec S16 32) a x).toNat < S256.size a := fun i v49 k0_hw4 k0_h1 => k0_hw4.1 k0_h1
theorem k0_idx14_inb : ∀ (i : grid0.Coords) (v49 : IVec S16 32) (k0_hw4 : k0_chk4 i v49), ∀ (k0_h1 : k0_cond1 i = 1#1), ∀ a x, ((![v49] : Fin 1 → IVec S16 32) a x).toNat < S256.size a := fun i v49 k0_hw4 k0_h1 => k0_hw4.2 k0_h1

def k0_chk1 (i : grid0.Coords) (v12 : IVec S16 32) : Prop :=
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a) ∧
  (∀ (k0_h1 : k0_cond1 i = 1#1), ∀ a x, ((![v12] : Fin 1 → IVec S16 32) a x).toNat < S16.size a)
theorem k0_idx1_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.1 k0_h1
theorem k0_idx2_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.1 k0_h1
theorem k0_idx3_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.1 k0_h1
theorem k0_idx4_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.1 k0_h1
theorem k0_idx5_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.1 k0_h1
theorem k0_idx6_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.1 k0_h1
theorem k0_idx7_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.1 k0_h1
theorem k0_idx8_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.1 k0_h1
theorem k0_idx15_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.1 k0_h1
theorem k0_idx16_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.1 k0_h1
theorem k0_idx17_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.1 k0_h1
theorem k0_idx18_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.2.1 k0_h1
theorem k0_idx19_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.2.2.1 k0_h1
theorem k0_idx20_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.2.2.2.1 k0_h1
theorem k0_idx21_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.2.2.2.2.1 k0_h1
theorem k0_idx22_inb : ∀ (i : grid0.Coords) (v12 : IVec S16 32) (k0_hw1 : k0_chk1 i v12), ∀ (k0_h1 : k0_cond1 i = 1#1), ∀ a x, ((![v12] : Fin 1 → IVec S16 32) a x).toNat < S16.size a := fun i v12 k0_hw1 k0_h1 => k0_hw1.2.2.2.2.2.2.2.2.2.2.2.2.2.2.2 k0_h1
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid2 : Pipeline.Grid := ⟨2, ![8, 8], ![false, false]⟩

abbrev pre2 : Pipeline.Prefetch sig := ⟨2, ![main_v22.idx, main_v21.idx], fun | 0 => main_v22.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 2 → Nat :=
  let c0 : Index := 0#32
  let arg0 : BitVec 32 := BitVec.ofNat 32 (i 0).val
  let v0 : Index := Scalar.indexCast arg0
  ![0, v0.toNat]
def k2_off3 (i : grid2.Coords) : Fin 2 → Nat :=
  let c1 : Index := 1#32
  let arg0 : BitVec 32 := BitVec.ofNat 32 (i 0).val
  let v2 : Index := Scalar.indexCast arg0
  ![1, v2.toNat]
def k2_cond1 (i : grid2.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

@[reducible] def k2_t1_loop (v3 : BitVec 32) : Scf.Loop 32 :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let c1_i32_10 : BitVec 32 := 1#32
  ⟨c0_i32_8, v18, c1_i32_10⟩

def k2_mult1 (v1 : BitVec 32) (v3 : BitVec 32) (k2_t1 : Fin (k2_t1_loop v3).trips) : BitVec 32 :=
  let c0_i32_8 : BitVec 32 := 0#32
  let c1_i32_10 : BitVec 32 := 1#32
  let arg11 : BitVec 32 := Scf.iv c0_i32_8 c1_i32_10 k2_t1
  let c64_i32 : BitVec 32 := 64#32
  let v21 : BitVec 32 := Scalar.muli arg11 c64_i32
  let v22 : BitVec 32 := Scalar.addi v1 v21
  v22
def k2_off4 (v1 : BitVec 32) (v3 : BitVec 32) (k2_t1 : Fin (k2_t1_loop v3).trips) : Fin 2 → Nat :=
  let c0_i32_8 : BitVec 32 := 0#32
  let c1_i32_10 : BitVec 32 := 1#32
  let arg11 : BitVec 32 := Scf.iv c0_i32_8 c1_i32_10 k2_t1
  let c64_i32 : BitVec 32 := 64#32
  let v21 : BitVec 32 := Scalar.muli arg11 c64_i32
  let v22 : BitVec 32 := Scalar.addi v1 v21
  let v23 : BitVec 32 := v22
  let v24 : Index := Scalar.indexCast v23
  let c0_12 : Index := 0#32
  ![v24.toNat, 0]
def k2_mult2 (v3 : BitVec 32) (k2_t1 : Fin (k2_t1_loop v3).trips) : BitVec 32 :=
  let c0_i32_8 : BitVec 32 := 0#32
  let c1_i32_10 : BitVec 32 := 1#32
  let arg11 : BitVec 32 := Scf.iv c0_i32_8 c1_i32_10 k2_t1
  let c64_i32_14 : BitVec 32 := 64#32
  let v32 : BitVec 32 := Scalar.muli arg11 c64_i32_14
  v32
def k2_off5 (i : grid2.Coords) (v3 : BitVec 32) (k2_t1 : Fin (k2_t1_loop v3).trips) : Fin 2 → Nat :=
  let c0_i32_8 : BitVec 32 := 0#32
  let c1_i32_10 : BitVec 32 := 1#32
  let arg11 : BitVec 32 := Scf.iv c0_i32_8 c1_i32_10 k2_t1
  let c64_i32_14 : BitVec 32 := 64#32
  let v32 : BitVec 32 := Scalar.muli arg11 c64_i32_14
  let v33 : BitVec 32 := v32
  let v35 : Index := Scalar.indexCast v33
  let arg1 : BitVec 32 := BitVec.ofNat 32 (i 1).val
  let c512_i32 : BitVec 32 := 512#32
  let v34 : BitVec 32 := Scalar.muli arg1 c512_i32
  let v36 : Index := Scalar.indexCast v34
  ![v35.toNat, v36.toNat]
@[reducible] def k2_t2_loop (v3 : BitVec 32) : Scf.Loop 32 :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let v15 : BitVec 32 := Scalar.addi c0_i32_8 v14
  let c1_i32_11 : BitVec 32 := 1#32
  ⟨v18, v15, c1_i32_11⟩
def k2_mult3 (v1 : BitVec 32) (v3 : BitVec 32) (k2_t2 : Fin (k2_t2_loop v3).trips) : BitVec 32 :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let c1_i32_11 : BitVec 32 := 1#32
  let arg11 : BitVec 32 := Scf.iv v18 c1_i32_11 k2_t2
  let c64_i32 : BitVec 32 := 64#32
  let v21 : BitVec 32 := Scalar.muli arg11 c64_i32
  let v22 : BitVec 32 := Scalar.addi v1 v21
  v22
def k2_off6 (v1 : BitVec 32) (v3 : BitVec 32) (k2_t2 : Fin (k2_t2_loop v3).trips) : Fin 2 → Nat :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let c1_i32_11 : BitVec 32 := 1#32
  let arg11 : BitVec 32 := Scf.iv v18 c1_i32_11 k2_t2
  let c64_i32 : BitVec 32 := 64#32
  let v21 : BitVec 32 := Scalar.muli arg11 c64_i32
  let v22 : BitVec 32 := Scalar.addi v1 v21
  let v23 : BitVec 32 := v22
  let v24 : Index := Scalar.indexCast v23
  let c0_12 : Index := 0#32
  ![v24.toNat, 0]
def k2_mult4 (v3 : BitVec 32) (k2_t2 : Fin (k2_t2_loop v3).trips) : BitVec 32 :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let c1_i32_11 : BitVec 32 := 1#32
  let arg11 : BitVec 32 := Scf.iv v18 c1_i32_11 k2_t2
  let c64_i32_14 : BitVec 32 := 64#32
  let v32 : BitVec 32 := Scalar.muli arg11 c64_i32_14
  v32
def k2_off7 (i : grid2.Coords) (v3 : BitVec 32) (k2_t2 : Fin (k2_t2_loop v3).trips) : Fin 2 → Nat :=
  let c0_i32_8 : BitVec 32 := 0#32
  let v14 : BitVec 32 := Scalar.subi v3 c0_i32_8
  let c1_i32 : BitVec 32 := 1#32
  let v16 : BitVec 32 := Scalar.divsi v14 c1_i32
  let v17 : BitVec 32 := Scalar.muli v16 c1_i32
  let v18 : BitVec 32 := Scalar.addi c0_i32_8 v17
  let c1_i32_11 : BitVec 32 := 1#32
  let arg11 : BitVec 32 := Scf.iv v18 c1_i32_11 k2_t2
  let c64_i32_14 : BitVec 32 := 64#32
  let v32 : BitVec 32 := Scalar.muli arg11 c64_i32_14
  let v33 : BitVec 32 := v32
  let v35 : Index := Scalar.indexCast v33
  let arg1 : BitVec 32 := BitVec.ofNat 32 (i 1).val
  let c512_i32 : BitVec 32 := 512#32
  let v34 : BitVec 32 := Scalar.muli arg1 c512_i32
  let v36 : Index := Scalar.indexCast v34
  ![v35.toNat, v36.toNat]
def k2_cond2 (i : grid2.Coords) : BitVec 1 :=
  let arg1 : BitVec 32 := BitVec.ofNat 32 (i 1).val
  let c4_i32_0 : BitVec 32 := 4#32
  let v7 : BitVec 1 := Scalar.cmpi .sge arg1 c4_i32_0
  let v8 : BitVec 32 := Scalar.extui v7
  let c0_i32_1 : BitVec 32 := 0#32
  let v9 : BitVec 1 := Scalar.cmpi .ne v8 c0_i32_1
  v9

@[reducible] def k2_t3_loop (v3 : BitVec 32) : Scf.Loop 32 :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_8 : BitVec 32 := 1#32
  ⟨c0_i32_6, v17, c1_i32_8⟩
def k2_mult5 (v1 : BitVec 32) (v3 : BitVec 32) (k2_t3 : Fin (k2_t3_loop v3).trips) : BitVec 32 :=
  let c0_i32_6 : BitVec 32 := 0#32
  let c1_i32_8 : BitVec 32 := 1#32
  let arg11 : BitVec 32 := Scf.iv c0_i32_6 c1_i32_8 k2_t3
  let c64_i32 : BitVec 32 := 64#32
  let v20 : BitVec 32 := Scalar.muli arg11 c64_i32
  let v21 : BitVec 32 := Scalar.addi v1 v20
  v21
def k2_mult6 (v3 : BitVec 32) (k2_t3 : Fin (k2_t3_loop v3).trips) : BitVec 32 :=
  let c0_i32_6 : BitVec 32 := 0#32
  let c1_i32_8 : BitVec 32 := 1#32
  let arg11 : BitVec 32 := Scf.iv c0_i32_6 c1_i32_8 k2_t3
  let c64_i32_10 : BitVec 32 := 64#32
  let v23 : BitVec 32 := Scalar.muli arg11 c64_i32_10
  v23
def k2_off8 (v3 : BitVec 32) (k2_t3 : Fin (k2_t3_loop v3).trips) : Fin 2 → Nat :=
  let c0_i32_6 : BitVec 32 := 0#32
  let c1_i32_8 : BitVec 32 := 1#32
  let arg11 : BitVec 32 := Scf.iv c0_i32_6 c1_i32_8 k2_t3
  let c64_i32_10 : BitVec 32 := 64#32
  let v23 : BitVec 32 := Scalar.muli arg11 c64_i32_10
  let v24 : BitVec 32 := v23
  let v25 : Index := Scalar.indexCast v24
  let c0_11 : Index := 0#32
  ![v25.toNat, 0]
def k2_off9 (v1 : BitVec 32) (v3 : BitVec 32) (k2_t3 : Fin (k2_t3_loop v3).trips) : Fin 2 → Nat :=
  let c0_i32_6 : BitVec 32 := 0#32
  let c1_i32_8 : BitVec 32 := 1#32
  let arg11 : BitVec 32 := Scf.iv c0_i32_6 c1_i32_8 k2_t3
  let c64_i32 : BitVec 32 := 64#32
  let v20 : BitVec 32 := Scalar.muli arg11 c64_i32
  let v21 : BitVec 32 := Scalar.addi v1 v20
  let v22 : BitVec 32 := v21
  let v28 : Index := Scalar.indexCast v22
  let c0_12 : Index := 0#32
  ![v28.toNat, 0]
def k2_off10 (i : grid2.Coords) (v1 : BitVec 32) (v3 : BitVec 32) (k2_t3 : Fin (k2_t3_loop v3).trips) : Fin 2 → Nat :=
  let c0_i32_6 : BitVec 32 := 0#32
  let c1_i32_8 : BitVec 32 := 1#32
  let arg11 : BitVec 32 := Scf.iv c0_i32_6 c1_i32_8 k2_t3
  let c64_i32 : BitVec 32 := 64#32
  let v20 : BitVec 32 := Scalar.muli arg11 c64_i32
  let v21 : BitVec 32 := Scalar.addi v1 v20
  let v22 : BitVec 32 := v21
  let v34 : Index := Scalar.indexCast v22
  let arg1 : BitVec 32 := BitVec.ofNat 32 (i 1).val
  let c4_i32_2 : BitVec 32 := 4#32
  let v10 : BitVec 32 := Scalar.subi arg1 c4_i32_2
  let c512_i32 : BitVec 32 := 512#32
  let v33 : BitVec 32 := Scalar.muli v10 c512_i32
  let v35 : Index := Scalar.indexCast v33
  ![v34.toNat, v35.toNat]
@[reducible] def k2_t4_loop (v3 : BitVec 32) : Scf.Loop 32 :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let v14 : BitVec 32 := Scalar.addi c0_i32_6 v13
  let c1_i32_9 : BitVec 32 := 1#32
  ⟨v17, v14, c1_i32_9⟩
def k2_mult7 (v1 : BitVec 32) (v3 : BitVec 32) (k2_t4 : Fin (k2_t4_loop v3).trips) : BitVec 32 :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_9 : BitVec 32 := 1#32
  let arg11 : BitVec 32 := Scf.iv v17 c1_i32_9 k2_t4
  let c64_i32 : BitVec 32 := 64#32
  let v20 : BitVec 32 := Scalar.muli arg11 c64_i32
  let v21 : BitVec 32 := Scalar.addi v1 v20
  v21
def k2_mult8 (v3 : BitVec 32) (k2_t4 : Fin (k2_t4_loop v3).trips) : BitVec 32 :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_9 : BitVec 32 := 1#32
  let arg11 : BitVec 32 := Scf.iv v17 c1_i32_9 k2_t4
  let c64_i32_10 : BitVec 32 := 64#32
  let v23 : BitVec 32 := Scalar.muli arg11 c64_i32_10
  v23
def k2_off11 (v3 : BitVec 32) (k2_t4 : Fin (k2_t4_loop v3).trips) : Fin 2 → Nat :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_9 : BitVec 32 := 1#32
  let arg11 : BitVec 32 := Scf.iv v17 c1_i32_9 k2_t4
  let c64_i32_10 : BitVec 32 := 64#32
  let v23 : BitVec 32 := Scalar.muli arg11 c64_i32_10
  let v24 : BitVec 32 := v23
  let v25 : Index := Scalar.indexCast v24
  let c0_11 : Index := 0#32
  ![v25.toNat, 0]
def k2_off12 (v1 : BitVec 32) (v3 : BitVec 32) (k2_t4 : Fin (k2_t4_loop v3).trips) : Fin 2 → Nat :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_9 : BitVec 32 := 1#32
  let arg11 : BitVec 32 := Scf.iv v17 c1_i32_9 k2_t4
  let c64_i32 : BitVec 32 := 64#32
  let v20 : BitVec 32 := Scalar.muli arg11 c64_i32
  let v21 : BitVec 32 := Scalar.addi v1 v20
  let v22 : BitVec 32 := v21
  let v28 : Index := Scalar.indexCast v22
  let c0_12 : Index := 0#32
  ![v28.toNat, 0]
def k2_off13 (i : grid2.Coords) (v1 : BitVec 32) (v3 : BitVec 32) (k2_t4 : Fin (k2_t4_loop v3).trips) : Fin 2 → Nat :=
  let c0_i32_6 : BitVec 32 := 0#32
  let v13 : BitVec 32 := Scalar.subi v3 c0_i32_6
  let c1_i32 : BitVec 32 := 1#32
  let v15 : BitVec 32 := Scalar.divsi v13 c1_i32
  let v16 : BitVec 32 := Scalar.muli v15 c1_i32
  let v17 : BitVec 32 := Scalar.addi c0_i32_6 v16
  let c1_i32_9 : BitVec 32 := 1#32
  let arg11 : BitVec 32 := Scf.iv v17 c1_i32_9 k2_t4
  let c64_i32 : BitVec 32 := 64#32
  let v20 : BitVec 32 := Scalar.muli arg11 c64_i32
  let v21 : BitVec 32 := Scalar.addi v1 v20
  let v22 : BitVec 32 := v21
  let v34 : Index := Scalar.indexCast v22
  let arg1 : BitVec 32 := BitVec.ofNat 32 (i 1).val
  let c4_i32_2 : BitVec 32 := 4#32
  let v10 : BitVec 32 := Scalar.subi arg1 c4_i32_2
  let c512_i32 : BitVec 32 := 512#32
  let v33 : BitVec 32 := Scalar.muli v10 c512_i32
  let v35 : Index := Scalar.indexCast v33
  ![v34.toNat, v35.toNat]

def k2_chk1 (i : grid2.Coords) (v1 : BitVec 32) (v3 : BitVec 32) : Prop :=
  (∀ (k2_h1 : k2_cond1 i = 1#1), (k2_t1_loop v3).OK) ∧
  (∀ k2_t1 : Fin (k2_t1_loop v3).trips, ∀ (k2_h1 : k2_cond1 i = 1#1), 64 ∣ (k2_mult1 v1 v3 k2_t1).toNat) ∧
  (∀ k2_t1 : Fin (k2_t1_loop v3).trips, ∀ (k2_h1 : k2_cond1 i = 1#1), ∀ a, (k2_off4 v1 v3 k2_t1) a + S64x2048.size a ≤ S1024x2048.size a) ∧
  (∀ k2_t1 : Fin (k2_t1_loop v3).trips, ∀ (k2_h1 : k2_cond1 i = 1#1), 64 ∣ (k2_mult2 v3 k2_t1).toNat) ∧
  (∀ k2_t1 : Fin (k2_t1_loop v3).trips, ∀ (k2_h1 : k2_cond1 i = 1#1), ∀ a, (k2_off5 i v3 k2_t1) a + S64x512.size a ≤ S256x2048.size a) ∧
  (∀ (k2_h1 : k2_cond1 i = 1#1), (k2_t2_loop v3).OK) ∧
  (∀ k2_t2 : Fin (k2_t2_loop v3).trips, ∀ (k2_h1 : k2_cond1 i = 1#1), 64 ∣ (k2_mult3 v1 v3 k2_t2).toNat) ∧
  (∀ k2_t2 : Fin (k2_t2_loop v3).trips, ∀ (k2_h1 : k2_cond1 i = 1#1), ∀ a, (k2_off6 v1 v3 k2_t2) a + S64x2048.size a ≤ S1024x2048.size a) ∧
  (∀ k2_t2 : Fin (k2_t2_loop v3).trips, ∀ (k2_h1 : k2_cond1 i = 1#1), 64 ∣ (k2_mult4 v3 k2_t2).toNat) ∧
  (∀ k2_t2 : Fin (k2_t2_loop v3).trips, ∀ (k2_h1 : k2_cond1 i = 1#1), ∀ a, (k2_off7 i v3 k2_t2) a + S64x512.size a ≤ S256x2048.size a) ∧
  (∀ (k2_h2 : k2_cond2 i = 1#1), (k2_t3_loop v3).OK) ∧
  (∀ k2_t3 : Fin (k2_t3_loop v3).trips, ∀ (k2_h2 : k2_cond2 i = 1#1), 64 ∣ (k2_mult5 v1 v3 k2_t3).toNat) ∧
  (∀ k2_t3 : Fin (k2_t3_loop v3).trips, ∀ (k2_h2 : k2_cond2 i = 1#1), 64 ∣ (k2_mult6 v3 k2_t3).toNat) ∧
  (∀ k2_t3 : Fin (k2_t3_loop v3).trips, ∀ (k2_h2 : k2_cond2 i = 1#1), ∀ a, (k2_off8 v3 k2_t3) a + S64x2048.size a ≤ S256x2048.size a) ∧
  (∀ k2_t3 : Fin (k2_t3_loop v3).trips, ∀ (k2_h2 : k2_cond2 i = 1#1), ∀ a, (k2_off9 v1 v3 k2_t3) a + S64x1.size a ≤ S1024x1.size a) ∧
  (∀ k2_t3 : Fin (k2_t3_loop v3).trips, ∀ (k2_h2 : k2_cond2 i = 1#1), ∀ a, (k2_off10 i v1 v3 k2_t3) a + S64x512.size a ≤ S1024x2048.size a) ∧
  (∀ (k2_h2 : k2_cond2 i = 1#1), (k2_t4_loop v3).OK) ∧
  (∀ k2_t4 : Fin (k2_t4_loop v3).trips, ∀ (k2_h2 : k2_cond2 i = 1#1), 64 ∣ (k2_mult7 v1 v3 k2_t4).toNat) ∧
  (∀ k2_t4 : Fin (k2_t4_loop v3).trips, ∀ (k2_h2 : k2_cond2 i = 1#1), 64 ∣ (k2_mult8 v3 k2_t4).toNat) ∧
  (∀ k2_t4 : Fin (k2_t4_loop v3).trips, ∀ (k2_h2 : k2_cond2 i = 1#1), ∀ a, (k2_off11 v3 k2_t4) a + S64x2048.size a ≤ S256x2048.size a) ∧
  (∀ k2_t4 : Fin (k2_t4_loop v3).trips, ∀ (k2_h2 : k2_cond2 i = 1#1), ∀ a, (k2_off12 v1 v3 k2_t4) a + S64x1.size a ≤ S1024x1.size a) ∧
  (∀ k2_t4 : Fin (k2_t4_loop v3).trips, ∀ (k2_h2 : k2_cond2 i = 1#1), ∀ a, (k2_off13 i v1 v3 k2_t4) a + S64x512.size a ≤ S1024x2048.size a)
theorem k2_t1_ok : ∀ (i : grid2.Coords) (v1 : BitVec 32) (v3 : BitVec 32) (k2_hw1 : k2_chk1 i v1 v3), ∀ (k2_h1 : k2_cond1 i = 1#1), (k2_t1_loop v3).OK := fun i v1 v3 k2_hw1 k2_h1 => k2_hw1.1 k2_h1
theorem k2_mult1_dvd : ∀ (i : grid2.Coords) (v1 : BitVec 32) (v3 : BitVec 32) (k2_hw1 : k2_chk1 i v1 v3) (k2_t1 : Fin (k2_t1_loop v3).trips), ∀ (k2_h1 : k2_cond1 i = 1#1), 64 ∣ (k2_mult1 v1 v3 k2_t1).toNat := fun i v1 v3 k2_hw1 k2_t1 k2_h1 => k2_hw1.2.1 k2_t1 k2_h1
theorem k2_off4_inb : ∀ (i : grid2.Coords) (v1 : BitVec 32) (v3 : BitVec 32) (k2_hw1 : k2_chk1 i v1 v3) (k2_t1 : Fin (k2_t1_loop v3).trips), ∀ (k2_h1 : k2_cond1 i = 1#1), ∀ a, (k2_off4 v1 v3 k2_t1) a + S64x2048.size a ≤ S1024x2048.size a := fun i v1 v3 k2_hw1 k2_t1 k2_h1 => k2_hw1.2.2.1 k2_t1 k2_h1
theorem k2_mult2_dvd : ∀ (i : grid2.Coords) (v1 : BitVec 32) (v3 : BitVec 32) (k2_hw1 : k2_chk1 i v1 v3) (k2_t1 : Fin (k2_t1_loop v3).trips), ∀ (k2_h1 : k2_cond1 i = 1#1), 64 ∣ (k2_mult2 v3 k2_t1).toNat := fun i v1 v3 k2_hw1 k2_t1 k2_h1 => k2_hw1.2.2.2.1 k2_t1 k2_h1
theorem k2_off5_inb : ∀ (i : grid2.Coords) (v1 : BitVec 32) (v3 : BitVec 32) (k2_hw1 : k2_chk1 i v1 v3) (k2_t1 : Fin (k2_t1_loop v3).trips), ∀ (k2_h1 : k2_cond1 i = 1#1), ∀ a, (k2_off5 i v3 k2_t1) a + S64x512.size a ≤ S256x2048.size a := fun i v1 v3 k2_hw1 k2_t1 k2_h1 => k2_hw1.2.2.2.2.1 k2_t1 k2_h1
theorem k2_t2_ok : ∀ (i : grid2.Coords) (v1 : BitVec 32) (v3 : BitVec 32) (k2_hw1 : k2_chk1 i v1 v3), ∀ (k2_h1 : k2_cond1 i = 1#1), (k2_t2_loop v3).OK := fun i v1 v3 k2_hw1 k2_h1 => k2_hw1.2.2.2.2.2.1 k2_h1
theorem k2_mult3_dvd : ∀ (i : grid2.Coords) (v1 : BitVec 32) (v3 : BitVec 32) (k2_hw1 : k2_chk1 i v1 v3) (k2_t2 : Fin (k2_t2_loop v3).trips), ∀ (k2_h1 : k2_cond1 i = 1#1), 64 ∣ (k2_mult3 v1 v3 k2_t2).toNat := fun i v1 v3 k2_hw1 k2_t2 k2_h1 => k2_hw1.2.2.2.2.2.2.1 k2_t2 k2_h1
theorem k2_off6_inb : ∀ (i : grid2.Coords) (v1 : BitVec 32) (v3 : BitVec 32) (k2_hw1 : k2_chk1 i v1 v3) (k2_t2 : Fin (k2_t2_loop v3).trips), ∀ (k2_h1 : k2_cond1 i = 1#1), ∀ a, (k2_off6 v1 v3 k2_t2) a + S64x2048.size a ≤ S1024x2048.size a := fun i v1 v3 k2_hw1 k2_t2 k2_h1 => k2_hw1.2.2.2.2.2.2.2.1 k2_t2 k2_h1
theorem k2_mult4_dvd : ∀ (i : grid2.Coords) (v1 : BitVec 32) (v3 : BitVec 32) (k2_hw1 : k2_chk1 i v1 v3) (k2_t2 : Fin (k2_t2_loop v3).trips), ∀ (k2_h1 : k2_cond1 i = 1#1), 64 ∣ (k2_mult4 v3 k2_t2).toNat := fun i v1 v3 k2_hw1 k2_t2 k2_h1 => k2_hw1.2.2.2.2.2.2.2.2.1 k2_t2 k2_h1
theorem k2_off7_inb : ∀ (i : grid2.Coords) (v1 : BitVec 32) (v3 : BitVec 32) (k2_hw1 : k2_chk1 i v1 v3) (k2_t2 : Fin (k2_t2_loop v3).trips), ∀ (k2_h1 : k2_cond1 i = 1#1), ∀ a, (k2_off7 i v3 k2_t2) a + S64x512.size a ≤ S256x2048.size a := fun i v1 v3 k2_hw1 k2_t2 k2_h1 => k2_hw1.2.2.2.2.2.2.2.2.2.1 k2_t2 k2_h1
theorem k2_t3_ok : ∀ (i : grid2.Coords) (v1 : BitVec 32) (v3 : BitVec 32) (k2_hw1 : k2_chk1 i v1 v3), ∀ (k2_h2 : k2_cond2 i = 1#1), (k2_t3_loop v3).OK := fun i v1 v3 k2_hw1 k2_h2 => k2_hw1.2.2.2.2.2.2.2.2.2.2.1 k2_h2
theorem k2_mult5_dvd : ∀ (i : grid2.Coords) (v1 : BitVec 32) (v3 : BitVec 32) (k2_hw1 : k2_chk1 i v1 v3) (k2_t3 : Fin (k2_t3_loop v3).trips), ∀ (k2_h2 : k2_cond2 i = 1#1), 64 ∣ (k2_mult5 v1 v3 k2_t3).toNat := fun i v1 v3 k2_hw1 k2_t3 k2_h2 => k2_hw1.2.2.2.2.2.2.2.2.2.2.2.1 k2_t3 k2_h2
theorem k2_mult6_dvd : ∀ (i : grid2.Coords) (v1 : BitVec 32) (v3 : BitVec 32) (k2_hw1 : k2_chk1 i v1 v3) (k2_t3 : Fin (k2_t3_loop v3).trips), ∀ (k2_h2 : k2_cond2 i = 1#1), 64 ∣ (k2_mult6 v3 k2_t3).toNat := fun i v1 v3 k2_hw1 k2_t3 k2_h2 => k2_hw1.2.2.2.2.2.2.2.2.2.2.2.2.1 k2_t3 k2_h2
theorem k2_off8_inb : ∀ (i : grid2.Coords) (v1 : BitVec 32) (v3 : BitVec 32) (k2_hw1 : k2_chk1 i v1 v3) (k2_t3 : Fin (k2_t3_loop v3).trips), ∀ (k2_h2 : k2_cond2 i = 1#1), ∀ a, (k2_off8 v3 k2_t3) a + S64x2048.size a ≤ S256x2048.size a := fun i v1 v3 k2_hw1 k2_t3 k2_h2 => k2_hw1.2.2.2.2.2.2.2.2.2.2.2.2.2.1 k2_t3 k2_h2
theorem k2_off9_inb : ∀ (i : grid2.Coords) (v1 : BitVec 32) (v3 : BitVec 32) (k2_hw1 : k2_chk1 i v1 v3) (k2_t3 : Fin (k2_t3_loop v3).trips), ∀ (k2_h2 : k2_cond2 i = 1#1), ∀ a, (k2_off9 v1 v3 k2_t3) a + S64x1.size a ≤ S1024x1.size a := fun i v1 v3 k2_hw1 k2_t3 k2_h2 => k2_hw1.2.2.2.2.2.2.2.2.2.2.2.2.2.2.1 k2_t3 k2_h2
theorem k2_off10_inb : ∀ (i : grid2.Coords) (v1 : BitVec 32) (v3 : BitVec 32) (k2_hw1 : k2_chk1 i v1 v3) (k2_t3 : Fin (k2_t3_loop v3).trips), ∀ (k2_h2 : k2_cond2 i = 1#1), ∀ a, (k2_off10 i v1 v3 k2_t3) a + S64x512.size a ≤ S1024x2048.size a := fun i v1 v3 k2_hw1 k2_t3 k2_h2 => k2_hw1.2.2.2.2.2.2.2.2.2.2.2.2.2.2.2.1 k2_t3 k2_h2
theorem k2_t4_ok : ∀ (i : grid2.Coords) (v1 : BitVec 32) (v3 : BitVec 32) (k2_hw1 : k2_chk1 i v1 v3), ∀ (k2_h2 : k2_cond2 i = 1#1), (k2_t4_loop v3).OK := fun i v1 v3 k2_hw1 k2_h2 => k2_hw1.2.2.2.2.2.2.2.2.2.2.2.2.2.2.2.2.1 k2_h2
theorem k2_mult7_dvd : ∀ (i : grid2.Coords) (v1 : BitVec 32) (v3 : BitVec 32) (k2_hw1 : k2_chk1 i v1 v3) (k2_t4 : Fin (k2_t4_loop v3).trips), ∀ (k2_h2 : k2_cond2 i = 1#1), 64 ∣ (k2_mult7 v1 v3 k2_t4).toNat := fun i v1 v3 k2_hw1 k2_t4 k2_h2 => k2_hw1.2.2.2.2.2.2.2.2.2.2.2.2.2.2.2.2.2.1 k2_t4 k2_h2
theorem k2_mult8_dvd : ∀ (i : grid2.Coords) (v1 : BitVec 32) (v3 : BitVec 32) (k2_hw1 : k2_chk1 i v1 v3) (k2_t4 : Fin (k2_t4_loop v3).trips), ∀ (k2_h2 : k2_cond2 i = 1#1), 64 ∣ (k2_mult8 v3 k2_t4).toNat := fun i v1 v3 k2_hw1 k2_t4 k2_h2 => k2_hw1.2.2.2.2.2.2.2.2.2.2.2.2.2.2.2.2.2.2.1 k2_t4 k2_h2
theorem k2_off11_inb : ∀ (i : grid2.Coords) (v1 : BitVec 32) (v3 : BitVec 32) (k2_hw1 : k2_chk1 i v1 v3) (k2_t4 : Fin (k2_t4_loop v3).trips), ∀ (k2_h2 : k2_cond2 i = 1#1), ∀ a, (k2_off11 v3 k2_t4) a + S64x2048.size a ≤ S256x2048.size a := fun i v1 v3 k2_hw1 k2_t4 k2_h2 => k2_hw1.2.2.2.2.2.2.2.2.2.2.2.2.2.2.2.2.2.2.2.1 k2_t4 k2_h2
theorem k2_off12_inb : ∀ (i : grid2.Coords) (v1 : BitVec 32) (v3 : BitVec 32) (k2_hw1 : k2_chk1 i v1 v3) (k2_t4 : Fin (k2_t4_loop v3).trips), ∀ (k2_h2 : k2_cond2 i = 1#1), ∀ a, (k2_off12 v1 v3 k2_t4) a + S64x1.size a ≤ S1024x1.size a := fun i v1 v3 k2_hw1 k2_t4 k2_h2 => k2_hw1.2.2.2.2.2.2.2.2.2.2.2.2.2.2.2.2.2.2.2.2.1 k2_t4 k2_h2
theorem k2_off13_inb : ∀ (i : grid2.Coords) (v1 : BitVec 32) (v3 : BitVec 32) (k2_hw1 : k2_chk1 i v1 v3) (k2_t4 : Fin (k2_t4_loop v3).trips), ∀ (k2_h2 : k2_cond2 i = 1#1), ∀ a, (k2_off13 i v1 v3 k2_t4) a + S64x512.size a ≤ S1024x2048.size a := fun i v1 v3 k2_hw1 k2_t4 k2_h2 => k2_hw1.2.2.2.2.2.2.2.2.2.2.2.2.2.2.2.2.2.2.2.2.2 k2_t4 k2_h2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (k2_off1_inb : ∀ i : grid2.Coords, ∀ a, (k2_off1 i) a + S1.size a ≤ S8.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let c3_i32 : BitVec 32 := 3#32
  let v2 : BitVec 32 := Scalar.minsi arg1 c3_i32
  let c0_i32 : BitVec 32 := 0#32
  let c0_i32_0 : BitVec 32 := 0#32
  ![v1.toNat, v2.toNat, c0_i32.toNat]

def cc2_transform_2 (k2_off1_inb : ∀ i : grid2.Coords, ∀ a, (k2_off1 i) a + S1.size a ≤ S8.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let c3_i32 : BitVec 32 := 3#32
  let v2 : BitVec 32 := Scalar.minsi arg1 c3_i32
  let c4_i32 : BitVec 32 := 4#32
  let v3 : BitVec 32 := Scalar.addi c4_i32 v2
  let c0_i32 : BitVec 32 := 0#32
  let c0_i32_0 : BitVec 32 := 0#32
  ![v1.toNat, v3.toNat, c0_i32.toNat]

def cc2_transform_3 (k2_off1_inb : ∀ i : grid2.Coords, ∀ a, (k2_off1 i) a + S1.size a ≤ S8.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let c4_i32 : BitVec 32 := 4#32
  let v2 : BitVec 32 := Scalar.subi arg1 c4_i32
  let c0_i32 : BitVec 32 := 0#32
  let v3 : BitVec 32 := Scalar.maxsi v2 c0_i32
  let c0_i32_0 : BitVec 32 := 0#32
  let c0_i32_1 : BitVec 32 := 0#32
  ![v1.toNat, v3.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k3_t1_loop : Scf.Loop 32 :=
  let c0_i32_8 : BitVec 32 := 0#32
  let c128_i32_9 : BitVec 32 := 128#32
  let v7 : BitVec 32 := Scalar.addi c0_i32_8 c128_i32_9
  let c1_i32 : BitVec 32 := 1#32
  ⟨c0_i32_8, v7, c1_i32⟩
def k3_off2 (k3_t1 : Fin k3_t1_loop.trips) (c0_i32_11 : BitVec 32) : Fin 2 → Nat :=
  let c0_i32_8 : BitVec 32 := 0#32
  let c1_i32 : BitVec 32 := 1#32
  let arg12 : BitVec 32 := Scf.iv c0_i32_8 c1_i32 k3_t1
  let c3_i32 : BitVec 32 := 3#32
  let v9 : BitVec 32 := Scalar.shrui arg12 c3_i32
  let v12 : BitVec 32 := Scalar.addi c0_i32_11 v9
  let v13 : Index := Scalar.indexCast v12
  let c7_i32 : BitVec 32 := 7#32
  let v10 : BitVec 32 := Scalar.andi arg12 c7_i32
  let c16_i32 : BitVec 32 := 16#32
  let v11 : BitVec 32 := Scalar.muli v10 c16_i32
  let v14 : Index := Scalar.indexCast v11
  ![v13.toNat, v14.toNat]
def k3_off3 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11_r2 : BitVec 32 := 0#32
  ![v2.toNat, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S256x2048 : Shape := ⟨2, ![256, 2048]⟩
abbrev S256x2 : Shape := ⟨2, ![256, 2]⟩
abbrev S8x4096x2048 : Shape := ⟨3, ![8, 4096, 2048]⟩
abbrev S8x2048x2048 : Shape := ⟨3, ![8, 2048, 2048]⟩
abbrev S256 : Shape := ⟨1, ![256]⟩
abbrev S256x1 : Shape := ⟨2, ![256, 1]⟩
abbrev S_ : Shape := ⟨0, ![]⟩
abbrev S256x8 : Shape := ⟨2, ![256, 8]⟩
abbrev S256x2x1 : Shape := ⟨3, ![256, 2, 1]⟩
abbrev S256x2x2 : Shape := ⟨3, ![256, 2, 2]⟩
abbrev S8x256 : Shape := ⟨2, ![8, 256]⟩
abbrev S8x256x1 : Shape := ⟨3, ![8, 256, 1]⟩
abbrev S32768x2048 : Shape := ⟨2, ![32768, 2048]⟩
abbrev S2048x32768 : Shape := ⟨2, ![2048, 32768]⟩
abbrev S256x32768 : Shape := ⟨2, ![256, 32768]⟩
abbrev S256x8x2x2048 : Shape := ⟨4, ![256, 8, 2, 2048]⟩
abbrev S256x8x1x2048 : Shape := ⟨4, ![256, 8, 1, 2048]⟩
abbrev S256x8x2048 : Shape := ⟨3, ![256, 8, 2048]⟩
abbrev S8x256x2048 : Shape := ⟨3, ![8, 256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2, .i32⟩
  | .hbm, ⟨2, _⟩ => ⟨S256x2, .f32⟩
  | .hbm, ⟨3, _⟩ => ⟨S8x4096x2048, .f32⟩
  | .hbm, ⟨4, _⟩ => ⟨S8x2048x2048, .f32⟩
  | .hbm, ⟨5, _⟩ => ⟨S256, .i32⟩
  | .hbm, ⟨6, _⟩ => ⟨S256x1, .i32⟩
  | .hbm, ⟨7, _⟩ => ⟨S_, .f32⟩
  | .hbm, ⟨8, _⟩ => ⟨S256x8, .f32⟩
  | .hbm, ⟨9, _⟩ => ⟨S_, .i32⟩
  | .hbm, ⟨10, _⟩ => ⟨S256x1, .i32⟩
  | .hbm, ⟨11, _⟩ => ⟨S256x1, .i1⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x2, .i32⟩
  | .hbm, ⟨18, _⟩ => ⟨S256x2, .i1⟩
  | .hbm, ⟨19, _⟩ => ⟨S_, .i32⟩
  | .hbm, ⟨20, _⟩ => ⟨S256x2, .i32⟩
  | .hbm, ⟨21, _⟩ => ⟨S256x2, .i32⟩
  | .hbm, ⟨22, _⟩ => ⟨S256x2, .i32⟩
  | .hbm, ⟨23, _⟩ => ⟨S256x2, .i32⟩
  | .hbm, ⟨24, _⟩ => ⟨S256x2x1, .i32⟩
  | .hbm, ⟨25, _⟩ => ⟨S256x2x1, .i32⟩
  | .hbm, ⟨26, _⟩ => ⟨S256x2x2, .i32⟩
  | .hbm, ⟨27, _⟩ => ⟨S256x8, .f32⟩
  | .hbm, ⟨28, _⟩ => ⟨S8x256, .f32⟩
  | .hbm, ⟨29, _⟩ => ⟨S8x256x1, .f32⟩
  | .hbm, ⟨30, _⟩ => ⟨S32768x2048, .f32⟩
  | .hbm, ⟨31, _⟩ => ⟨S2048x32768, .f32⟩
  | .hbm, ⟨32, _⟩ => ⟨S256x32768, .f32⟩
  | .hbm, ⟨33, _⟩ => ⟨S256x8x2x2048, .f32⟩
  | .hbm, ⟨34, _⟩ => ⟨S256x8x1x2048, .f32⟩
  | .hbm, ⟨35, _⟩ => ⟨S256x8x2048, .f32⟩
  | .hbm, ⟨36, _⟩ => ⟨S256x8x1x2048, .f32⟩
  | .hbm, ⟨37, _⟩ => ⟨S256x8x2048, .f32⟩
  | .hbm, ⟨38, _⟩ => ⟨S256x8x2048, .f32⟩
  | .hbm, ⟨39, _⟩ => ⟨S256x8x2048, .f32⟩
  | .hbm, ⟨40, _⟩ => ⟨S_, .f32⟩
  | .hbm, ⟨41, _⟩ => ⟨S256x8x2048, .f32⟩
  | .hbm, ⟨42, _⟩ => ⟨S256x8x2048, .f32⟩
  | .hbm, ⟨43, _⟩ => ⟨S_, .f32⟩
  | .hbm, ⟨44, _⟩ => ⟨S256x8x2048, .f32⟩
  | .hbm, ⟨45, _⟩ => ⟨S256x8x2048, .f32⟩
  | .hbm, ⟨46, _⟩ => ⟨S256x8x2048, .f32⟩
  | .hbm, ⟨47, _⟩ => ⟨S256x8x2048, .f32⟩
  | .hbm, ⟨48, _⟩ => ⟨S8x256x2048, .f32⟩
  | .hbm, ⟨49, _⟩ => ⟨S8x2048x2048, .f32⟩
  | .hbm, ⟨50, _⟩ => ⟨S8x256x2048, .f32⟩
  | .hbm, ⟨51, _⟩ => ⟨S8x256x2048, .f32⟩
  | .hbm, ⟨52, _⟩ => ⟨S8x256x2048, .f32⟩
  | .hbm, ⟨53, _⟩ => ⟨S_, .f32⟩
  | .hbm, ⟨54, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.Setup.lean ====
/-
  The program as the launch theorem sees it: its SparseCore calls, its body table, and the resource algebra the proof runs over —
  the handshakes' rounds, the staging cells' rounds, the transfers' counters.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Tactic

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 3 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores' layout. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun | 0 => rfl | 1 => rfl | 2 => rfl⟩

/-- The handshakes' algebra. -/
abbrev UH : Type := URounds (GSem nD τ sig) ℕ
/-- The three of them. -/
abbrev UU : Type := UH × (UR sig nD τ × Counters)

abbrev EH : Emb UH (MT nD τ sig (HIx 3) (Elt F) ℕ UU ℕ) := embL
/-- The staging cells' rounds are the middle component. -/
abbrev EP : Emb (UR sig nD τ) (MT nD τ sig (HIx 3) (Elt F) ℕ UU ℕ) := (Emb.inl : Emb (UR sig nD τ) (UR sig nD τ × Counters)).trans embR

end Cert.Proof

end
-- ==== Proof.MoeWords.lean ====
/-
  The integers of the expert kernel's body as numbers: for an expert block that starts at row `r` and has `n` sub-blocks of
  64 rows (`r + 64 n ≤ 1024`, `n ≤ 4`, `64 ∣ r`), the loops make `n` trips, the offsets of trip `k` are what they look like, and
  the body's check passes.
-/
module

public import proofs.«01_k».proof.Proof.Gen.KernelIdeal.Skeleton
public import Idealize.ShloMosaic.Lib.LoopRemainder
public import Mathlib.Tactic.IntervalCases
public import Mathlib.Tactic.FinCases

@[expose] public section

set_option maxRecDepth 4000

noncomputable section

namespace Cert.Proof.Moe

open Cert.KernelIdeal Cert.KernelIdeal.Gen
open Idealize.ShloMosaic

/-- The word of a number. -/
abbrev w32 (n : ℕ) : BitVec 32 := BitVec.ofNat 32 n

theorem trips1 {n : ℕ} (hn : n ≤ 4) : (k2_t1_loop (w32 n)).trips = n := by interval_cases n <;> decide
theorem trips3 {n : ℕ} (hn : n ≤ 4) : (k2_t3_loop (w32 n)).trips = n := by interval_cases n <;> decide

/-- A step into the block: `r + 64 k` as a word. -/
theorem step_toNat {r k : ℕ} (hr : r ≤ 1024) (hk : k ≤ 4) :
    (Scalar.addi (w32 r) (Scalar.muli (Scf.iv 0#32 1#32 k) 64#32)).toNat = r + 64 * k := by
  simp only [Scalar.addi, Scalar.muli, IntOp.addi, IntOp.muli, Scf.iv, w32, BitVec.toNat_add, BitVec.toNat_mul, BitVec.toNat_ofNat]
  omega

/-- The step alone. -/
theorem mul_toNat {k : ℕ} (hk : k ≤ 4) : (Scalar.muli (Scf.iv 0#32 1#32 k) 64#32).toNat = 64 * k := by
  simp only [Scalar.muli, IntOp.muli, Scf.iv, BitVec.toNat_add, BitVec.toNat_mul, BitVec.toNat_ofNat]
  omega

/-- The column block of a point. -/
theorem col_toNat {s : ℕ} (hs : s ≤ 8) : (Scalar.muli (w32 s) 512#32).toNat = 512 * s := by
  simp only [Scalar.muli, IntOp.muli, w32, BitVec.toNat_mul, BitVec.toNat_ofNat]
  omega

/-- The column block of a point of the second half. -/
theorem col4_toNat {s : ℕ} (hs : s ≤ 8) (h4 : 4 ≤ s) : (Scalar.muli (Scalar.subi (w32 s) 4#32) 512#32).toNat = 512 * (s - 4) := by
  interval_cases s <;> decide

section
variable (i : grid2.Coords) {r n : ℕ} (v3 : BitVec 32)

theorem lt1 (i : grid2.Coords) : (i 1).val < 8 := (i 1).isLt
theorem lt0 (i : grid2.Coords) : (i 0).val < 8 := (i 0).isLt

theorem off2_eq : k2_off2 i = ![0, (i 0).val] := by
  have := lt0 i
  unfold k2_off2; simp only [Scalar.indexCast, BitVec.toNat_ofNat]
  rw [Nat.mod_eq_of_lt (by omega)]
theorem off3_eq : k2_off3 i = ![1, (i 0).val] := by
  have := lt0 i
  unfold k2_off3; simp only [Scalar.indexCast, BitVec.toNat_ofNat]
  rw [Nat.mod_eq_of_lt (by omega)]
theorem cond1_iff : k2_cond1 i = 1#1 ↔ (i 1).val < 4 := by
  have := lt1 i
  unfold k2_cond1
  generalize (i 1).val = s at *
  interval_cases s <;> decide
theorem cond2_iff : k2_cond2 i = 1#1 ↔ 4 ≤ (i 1).val := by
  have := lt1 i
  unfold k2_cond2
  generalize (i 1).val = s at *
  interval_cases s <;> decide

variable {v3}

theorem off4_eq (hr : r ≤ 1024) (k : Fin (k2_t1_loop v3).trips) (hk : k.val ≤ 4) : k2_off4 (w32 r) v3 k = ![r + 64 * k.val, 0] := by
  unfold k2_off4; simp only [Scalar.indexCast]; rw [step_toNat hr hk]
theorem off5_eq (k : Fin (k2_t1_loop v3).trips) (hk : k.val ≤ 4) : k2_off5 i v3 k = ![64 * k.val, 512 * (i 1).val] := by
  have := lt1 i
  unfold k2_off5; simp only [Scalar.indexCast]; rw [mul_toNat hk, col_toNat (by omega)]
theorem off8_eq (k : Fin (k2_t3_loop v3).trips) (hk : k.val ≤ 4) : k2_off8 v3 k = ![64 * k.val, 0] := by
  unfold k2_off8; simp only [Scalar.indexCast]; rw [mul_toNat hk]
theorem off9_eq (hr : r ≤ 1024) (k : Fin (k2_t3_loop v3).trips) (hk : k.val ≤ 4) : k2_off9 (w32 r) v3 k = ![r + 64 * k.val, 0] := by
  unfold k2_off9; simp only [Scalar.indexCast]; rw [step_toNat hr hk]
theorem off10_eq (h2 : 4 ≤ (i 1).val) (hr : r ≤ 1024) (k : Fin (k2_t3_loop v3).trips) (hk : k.val ≤ 4) :
    k2_off10 i (w32 r) v3 k = ![r + 64 * k.val, 512 * ((i 1).val - 4)] := by
  have := lt1 i
  unfold k2_off10; simp only [Scalar.indexCast]; rw [step_toNat hr hk, col4_toNat (by omega) h2]

end

/-- The body's check passes for a block that fits. -/
theorem chk_ok (i : grid2.Coords) {r n : ℕ} (hn : n ≤ 4) (hr : r + 64 * n ≤ 1024) (h64 : 64 ∣ r) : k2_chk1 i (w32 r) (w32 n) := by
  have hi := lt1 i
  have hr' : r ≤ 1024 := by omega
  have k1 : ∀ k : Fin (k2_t1_loop (w32 n)).trips, k.val < n := fun k => lt_of_lt_of_eq k.isLt (trips1 hn)
  have k3 : ∀ k : Fin (k2_t3_loop (w32 n)).trips, k.val < n := fun k => lt_of_lt_of_eq k.isLt (trips3 hn)
  have ok1 : (k2_t1_loop (w32 n)).OK := by interval_cases n <;> decide
  have ok3 : (k2_t3_loop (w32 n)).OK := by interval_cases n <;> decide
  unfold k2_chk1
  refine ⟨fun _ => ok1, fun k _ => ?_, fun k _ a => ?_, fun k _ => ?_, fun k h a => ?_, fun _ => Scf.rem_ok _ _,
    fun k => (Scf.rem_no_trip _ _ k).elim, fun k => (Scf.rem_no_trip _ _ k).elim, fun k => (Scf.rem_no_trip _ _ k).elim,
    fun k => (Scf.rem_no_trip _ _ k).elim, fun _ => ok3, fun k _ => ?_, fun k _ => ?_, fun k _ a => ?_, fun k _ a => ?_, fun k h a => ?_,
    fun _ => Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim⟩
  · have := k1 k; unfold k2_mult1; rw [step_toNat hr' (by omega)]; omega
  · have := k1 k; rw [off4_eq hr' k (by omega)]
    match a with
    | ⟨0, _⟩ => show r + 64 * k.val + 64 ≤ 1024; omega
    | ⟨1, _⟩ => show 0 + 2048 ≤ 2048; omega
  · have := k1 k; unfold k2_mult2; rw [mul_toNat (by omega)]; omega
  · have := k1 k; rw [off5_eq i k (by omega)]; rw [cond1_iff] at h
    match a with
    | ⟨0, _⟩ => show 64 * k.val + 64 ≤ 256; omega
    | ⟨1, _⟩ => show 512 * (i 1).val + 512 ≤ 2048; omega
  · have := k3 k; unfold k2_mult5; rw [step_toNat hr' (by omega)]; omega
  · have := k3 k; unfold k2_mult6; rw [mul_toNat (by omega)]; omega
  · have := k3 k; rw [off8_eq k (by omega)]
    match a with
    | ⟨0, _⟩ => show 64 * k.val + 64 ≤ 256; omega
    | ⟨1, _⟩ => show 0 + 2048 ≤ 2048; omega
  · have := k3 k; rw [off9_eq hr' k (by omega)]
    match a with
    | ⟨0, _⟩ => show r + 64 * k.val + 64 ≤ 1024; omega
    | ⟨1, _⟩ => show 0 + 1 ≤ 1; omega
  · have := k3 k; rw [cond2_iff] at h; rw [off10_eq i h hr' k (by omega)]
    match a with
    | ⟨0, _⟩ => show r + 64 * k.val + 64 ≤ 1024; omega
    | ⟨1, _⟩ => show 512 * ((i 1).val - 4) + 512 ≤ 2048; omega

end Cert.Proof.Moe

end
-- ==== Proof.MoeLoops.lean ====
/-
  The two loops of the expert kernel's body, each with what it leaves. The first writes, 64 rows at a time, one column block of
  the hidden activations of the expert's rows; the second one column block of the expert's rows of the output. Everything is said
  at the level of 64-row tiles, for any reading of the floats.
-/
module

public import proofs.«01_k».proof.Proof.MoeWords
public import Idealize.ShloMosaic.Lib.Tactic
public import Idealize.ShloMosaic.Lib.WritesUnit
public import Idealize.ShloMosaic.Lib.Pipeline.FrameBody
public import Idealize.ShloMosaic.Lib.MemrefSat

@[expose] public section

set_option maxRecDepth 4000

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The index of a matrix at two numbers (each taken modulo its size). -/
def ix2 {m n : ℕ} [NeZero m] [NeZero n] (p q : ℕ) : (⟨2, ![m, n]⟩ : Shape).Idx :=
  fun | ⟨0, _⟩ => Fin.ofNat m p | ⟨1, _⟩ => Fin.ofNat n q | ⟨_ + 2, h⟩ => absurd h (Nat.not_lt.2 (Nat.le_add_left _ _))

theorem ix2_zero {m n : ℕ} [NeZero m] [NeZero n] (p q : ℕ) (h : p < m) : ((ix2 (m := m) (n := n) p q) 0).val = p := Nat.mod_eq_of_lt h
theorem ix2_one {m n : ℕ} [NeZero m] [NeZero n] (p q : ℕ) (h : q < n) : ((ix2 (m := m) (n := n) p q) 1).val = q := Nat.mod_eq_of_lt h
theorem eq_ix2 {m n : ℕ} [NeZero m] [NeZero n] (y : (⟨2, ![m, n]⟩ : Shape).Idx) {p q : ℕ} (h0 : (y 0).val = p) (h1 : (y 1).val = q) :
    y = ix2 p q := by
  funext a
  match a with
  | ⟨0, _⟩ => exact Fin.ext (h0.trans (by subst h0; exact (Nat.mod_eq_of_lt (y 0).isLt).symm))
  | ⟨1, _⟩ => exact Fin.ext (h1.trans (by subst h1; exact (Nat.mod_eq_of_lt (y 1).isLt).symm))

/-- Sixty-four rows of a matrix from row `o`. -/
def rows {α : Type} {m n : ℕ} [NeZero m] [NeZero n] (X : (⟨2, ![m, n]⟩ : Shape).Idx → α) (o : ℕ) : (⟨2, ![64, n]⟩ : Shape).Idx → α :=
  fun x => X (ix2 (o + (x 0).val) (x 1).val)

/-- Reading 64 rows through a rectangle is `rows`. -/
theorem ld_rows {α : Type} {m n : ℕ} [NeZero m] [NeZero n] (X : (⟨2, ![m, n]⟩ : Shape).Idx → α) {off : Fin 2 → ℕ} {o : ℕ}
    (inb : ∀ a, off a + (⟨2, ![64, n]⟩ : Shape).size a ≤ (⟨2, ![m, n]⟩ : Shape).size a) (h : off = ![o, 0]) :
    (fun x => X ((Rect.unit (s := ⟨2, ![m, n]⟩) off (⟨2, ![64, n]⟩ : Shape).size inb).idx x)) = rows X o := by
  subst h
  funext x
  refine congrArg X (eq_ix2 _ ?_ ?_)
  · show o + 1 * (x 0).val = _; omega
  · show 0 + 1 * (x 1).val = _; omega

/-- The hidden activations with the first `n` tiles of column block `s` written: the tile of row `q` comes from the 64 rows of `X`
    that start at `r + 64 (q / 64)`. -/
def hPut (s r n : ℕ) (X : Vec F S1024x2048 .f32) (A B : Vec F S1x512x2048 .f32) (H : Vec F S256x2048 .f32) : Vec F S256x2048 .f32 :=
  fun y => if (512 * s ≤ (y 1).val ∧ (y 1).val < 512 * s + 512) ∧ (y 0).val < 64 * n then
      k2_pay3 A B (rows X (r + 64 * ((y 0).val / 64))) (ix2 ((y 0).val % 64) ((y 1).val - 512 * s))
    else H y

/-- The output with the first `n` tiles of the block at row `r`, column block `s`, written: the tile of row `r + q` is the product of
    the hidden rows from `64 (q / 64)` by the weights `W`, times the rows' own weights. -/
def oPut (s r n : ℕ) (W : Vec F S1x512x2048 .f32) (H : Vec F S256x2048 .f32) (ws : Vec F S1024x1 .f32) (Y : Vec F S1024x2048 .f32) :
    Vec F S1024x2048 .f32 :=
  fun y => if (512 * s ≤ (y 1).val ∧ (y 1).val < 512 * s + 512) ∧ r ≤ (y 0).val ∧ (y 0).val < r + 64 * n then
      k2_pay6 W (rows H (64 * (((y 0).val - r) / 64))) (rows ws (r + 64 * (((y 0).val - r) / 64)))
        (ix2 (((y 0).val - r) % 64) ((y 1).val - 512 * s))
    else Y y

theorem hPut_zero (s r : ℕ) (X : Vec F S1024x2048 .f32) (A B : Vec F S1x512x2048 .f32) (H : Vec F S256x2048 .f32) : hPut s r 0 X A B H = H := by
  funext y; unfold hPut; rw [if_neg (by omega)]
theorem oPut_zero (s r : ℕ) (W : Vec F S1x512x2048 .f32) (H : Vec F S256x2048 .f32) (ws : Vec F S1024x1 .f32) (Y : Vec F S1024x2048 .f32) :
    oPut s r 0 W H ws Y = Y := by
  funext y; unfold oPut; rw [if_neg (by omega)]

/-- Writing the next tile takes `hPut` at `k` tiles to `hPut` at `k + 1`. -/
theorem read_hPut_succ {sig : RefSig} {κ : Kind} {sp : Space} (v : View sig κ sp S256x2048 .f32) (f : v.ty.Contents (Elt F)) {s r k : ℕ}
    {X : Vec F S1024x2048 .f32} {A B : Vec F S1x512x2048 .f32} {H : Vec F S256x2048 .f32} {off : Fin 2 → ℕ}
    (inb : ∀ a, off a + S64x512.size a ≤ S256x2048.size a) (hf : v.read (Elt F) f = hPut s r k X A B H) (hoff : off = ![64 * k, 512 * s])
    (w : Vec F S64x512 .f32) (hw : w = k2_pay3 A B (rows X (r + 64 * k))) :
    v.read (Elt F) (v.writes (Elt F) f [⟨Rect.unit off S64x512.size inb, w⟩]) = hPut s r (k + 1) X A B H := by
  funext y
  have ha : ∀ y : S256x2048.Idx, (∀ a, (![64 * k, 512 * s] : Fin 2 → ℕ) a ≤ (y a).val ∧ (y a).val < (![64 * k, 512 * s] : Fin 2 → ℕ) a + S64x512.size a)
      ↔ (64 * k ≤ (y 0).val ∧ (y 0).val < 64 * k + 64) ∧ (512 * s ≤ (y 1).val ∧ (y 1).val < 512 * s + 512) := fun y => Fin.forall_fin_two
  rw [View.read_writes_cons_unit v f inb w [] y hoff]
  have hx : v.read (Elt F) (v.writes (Elt F) f []) y = hPut s r k X A B H y := congrFun hf y
  rw [hx]
  unfold hPut
  by_cases h : ∀ a, (![64 * k, 512 * s] : Fin 2 → ℕ) a ≤ (y a).val ∧ (y a).val < (![64 * k, 512 * s] : Fin 2 → ℕ) a + S64x512.size a
  · have h' := (ha y).mp h
    rw [dif_pos h, if_pos ⟨h'.2, by omega⟩, show (y 0).val / 64 = k by omega, hw]
    refine congrArg _ (eq_ix2 (m := 64) (n := 512) _ ?_ ?_)
    · show (y 0).val - 64 * k = _; omega
    · show (y 1).val - 512 * s = _; omega
  · rw [dif_neg h]
    rw [ha y] at h
    by_cases h1 : (512 * s ≤ (y 1).val ∧ (y 1).val < 512 * s + 512) ∧ (y 0).val < 64 * k
    · rw [if_pos h1, if_pos (by omega)]
    · rw [if_neg h1, if_neg (by omega)]

/-- Writing the next tile takes `oPut` at `k` tiles to `oPut` at `k + 1`. -/
theorem read_oPut_succ {sig : RefSig} {κ : Kind} {sp : Space} (v : View sig κ sp S1024x2048 .f32) (f : v.ty.Contents (Elt F)) {s r k : ℕ}
    {W : Vec F S1x512x2048 .f32} {H : Vec F S256x2048 .f32} {ws : Vec F S1024x1 .f32} {Y : Vec F S1024x2048 .f32} {off : Fin 2 → ℕ}
    (inb : ∀ a, off a + S64x512.size a ≤ S1024x2048.size a) (hf : v.read (Elt F) f = oPut s r k W H ws Y)
    (hoff : off = ![r + 64 * k, 512 * s]) (w : Vec F S64x512 .f32) (hw : w = k2_pay6 W (rows H (64 * k)) (rows ws (r + 64 * k))) :
    v.read (Elt F) (v.writes (Elt F) f [⟨Rect.unit off S64x512.size inb, w⟩]) = oPut s r (k + 1) W H ws Y := by
  funext y
  have ha : ∀ y : S1024x2048.Idx, (∀ a, (![r + 64 * k, 512 * s] : Fin 2 → ℕ) a ≤ (y a).val ∧ (y a).val < (![r + 64 * k, 512 * s] : Fin 2 → ℕ) a + S64x512.size a)
      ↔ (r + 64 * k ≤ (y 0).val ∧ (y 0).val < r + 64 * k + 64) ∧ (512 * s ≤ (y 1).val ∧ (y 1).val < 512 * s + 512) := fun y => Fin.forall_fin_two
  rw [View.read_writes_cons_unit v f inb w [] y hoff]
  have hx : v.read (Elt F) (v.writes (Elt F) f []) y = oPut s r k W H ws Y y := congrFun hf y
  rw [hx]
  unfold oPut
  by_cases h : ∀ a, (![r + 64 * k, 512 * s] : Fin 2 → ℕ) a ≤ (y a).val ∧ (y a).val < (![r + 64 * k, 512 * s] : Fin 2 → ℕ) a + S64x512.size a
  · have h' := (ha y).mp h
    rw [dif_pos h, if_pos ⟨h'.2, by omega⟩, show ((y 0).val - r) / 64 = k by omega, hw]
    refine congrArg _ (eq_ix2 (m := 64) (n := 512) _ ?_ ?_)
    · show (y 0).val - (r + 64 * k) = _; omega
    · show (y 1).val - 512 * s = _; omega
  · rw [dif_neg h]
    rw [ha y] at h
    by_cases h1 : (512 * s ≤ (y 1).val ∧ (y 1).val < 512 * s + 512) ∧ r ≤ (y 0).val ∧ (y 0).val < r + 64 * k
    · rw [if_pos h1, if_pos (by omega)]
    · rw [if_neg h1, if_neg (by omega)]

section
variable {Ix Name U Lvl : Type} [DecidableEq Ix] [DecidableEq Name] [URA U] [Preorder Lvl]
local notation "𝕄" => MT nD τ sig Ix (Elt F) Name U Lvl

/-- One trip of the first loop. -/
theorem trip1 (𝒱 : Variants) (c : Dev nD) (bd : Option 𝒱.V) (E : Set Name) (i : grid2.Coords) (a2 : Memref sig .tc .smem S8 .i32) (h2 : a2.IsWhole)
    (a3 : Memref sig .tc .smem S2x8 .i32) (h3 : a3.IsWhole) (a4 : Memref sig .tc .vmem S1024x2048 .f32) (h4 : a4.IsWhole)
    (a5 : Memref sig .tc .vmem S1x512x2048 .f32) (h5 : a5.IsWhole) (a6 : Memref sig .tc .vmem S1x512x2048 .f32) (h6 : a6.IsWhole)
    (a7 : Memref sig .tc .vmem S1x512x2048 .f32) (h7 : a7.IsWhole) (a8 : Memref sig .tc .vmem S1024x1 .f32) (h8 : a8.IsWhole)
    (a9 : Memref sig .tc .vmem S1024x2048 .f32) (h9 : a9.IsWhole) (a10 : Memref sig .tc .vmem S256x2048 .f32) (h10 : a10.IsWhole)
    {r n : ℕ} (hn : n ≤ 4) (hr : r ≤ 1024) (hw : k2_chk1 i (w32 r) (w32 n)) (hc : k2_cond1 i = 1#1) (A B : Vec F S1x512x2048 .f32)
    (X : Vec F S1024x2048 .f32) (H : Vec F S256x2048 .f32) (k : Fin (k2_t1_loop (w32 n)).trips) (acc : BitVec 32) :
    iprop((owns (c : Thread nD τ) a4 fullShare X : sProp 𝕄) ∗ owns (c : Thread nD τ) a10 fullShare (hPut (i 1).val r k.val X A B H))
      ⊢ wp frame (wpE (defs₀ (F := F)) 𝒱 (c : Thread nD τ) bd) E
          (k2_t1_body (F := F) i a2 h2 a3 h3 a4 h4 a5 h5 a6 h6 a7 h7 a8 h8 a9 h9 a10 h10 (w32 r) (w32 n) hw hc A B k acc)
          fun _ => iprop((owns (c : Thread nD τ) a4 fullShare X : sProp 𝕄) ∗ owns (c : Thread nD τ) a10 fullShare (hPut (i 1).val r (k.val + 1) X A B H)) := by
  have hk : k.val < n := lt_of_lt_of_eq k.isLt (trips1 hn)
  have hi := lt1 i
  have hc' := (cond1_iff i).mp hc
  unfold owns k2_t1_body
  iintro ⟨⟨%f4, %hf4, H4⟩, ⟨%f10, %hf10, H10⟩⟩
  sl_exec
  sl_step
  isplitl [H4]
  · iexists f4; isplitr
    · ipureintro; exact hf4
    · iexact H4
  iexists _; isplitr
  swap
  · iexact H10
  ipureintro
  refine read_hPut_succ a10.view f10 _ hf10 (off5_eq i k (by omega)) _ ?_
  rw [View.readAt_eq_ld, hf4]
  exact congrArg _ (ld_rows X _ (off4_eq hr k (by omega)))

/-- One trip of the second loop. -/
theorem trip3 (𝒱 : Variants) (c : Dev nD) (bd : Option 𝒱.V) (E : Set Name) (i : grid2.Coords) (a2 : Memref sig .tc .smem S8 .i32) (h2 : a2.IsWhole)
    (a3 : Memref sig .tc .smem S2x8 .i32) (h3 : a3.IsWhole) (a4 : Memref sig .tc .vmem S1024x2048 .f32) (h4 : a4.IsWhole)
    (a5 : Memref sig .tc .vmem S1x512x2048 .f32) (h5 : a5.IsWhole) (a6 : Memref sig .tc .vmem S1x512x2048 .f32) (h6 : a6.IsWhole)
    (a7 : Memref sig .tc .vmem S1x512x2048 .f32) (h7 : a7.IsWhole) (a8 : Memref sig .tc .vmem S1024x1 .f32) (h8 : a8.IsWhole)
    (a9 : Memref sig .tc .vmem S1024x2048 .f32) (h9 : a9.IsWhole) (a10 : Memref sig .tc .vmem S256x2048 .f32) (h10 : a10.IsWhole)
    {r n : ℕ} (hn : n ≤ 4) (hr : r ≤ 1024) (hw : k2_chk1 i (w32 r) (w32 n)) (hc : k2_cond2 i = 1#1) (W : Vec F S1x512x2048 .f32)
    (ws : Vec F S1024x1 .f32) (Y : Vec F S1024x2048 .f32) (H : Vec F S256x2048 .f32) (k : Fin (k2_t3_loop (w32 n)).trips) (acc : BitVec 32) :
    iprop((owns (c : Thread nD τ) a8 fullShare ws : sProp 𝕄) ∗ owns (c : Thread nD τ) a10 fullShare H
        ∗ owns (c : Thread nD τ) a9 fullShare (oPut ((i 1).val - 4) r k.val W H ws Y))
      ⊢ wp frame (wpE (defs₀ (F := F)) 𝒱 (c : Thread nD τ) bd) E
          (k2_t3_body (F := F) i a2 h2 a3 h3 a4 h4 a5 h5 a6 h6 a7 h7 a8 h8 a9 h9 a10 h10 (w32 r) (w32 n) hw hc W k acc)
          fun _ => iprop((owns (c : Thread nD τ) a8 fullShare ws : sProp 𝕄) ∗ owns (c : Thread nD τ) a10 fullShare H
            ∗ owns (c : Thread nD τ) a9 fullShare (oPut ((i 1).val - 4) r (k.val + 1) W H ws Y)) := by
  have hk : k.val < n := lt_of_lt_of_eq k.isLt (trips3 hn)
  have hi := lt1 i
  have hc' := (cond2_iff i).mp hc
  unfold owns k2_t3_body
  iintro ⟨⟨%f8, %hf8, H8⟩, ⟨%f10, %hf10, H10⟩, ⟨%f9, %hf9, H9⟩⟩
  sl_exec
  sl_step
  isplitl [H8]
  · iexists f8; isplitr
    · ipureintro; exact hf8
    · iexact H8
  isplitl [H10]
  · iexists f10; isplitr
    · ipureintro; exact hf10
    · iexact H10
  iexists _; isplitr
  swap
  · iexact H9
  ipureintro
  refine read_oPut_succ a9.view f9 _ hf9 (off10_eq i hc' hr k (by omega)) _ ?_
  rw [View.readAt_eq_ld, View.readAt_eq_ld, hf8, hf10]
  exact congrArg₂ _ (ld_rows H _ (off8_eq k (by omega))) (ld_rows ws _ (off9_eq hr k (by omega)))

end

end Cert.Proof.Moe

end
-- ==== Proof.MoeBody.lean ====
/-
  One point of the expert kernel's grid: what the body leaves in its scratch buffer and in its output block, for an expert whose
  rows start at `r` and fill `n` tiles of 64. In the first half of the points it writes a column block of the hidden activations,
  in the second half one of the output.
-/
module

public import proofs.«01_k».proof.Proof.MoeLoops

@[expose] public section

set_option maxRecDepth 4000

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix Name U Lvl : Type} [DecidableEq Ix] [DecidableEq Name] [URA U] [Preorder Lvl]
local notation "𝕄" => MT nD τ sig Ix (Elt F) Name U Lvl

/-- A word of a table read at one element. -/
theorem word_at {sig : RefSig} {κ : Kind} {sp : Space} (v : View sig κ sp S2x8 .i32) (f : v.ty.Contents (Elt F)) {T : Vec F S2x8 .i32}
    (hf : v.read (Elt F) f = T) {off : Fin 2 → ℕ} (inb : ∀ a, off a + S1x1.size a ≤ S2x8.size a) (hn : 0 < S1x1.numel) {p q : ℕ}
    (hoff : off = ![p, q]) : v.readAt (Elt F) (Rect.unit (s := S2x8) off S1x1.size inb).toLoadRect f (Shape.Idx.first hn) = T (ix2 p q) := by
  rw [View.readAt_eq_ld, hf]
  subst hoff
  refine congrArg T (eq_ix2 (m := 2) (n := 8) _ ?_ ?_)
  · show p + 1 * 0 = _; omega
  · show q + 1 * 0 = _; omega

/-- A whole weight block read is the block. -/
theorem ld_whole (X : Vec F S1x512x2048 .f32) (inb : ∀ a, (![0, 0, 0] : Fin 3 → ℕ) a + S1x512x2048.size a ≤ S1x512x2048.size a) :
    (fun x => X ((Rect.unit (s := S1x512x2048) ![0, 0, 0] S1x512x2048.size inb).idx x)) = X := by
  funext x
  refine congrArg X (funext fun a => Fin.ext ?_)
  fin_cases a
  · show 0 + 1 * (x 0).val = _; simp
  · show 0 + 1 * (x 1).val = _; simp
  · show 0 + 1 * (x 2).val = _; simp

/-- The body at a point of the first half. -/
theorem body_lo (𝒱 : Variants) (c : Dev nD) (bd : Option 𝒱.V) (E : Set Name) (i : grid2.Coords) (a2 : Memref sig .tc .smem S8 .i32) (h2 : a2.IsWhole)
    (a3 : Memref sig .tc .smem S2x8 .i32) (h3 : a3.IsWhole) (a4 : Memref sig .tc .vmem S1024x2048 .f32) (h4 : a4.IsWhole)
    (a5 : Memref sig .tc .vmem S1x512x2048 .f32) (h5 : a5.IsWhole) (a6 : Memref sig .tc .vmem S1x512x2048 .f32) (h6 : a6.IsWhole)
    (a7 : Memref sig .tc .vmem S1x512x2048 .f32) (h7 : a7.IsWhole) (a8 : Memref sig .tc .vmem S1024x1 .f32) (h8 : a8.IsWhole)
    (a9 : Memref sig .tc .vmem S1024x2048 .f32) (h9 : a9.IsWhole) (a10 : Memref sig .tc .vmem S256x2048 .f32) (h10 : a10.IsWhole)
    {r n : ℕ} (hn : n ≤ 4) (hr : r + 64 * n ≤ 1024) (h64 : 64 ∣ r) (hlo : (i 1).val < 4) {q3 : PosShare TreeShare} (T : Vec F S2x8 .i32)
    (hT0 : T (ix2 0 (i 0).val) = w32 r) (hT1 : T (ix2 1 (i 0).val) = w32 n) (A B : Vec F S1x512x2048 .f32)
    (X : Vec F S1024x2048 .f32) (H : Vec F S256x2048 .f32) :
    iprop((owns (c : Thread nD τ) a3 q3 T : sProp 𝕄) ∗ owns (c : Thread nD τ) a4 fullShare X ∗ owns (c : Thread nD τ) a5 fullShare A
        ∗ owns (c : Thread nD τ) a6 fullShare B ∗ owns (c : Thread nD τ) a10 fullShare H)
      ⊢ wp frame (wpE (defs₀ (F := F)) 𝒱 (c : Thread nD τ) bd) E
          (cc2__moe_body (F := F) i a2 h2 a3 h3 a4 h4 a5 h5 a6 h6 a7 h7 a8 h8 a9 h9 a10 h10)
          fun _ => iprop((owns (c : Thread nD τ) a3 q3 T : sProp 𝕄) ∗ owns (c : Thread nD τ) a4 fullShare X ∗ owns (c : Thread nD τ) a5 fullShare A
            ∗ owns (c : Thread nD τ) a6 fullShare B ∗ owns (c : Thread nD τ) a10 fullShare (hPut (i 1).val r n X A B H)) := by
  have hc1 := (cond1_iff i).mpr hlo
  have hc2 : ¬k2_cond2 i = 1#1 := fun h => by have := (cond2_iff i).mp h; omega
  have hchk := chk_ok i hn hr h64
  rw [cc2__moe_body_eq_skeleton]
  unfold owns cc2__moe_body_skel
  iintro ⟨⟨%f3, %hf3, H3⟩, ⟨%f4, %hf4, H4⟩, ⟨%f5, %hf5, H5⟩, ⟨%f6, %hf6, H6⟩, ⟨%f10, %hf10, H10⟩⟩
  sl_exec
  have e0 : body_lo.sl.r c i a3 f3 = w32 r := by
    unfold body_lo.sl.r
    exact (word_at a3.view f3 hf3 _ _ (off2_eq i)).trans hT0
  have e1 : body_lo.sl.r_1 c i a3 f3 = w32 n := by
    unfold body_lo.sl.r_1
    exact (word_at a3.view f3 hf3 _ _ (off3_eq i)).trans hT1
  rw [e0, e1]
  sl_exec
  have ld5 : View.readAt (Elt F) a5.view (Rect.unit (s := S1x512x2048) ![0, 0, 0] S1x512x2048.size (by decide)).toLoadRect f5 = A := by
    rw [View.readAt_eq_ld, hf5]; exact ld_whole A _
  have ld6 : View.readAt (Elt F) a6.view (Rect.unit (s := S1x512x2048) ![0, 0, 0] S1x512x2048.size (by decide)).toLoadRect f6 = B := by
    rw [View.readAt_eq_ld, hf6]; exact ld_whole B _
  rw [ld5, ld6]
  sl_for (fun k _ => iprop((owns (c : Thread nD τ) a4 fullShare X : sProp 𝕄) ∗ owns (c : Thread nD τ) a10 fullShare (hPut (i 1).val r k X A B H))) $$ [H4 H10]
  case region =>
    intro k acc
    exact trip1 𝒱 c bd E i a2 h2 a3 h3 a4 h4 a5 h5 a6 h6 a7 h7 a8 h8 a9 h9 a10 h10 hn (by omega) _ hc1 A B X H k acc
  · unfold owns
    rw [hPut_zero]
    isplitl [H4]
    · iexists f4; isplitr
      · ipureintro; exact hf4
      · iexact H4
    iexists f10; isplitr
    · ipureintro; exact hf10
    · iexact H10
  iintro %_ ⟨H4, H10⟩
  rw [show Scf.trips (k2_t1_loop (w32 n)).lb (k2_t1_loop (w32 n)).ub (k2_t1_loop (w32 n)).st = n from trips1 hn]
  sl_exec
  sl_step
  unfold owns
  isplitl [H3]
  · iexists f3; isplitr
    · ipureintro; exact hf3
    · iexact H3
  isplitl [H4]; · iexact H4
  isplitl [H5]
  · iexists f5; isplitr
    · ipureintro; exact hf5
    · iexact H5
  isplitl [H6]
  · iexists f6; isplitr
    · ipureintro; exact hf6
    · iexact H6
  iexact H10

/-- The body at a point of the second half. -/
theorem body_hi (𝒱 : Variants) (c : Dev nD) (bd : Option 𝒱.V) (E : Set Name) (i : grid2.Coords) (a2 : Memref sig .tc .smem S8 .i32) (h2 : a2.IsWhole)
    (a3 : Memref sig .tc .smem S2x8 .i32) (h3 : a3.IsWhole) (a4 : Memref sig .tc .vmem S1024x2048 .f32) (h4 : a4.IsWhole)
    (a5 : Memref sig .tc .vmem S1x512x2048 .f32) (h5 : a5.IsWhole) (a6 : Memref sig .tc .vmem S1x512x2048 .f32) (h6 : a6.IsWhole)
    (a7 : Memref sig .tc .vmem S1x512x2048 .f32) (h7 : a7.IsWhole) (a8 : Memref sig .tc .vmem S1024x1 .f32) (h8 : a8.IsWhole)
    (a9 : Memref sig .tc .vmem S1024x2048 .f32) (h9 : a9.IsWhole) (a10 : Memref sig .tc .vmem S256x2048 .f32) (h10 : a10.IsWhole)
    {r n : ℕ} (hn : n ≤ 4) (hr : r + 64 * n ≤ 1024) (h64 : 64 ∣ r) (hhi : 4 ≤ (i 1).val) {q3 : PosShare TreeShare} (T : Vec F S2x8 .i32)
    (hT0 : T (ix2 0 (i 0).val) = w32 r) (hT1 : T (ix2 1 (i 0).val) = w32 n) (W : Vec F S1x512x2048 .f32)
    (ws : Vec F S1024x1 .f32) (Y : Vec F S1024x2048 .f32) (H : Vec F S256x2048 .f32) :
    iprop((owns (c : Thread nD τ) a3 q3 T : sProp 𝕄) ∗ owns (c : Thread nD τ) a7 fullShare W ∗ owns (c : Thread nD τ) a8 fullShare ws
        ∗ owns (c : Thread nD τ) a9 fullShare Y ∗ owns (c : Thread nD τ) a10 fullShare H)
      ⊢ wp frame (wpE (defs₀ (F := F)) 𝒱 (c : Thread nD τ) bd) E
          (cc2__moe_body (F := F) i a2 h2 a3 h3 a4 h4 a5 h5 a6 h6 a7 h7 a8 h8 a9 h9 a10 h10)
          fun _ => iprop((owns (c : Thread nD τ) a3 q3 T : sProp 𝕄) ∗ owns (c : Thread nD τ) a7 fullShare W ∗ owns (c : Thread nD τ) a8 fullShare ws
            ∗ owns (c : Thread nD τ) a9 fullShare (oPut ((i 1).val - 4) r n W H ws Y) ∗ owns (c : Thread nD τ) a10 fullShare H) := by
  have hc1 : ¬k2_cond1 i = 1#1 := fun h => by have := (cond1_iff i).mp h; omega
  have hc2 := (cond2_iff i).mpr hhi
  have hchk := chk_ok i hn hr h64
  rw [cc2__moe_body_eq_skeleton]
  unfold owns cc2__moe_body_skel
  iintro ⟨⟨%f3, %hf3, H3⟩, ⟨%f7, %hf7, H7⟩, ⟨%f8, %hf8, H8⟩, ⟨%f9, %hf9, H9⟩, ⟨%f10, %hf10, H10⟩⟩
  sl_exec
  have e0 : body_hi.sl.r c i a3 f3 = w32 r := by
    unfold body_hi.sl.r
    exact (word_at a3.view f3 hf3 _ _ (off2_eq i)).trans hT0
  have e1 : body_hi.sl.r_1 c i a3 f3 = w32 n := by
    unfold body_hi.sl.r_1
    exact (word_at a3.view f3 hf3 _ _ (off3_eq i)).trans hT1
  rw [e0, e1]
  sl_exec
  have ld7 : View.readAt (Elt F) a7.view (Rect.unit (s := S1x512x2048) ![0, 0, 0] S1x512x2048.size (by decide)).toLoadRect f7 = W := by
    rw [View.readAt_eq_ld, hf7]; exact ld_whole W _
  rw [ld7]
  sl_for (fun k _ => iprop((owns (c : Thread nD τ) a8 fullShare ws : sProp 𝕄) ∗ owns (c : Thread nD τ) a10 fullShare H
    ∗ owns (c : Thread nD τ) a9 fullShare (oPut ((i 1).val - 4) r k W H ws Y))) $$ [H8 H10 H9]
  case region =>
    intro k acc
    exact trip3 𝒱 c bd E i a2 h2 a3 h3 a4 h4 a5 h5 a6 h6 a7 h7 a8 h8 a9 h9 a10 h10 hn (by omega) _ hc2 W ws Y H k acc
  · unfold owns
    rw [oPut_zero]
    isplitl [H8]
    · iexists f8; isplitr
      · ipureintro; exact hf8
      · iexact H8
    isplitl [H10]
    · iexists f10; isplitr
      · ipureintro; exact hf10
      · iexact H10
    iexists f9; isplitr
    · ipureintro; exact hf9
    · iexact H9
  iintro %_ ⟨H8, H10, H9⟩
  rw [show Scf.trips (k2_t3_loop (w32 n)).lb (k2_t3_loop (w32 n)).ub (k2_t3_loop (w32 n)).st = n from trips3 hn]
  sl_exec
  sl_step
  unfold owns
  isplitl [H3]
  · iexists f3; isplitr
    · ipureintro; exact hf3
    · iexact H3
  isplitl [H7]
  · iexists f7; isplitr
    · ipureintro; exact hf7
    · iexact H7
  isplitl [H8]; · iexact H8
  isplitl [H9]; · iexact H9
  iexact H10

end Cert.Proof.Moe

end
-- ==== Proof.MoeValue.lean ====
/-
  What the expert kernel computes, row by row, and how its steps build it up: the hidden rows of one expert column block by column
  block, then the expert's rows of the output column block by column block. Nothing here runs anything.
-/
module

public import proofs.«01_k».proof.Proof.MoeLoops

@[expose] public section

noncomputable section

namespace Cert.Proof.Moe

open Cert.KernelIdeal Cert.KernelIdeal.Gen
open Idealize.ShloMosaic

variable {F : FTy → Type} [FloatOps F]

/-- The index of a three-axis array at three numbers (each taken modulo its size). -/
def ix3 {l m n : ℕ} [NeZero l] [NeZero m] [NeZero n] (o p q : ℕ) : (⟨3, ![l, m, n]⟩ : Shape).Idx :=
  fun | ⟨0, _⟩ => Fin.ofNat l o | ⟨1, _⟩ => Fin.ofNat m p | ⟨2, _⟩ => Fin.ofNat n q
      | ⟨_ + 3, h⟩ => absurd h (Nat.not_lt.2 (Nat.le_add_left _ _))

theorem eq_ix3 {l m n : ℕ} [NeZero l] [NeZero m] [NeZero n] (y : (⟨3, ![l, m, n]⟩ : Shape).Idx) {o p q : ℕ}
    (h0 : (y 0).val = o) (h1 : (y 1).val = p) (h2 : (y 2).val = q) : y = ix3 o p q := by
  funext a
  match a with
  | ⟨0, _⟩ => exact Fin.ext (h0.trans (by subst h0; exact (Nat.mod_eq_of_lt (y 0).isLt).symm))
  | ⟨1, _⟩ => exact Fin.ext (h1.trans (by subst h1; exact (Nat.mod_eq_of_lt (y 1).isLt).symm))
  | ⟨2, _⟩ => exact Fin.ext (h2.trans (by subst h2; exact (Nat.mod_eq_of_lt (y 2).isLt).symm))

/-- Five hundred and twelve rows of one expert's matrix, from row `o`. -/
def blk {m : ℕ} [NeZero m] {α : Type} (V : (⟨3, ![8, m, 2048]⟩ : Shape).Idx → α) (e o : ℕ) : S1x512x2048.Idx → α :=
  fun y => V (ix3 e (o + (y 1).val) (y 2).val)

/-- The routing's numbers as the kernel reads them: `r e` the first row of expert `e`, `n e` its count of 64-row tiles, `fe e` the
    expert whose weights are fetched at its points. -/
structure Routes (r n fe : ℕ → ℕ) : Prop where
  n_le : ∀ e, e < 8 → n e ≤ 4
  dvd : ∀ e, e < 8 → 64 ∣ r e
  le : ∀ e, e < 8 → r e + 64 * n e ≤ 1024
  apart : ∀ e e', e < e' → e' < 8 → r e + 64 * n e ≤ r e'
  fe_lt : ∀ e, e < 8 → fe e < 8
  fe_eq : ∀ e, e < 8 → n e ≠ 0 → fe e = e

section
variable (r n : ℕ → ℕ) (X : Vec F S1024x2048 .f32) (W13 : Vec F S8x4096x2048 .f32) (W2 : Vec F S8x2048x2048 .f32) (ws : Vec F S1024x1 .f32)

/-- The hidden activations of expert `e`: entry (q, j) is computed from the 64 rows around row `r e + q` of the gathered rows. -/
def hidV (e : ℕ) : Vec F S256x2048 .f32 := fun y =>
  k2_pay3 (blk W13 e (512 * ((y 1).val / 512))) (blk W13 e (2048 + 512 * ((y 1).val / 512))) (rows X (r e + 64 * ((y 0).val / 64)))
    (ix2 ((y 0).val % 64) ((y 1).val % 512))

/-- The output of expert `e` at its `q`-th row. -/
def outV (e : ℕ) (q j : ℕ) : Elt F .f32 :=
  k2_pay6 (blk W2 e (512 * (j / 512))) (rows (hidV r X W13 e) (64 * (q / 64))) (rows ws (r e + 64 * (q / 64))) (ix2 (q % 64) (j % 512))

/-- The hidden activations are right in the first `s` column blocks of the expert's rows. -/
def HOK (e s : ℕ) (H : Vec F S256x2048 .f32) : Prop :=
  ∀ y : S256x2048.Idx, (y 0).val < 64 * n e → (y 1).val < 512 * s → H y = hidV r X W13 e y

/-- The output is right wherever the points below `t` wrote it. -/
def YOK (t : ℕ) (Y : Vec F S1024x2048 .f32) : Prop :=
  ∀ e, e < 8 → ∀ y : S1024x2048.Idx, r e ≤ (y 0).val → (y 0).val < r e + 64 * n e → 8 * e + 4 + (y 1).val / 512 < t →
    Y y = outV r X W13 W2 ws e ((y 0).val - r e) (y 1).val

variable {r n X W13 W2 ws}

theorem HOK_zero (e : ℕ) (H : Vec F S256x2048 .f32) : HOK r n X W13 e 0 H := fun y _ h => absurd h (by omega)

theorem YOK_zero (Y : Vec F S1024x2048 .f32) : YOK r n X W13 W2 ws 0 Y := fun e _ y _ _ h => absurd h (by omega)

/-- One column block more. -/
theorem HOK_succ {fe : ℕ → ℕ} (R : Routes r n fe) {e s : ℕ} (he : e < 8) {H : Vec F S256x2048 .f32} (hH : HOK r n X W13 e s H) :
    HOK r n X W13 e (s + 1) (hPut s (r e) (n e) X (blk W13 (fe e) (512 * s)) (blk W13 (fe e) (2048 + 512 * s)) H) := by
  intro y h0 h1
  unfold hPut
  have hf : fe e = e := R.fe_eq e he (by omega)
  by_cases h : 512 * s ≤ (y 1).val
  · rw [if_pos ⟨⟨h, by omega⟩, h0⟩, hf]
    unfold hidV
    rw [show (y 1).val / 512 = s by omega, show (y 1).val % 512 = (y 1).val - 512 * s by omega]
  · rw [if_neg (by omega)]
    exact hH y h0 (by omega)

/-- A step that writes nothing keeps the output right: no row is promised at its point. -/
theorem YOK_lo {e s : ℕ} (he : e < 8) (hs : s < 4) {Y : Vec F S1024x2048 .f32} (hY : YOK r n X W13 W2 ws (8 * e + s) Y) :
    YOK r n X W13 W2 ws (8 * e + s + 1) Y := by
  intro e' he' y h0 h1 h2
  refine hY e' he' y h0 h1 ?_
  have := (y 1).isLt
  change (y 1).val < 2048 at this
  omega

/-- One column block of an expert's rows more. -/
theorem YOK_hi {fe : ℕ → ℕ} (R : Routes r n fe) {e s : ℕ} (he : e < 8) (hs : s < 4) {H : Vec F S256x2048 .f32} (hH : HOK r n X W13 e 4 H)
    {Y : Vec F S1024x2048 .f32} (hY : YOK r n X W13 W2 ws (8 * e + 4 + s) Y) :
    YOK r n X W13 W2 ws (8 * e + 4 + s + 1) (oPut s (r e) (n e) (blk W2 (fe e) (512 * s)) H ws Y) := by
  intro e' he' y h0 h1 h2
  have hy := (y 1).isLt
  change (y 1).val < 2048 at hy
  unfold oPut
  by_cases h : (512 * s ≤ (y 1).val ∧ (y 1).val < 512 * s + 512) ∧ r e ≤ (y 0).val ∧ (y 0).val < r e + 64 * n e
  · rw [if_pos h]
    have hee : e' = e := by
      rcases Nat.lt_trichotomy e' e with hl | hl | hl
      · have := R.apart e' e hl he; omega
      · exact hl
      · have := R.apart e e' hl he'; omega
    subst hee
    have hf : fe e' = e' := R.fe_eq e' he (by omega)
    unfold outV
    rw [hf, show (y 1).val / 512 = s by omega, show (y 1).val % 512 = (y 1).val - 512 * s by omega]
    refine congrFun (congrArg (fun Z => k2_pay6 _ Z _) ?_) _
    funext x
    have hx := (x 0).isLt
    have hx1 := (x 1).isLt
    change (x 0).val < 64 at hx
    change (x 1).val < 2048 at hx1
    have hn := R.n_le e' he
    refine hH _ ?_ ?_
    · rw [ix2_zero _ _ (by omega)]; omega
    · rw [ix2_one _ _ hx1]; omega
  · rw [if_neg h]
    refine hY e' he' y h0 h1 ?_
    by_contra hlt
    apply h
    have he2 : e' = e := by omega
    subst he2
    exact ⟨by omega, h0, h1⟩

end

end Cert.Proof.Moe

end
-- ==== Proof.MoeRegion.lean ====
/-
  The prefetched call as a region of @main: the blocks its windows fetch through the tables, what its scratch and its output hold
  before every point, the body's step at every point, and what its output holds at the end.
-/
module

public import proofs.«01_k».proof.Proof.Setup
public import proofs.«01_k».proof.Proof.MoeBody
public import proofs.«01_k».proof.Proof.MoeValue

@[expose] public section

set_option maxRecDepth 4000

noncomputable section

namespace Cert.Proof.Moe

open Cert.KernelIdeal Cert.KernelIdeal.Gen
open Cert.Proof (K D 𝒱₀ 𝒱 UH UU EH EP)
open Idealize.ShloMosaic Idealize.ShloMosaic.TcCoe Idealize.ShloMosaic.Tactic
open Idealize.ShloMosaic.SparseCore.Cfg (HIx)
open Idealize.ShloMosaic.Pipeline (RDat prefHeld)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

/-- The index of a vector at a number (taken modulo its size). -/
def ix1 {m : ℕ} [NeZero m] (p : ℕ) : (⟨1, ![m]⟩ : Shape).Idx :=
  fun | ⟨0, _⟩ => Fin.ofNat m p | ⟨_ + 1, h⟩ => absurd h (Nat.not_lt.2 (Nat.le_add_left _ _))

theorem eq_ix1 {m : ℕ} [NeZero m] (y : (⟨1, ![m]⟩ : Shape).Idx) {p : ℕ} (h0 : (y 0).val = p) : y = ix1 p := by
  funext a
  match a with
  | ⟨0, _⟩ => exact Fin.ext (h0.trans (by subst h0; exact (Nat.mod_eq_of_lt (y 0).isLt).symm))

/-- The tables hold the routing's numbers. -/
structure Tab (pf : pre2.Contents (Elt F)) (r n fe : ℕ → ℕ) : Prop extends Routes r n fe where
  t0 : ∀ e, e < 8 → (pf 0 : Vec F S8 .i32) (ix1 e) = w32 (fe e)
  t1 : ∀ e, e < 8 → (pf 1 : Vec F S2x8 .i32) (ix2 0 e) = w32 (r e)
  t2 : ∀ e, e < 8 → (pf 1 : Vec F S2x8 .i32) (ix2 1 e) = w32 (n e)

section
variable {pf : pre2.Contents (Elt F)} {r n fe : ℕ → ℕ} (h : Tab pf r n fe)
include h

theorem fe_at (i : grid2.Coords) (inb) (h1) :
    (pf.at 0 (Rect.unit (s := S8) ![(Scalar.indexCast (BitVec.ofNat 32 (i 0).val) : Index).toNat] S1.size inb) h1 : BitVec 32)
      = w32 (fe (i 0).val) := by
  refine Eq.trans (congrArg (pf 0 : Vec F S8 .i32) (eq_ix1 _ ?_)) (h.t0 _ (lt0 i))
  have := lt0 i
  show (Scalar.indexCast (BitVec.ofNat 32 (i 0).val) : Index).toNat + 1 * 0 = _
  simp only [Scalar.indexCast, BitVec.toNat_ofNat]
  omega

theorem fe_nat (i : grid2.Coords) : (w32 (fe (i 0).val)).toNat = fe (i 0).val := by
  have := h.fe_lt _ (lt0 i)
  simp only [BitVec.toNat_ofNat]; omega

omit h in
theorem min3 {s : ℕ} (hs : s < 8) : (Scalar.minsi (w32 s) 3#32).toNat = min s 3 := by interval_cases s <;> decide
omit h in
theorem min34 {s : ℕ} (hs : s < 8) : (Scalar.addi 4#32 (Scalar.minsi (w32 s) 3#32)).toNat = 4 + min s 3 := by interval_cases s <;> decide
omit h in
theorem max4 {s : ℕ} (hs : s < 8) : (Scalar.maxsi (Scalar.subi (w32 s) 4#32) 0#32).toNat = s - 4 := by interval_cases s <;> decide

theorem tr1 (i : grid2.Coords) : cc2_transform_1 k2_off1_inb numel1_S1 pf i = ![fe (i 0).val, min (i 1).val 3, 0] := by
  funext a
  match a with
  | ⟨0, _⟩ => exact (congrArg BitVec.toNat (fe_at h i _ _)).trans (fe_nat h i)
  | ⟨1, _⟩ => exact min3 (lt1 i)
  | ⟨2, _⟩ => rfl
theorem tr2 (i : grid2.Coords) : cc2_transform_2 k2_off1_inb numel1_S1 pf i = ![fe (i 0).val, 4 + min (i 1).val 3, 0] := by
  funext a
  match a with
  | ⟨0, _⟩ => exact (congrArg BitVec.toNat (fe_at h i _ _)).trans (fe_nat h i)
  | ⟨1, _⟩ => exact min34 (lt1 i)
  | ⟨2, _⟩ => rfl
theorem tr3 (i : grid2.Coords) : cc2_transform_3 k2_off1_inb numel1_S1 pf i = ![fe (i 0).val, (i 1).val - 4, 0] := by
  funext a
  match a with
  | ⟨0, _⟩ => exact (congrArg BitVec.toNat (fe_at h i _ _)).trans (fe_nat h i)
  | ⟨1, _⟩ => exact max4 (lt1 i)
  | ⟨2, _⟩ => rfl

/-- The tables are admissible: every block they name lies inside its array. -/
theorem ok : ok2 pf := by
  refine ⟨fun i => ⟨?_, .inl rfl⟩, fun i => ⟨?_, .inl rfl⟩, fun i => ⟨?_, .inl rfl⟩⟩
  · rw [tr1 h i]
    have := h.fe_lt _ (lt0 i)
    intro a
    match a with
    | ⟨0, _⟩ => show (fe (i 0).val + 1) * 1 ≤ 8; omega
    | ⟨1, _⟩ => show (min (i 1).val 3 + 1) * 512 ≤ 4096; omega
    | ⟨2, _⟩ => show (0 + 1) * 2048 ≤ 2048; omega
  · rw [tr2 h i]
    have := h.fe_lt _ (lt0 i)
    intro a
    match a with
    | ⟨0, _⟩ => show (fe (i 0).val + 1) * 1 ≤ 8; omega
    | ⟨1, _⟩ => show (4 + min (i 1).val 3 + 1) * 512 ≤ 4096; omega
    | ⟨2, _⟩ => show (0 + 1) * 2048 ≤ 2048; omega
  · rw [tr3 h i]
    have := h.fe_lt _ (lt0 i)
    have := lt1 i
    intro a
    match a with
    | ⟨0, _⟩ => show (fe (i 0).val + 1) * 1 ≤ 8; omega
    | ⟨1, _⟩ => show ((i 1).val - 4 + 1) * 512 ≤ 2048; omega
    | ⟨2, _⟩ => show (0 + 1) * 2048 ≤ 2048; omega

end

/-- The coordinates of a grid point. -/
theorem coord0 (t : Fin grid2.N) : (grid2.coords t 0).val = t.val / 8 := by
  have ht : t.val < 64 := lt_of_lt_of_eq t.isLt N_2
  rw [Pipeline.Grid.coords_val t 0 (S := 8) (B := 8) (by decide) (by decide)]; omega
theorem coord1 (t : Fin grid2.N) : (grid2.coords t 1).val = t.val % 8 := by
  rw [Pipeline.Grid.coords_val t 1 (S := 1) (B := 8) (by decide) (by decide)]; omega

section Region

variable (a : (pcfg2 (F := F)).Adm) (r n fe : ℕ → ℕ) (X : Vec F S1024x2048 .f32) (W13 : Vec F S8x4096x2048 .f32) (W2 : Vec F S8x2048x2048 .f32)
  (ws : Vec F S1024x1 .f32) (Y0 : Vec F S1024x2048 .f32) (O : CellTallies nD τ sig (HIx 3)) (B : Set (SemLoc sig × HIx 3)) (c : Dev nD)

/-- The region's proof data: the inputs are left as found; the output is right wherever a point wrote it; the scratch holds the right
    hidden rows of the expert at hand, in the column blocks written so far. -/
def rdat : RDat τ (Elt F) (HIx 3) ℕ UU ℕ (cfg2 a) c where
  A := fun | 0 => X | 1 => W13 | 2 => W13 | 3 => W2 | 4 => ws | 5 => Y0 | ⟨_ + 6, h⟩ => absurd h (Nat.not_lt.2 (Nat.le_add_left _ _))
  after := fun
    | 0 => fun _ Y Z => Z = Y | 1 => fun _ Y Z => Z = Y | 2 => fun _ Y Z => Z = Y | 3 => fun _ Y Z => Z = Y | 4 => fun _ Y Z => Z = Y
    | 5 => fun t Y Z => YOK r n X W13 W2 ws t.val Y → YOK r n X W13 W2 ws (t.val + 1) Z
    | ⟨_ + 6, h⟩ => absurd h (Nat.not_lt.2 (Nat.le_add_left _ _))
  Φ t := iprop((∃ H : Vec F S256x2048 .f32, ⌜HOK r n X W13 (t.val / 8) (min (t.val % 8) 4) H⌝ ∗ owns (c : Thread nD τ) (Memref.whole cc2_scratch0) fullShare H)
    ∗ prefHeld pre2 c (fun _ => fullShare) a.1)
  q := fun | 1 => fullShare.left | 2 => fullShare.right | _ => fullShare
  owed _ := O
  recorded _ := B

variable {a r n fe}

theorem fetched0 (t : Fin grid2.N) (d) : (rdat a r n X W13 W2 ws Y0 O B c).fetched 0 t d = X := by
  funext (j : S1024x2048.Idx)
  refine (congrArg X (eq_ix2 (m := 1024) (n := 2048) _ (p := (j 0).val) (q := (j 1).val) ?_ ?_)).trans
    (congrArg X (eq_ix2 (m := 1024) (n := 2048) j rfl rfl)).symm
  · show 0 * 1024 + 1 * (j 0).val = _; omega
  · show 0 * 2048 + 1 * (j 1).val = _; omega

theorem fetched4 (t : Fin grid2.N) (d) : (rdat a r n X W13 W2 ws Y0 O B c).fetched 4 t d = ws := by
  funext (j : S1024x1.Idx)
  refine (congrArg ws (eq_ix2 (m := 1024) (n := 1) _ (p := (j 0).val) (q := (j 1).val) ?_ ?_)).trans
    (congrArg ws (eq_ix2 (m := 1024) (n := 1) j rfl rfl)).symm
  · show 0 * 1024 + 1 * (j 0).val = _; omega
  · show 0 * 1 + 1 * (j 1).val = _; omega

theorem fetched1 (h : Tab a.1 r n fe) (t : Fin grid2.N) (d) :
    (rdat a r n X W13 W2 ws Y0 O B c).fetched 1 t d = blk W13 (fe (grid2.coords t 0).val) (512 * min (grid2.coords t 1).val 3) := by
  funext (j : S1x512x2048.Idx)
  have h0 : (j 0).val < 1 := (j 0).isLt
  have e := tr1 h (grid2.coords t)
  refine congrArg W13 (eq_ix3 (l := 8) (m := 4096) (n := 2048) _ ?_ ?_ ?_)
  · show cc2_transform_1 k2_off1_inb numel1_S1 a.1 (grid2.coords t) 0 * 1 + 1 * (j 0).val = _
    rw [e]; show fe (grid2.coords t 0).val * 1 + 1 * (j 0).val = _; omega
  · show cc2_transform_1 k2_off1_inb numel1_S1 a.1 (grid2.coords t) 1 * 512 + 1 * (j 1).val = _
    rw [e]; show min (grid2.coords t 1).val 3 * 512 + 1 * (j 1).val = _; omega
  · show cc2_transform_1 k2_off1_inb numel1_S1 a.1 (grid2.coords t) 2 * 2048 + 1 * (j 2).val = _
    rw [e]; show 0 * 2048 + 1 * (j 2).val = _; omega

theorem fetched2 (h : Tab a.1 r n fe) (t : Fin grid2.N) (d) :
    (rdat a r n X W13 W2 ws Y0 O B c).fetched 2 t d = blk W13 (fe (grid2.coords t 0).val) (2048 + 512 * min (grid2.coords t 1).val 3) := by
  funext (j : S1x512x2048.Idx)
  have h0 : (j 0).val < 1 := (j 0).isLt
  have e := tr2 h (grid2.coords t)
  refine congrArg W13 (eq_ix3 (l := 8) (m := 4096) (n := 2048) _ ?_ ?_ ?_)
  · show cc2_transform_2 k2_off1_inb numel1_S1 a.1 (grid2.coords t) 0 * 1 + 1 * (j 0).val = _
    rw [e]; show fe (grid2.coords t 0).val * 1 + 1 * (j 0).val = _; omega
  · show cc2_transform_2 k2_off1_inb numel1_S1 a.1 (grid2.coords t) 1 * 512 + 1 * (j 1).val = _
    rw [e]; show (4 + min (grid2.coords t 1).val 3) * 512 + 1 * (j 1).val = _; omega
  · show cc2_transform_2 k2_off1_inb numel1_S1 a.1 (grid2.coords t) 2 * 2048 + 1 * (j 2).val = _
    rw [e]; show 0 * 2048 + 1 * (j 2).val = _; omega

theorem fetched3 (h : Tab a.1 r n fe) (t : Fin grid2.N) (d) :
    (rdat a r n X W13 W2 ws Y0 O B c).fetched 3 t d = blk W2 (fe (grid2.coords t 0).val) (512 * ((grid2.coords t 1).val - 4)) := by
  funext (j : S1x512x2048.Idx)
  have h0 : (j 0).val < 1 := (j 0).isLt
  have e := tr3 h (grid2.coords t)
  refine congrArg W2 (eq_ix3 (l := 8) (m := 2048) (n := 2048) _ ?_ ?_ ?_)
  · show cc2_transform_3 k2_off1_inb numel1_S1 a.1 (grid2.coords t) 0 * 1 + 1 * (j 0).val = _
    rw [e]; show fe (grid2.coords t 0).val * 1 + 1 * (j 0).val = _; omega
  · show cc2_transform_3 k2_off1_inb numel1_S1 a.1 (grid2.coords t) 1 * 512 + 1 * (j 1).val = _
    rw [e]; show ((grid2.coords t 1).val - 4) * 512 + 1 * (j 1).val = _; omega
  · show cc2_transform_3 k2_off1_inb numel1_S1 a.1 (grid2.coords t) 2 * 2048 + 1 * (j 2).val = _
    rw [e]; show 0 * 2048 + 1 * (j 2).val = _; omega

/-- What the body finds in an input's buffer. -/
theorem finds_in (w : Fin 6) (hw : ((win2 a w)).isOut = false) (hk : ∀ t Y Z, (rdat a r n X W13 W2 ws Y0 O B c).after w t Y Z → Z = Y)
    (t : Fin grid2.N) (Y) (hY : (rdat a r n X W13 W2 ws Y0 O B c).Finds w t Y) : ∃ d, Y = (rdat a r n X W13 W2 ws Y0 O B c).fetched w t d :=
  RDat.finds_in_eq_fetched (rdat a r n X W13 W2 ws Y0 O B c) w hw (fun _ _ _ => rfl) hk t Y hY

/-- The output is not fetched; and it is written back after the last point only. -/
theorem flush5 (t : Fin grid2.N) : (win2 a 5).flush t = true ↔ t.val % 64 = 63 :=
  Pipeline.Window.flush_const (win2 a 5) rfl (fun _ _ => rfl) N_2 rfl t

theorem fetch5 (t : Fin grid2.N) : (win2 a 5).fetch t = false := rfl

/-- What the body finds in the output's buffer is right wherever a point wrote it. -/
theorem finds5 (t : Fin grid2.N) (Y) (hY : (rdat a r n X W13 W2 ws Y0 O B c).Finds 5 t Y) : YOK r n X W13 W2 ws t.val Y := by
  obtain ⟨t, ht⟩ := t
  induction t generalizing Y with
  | zero => exact YOK_zero Y
  | succ t ih =>
    rcases (RDat.finds_of_pos _ (fetch5 _) (Nat.succ_ne_zero t) Y).mp hY with hf | ⟨Y', hY', hR⟩
    · have h64 : t + 1 < 64 := lt_of_lt_of_eq ht N_2
      have := (flush5 (a := a) ⟨t, by omega⟩).mp hf
      simp only at this; omega
    · exact hR (ih Y' _ hY')

end Region

end Cert.Proof.Moe

end
-- ==== Proof.SCTools.lean ====
/-
  What the SparseCore bodies share: taking a listed handful of cells or buffers out of those a subcore owns, and the rows an
  indirect copy lands read at an index.
-/
module

public import proofs.«01_k».proof.Proof.Setup
public import proofs.«01_k».proof.Proof.MoeRegion
public import Idealize.ShloMosaic.Lib.ShareLeaves

@[expose] public section

noncomputable section

namespace Cert.Proof

open Cert.KernelIdeal Cert.KernelIdeal.Gen
open Cert.Proof.Moe (ix1 eq_ix1 ix2 eq_ix2)
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- A listed part of a finite conjunction, member by member, and the rest. -/
theorem bigSep_pull {I M : Type} [URA M] [DecidableEq I] (s : Finset I) (l : List I) (hl : l.Nodup) (hs : ∀ i ∈ l, i ∈ s)
    (Φ : I → sProp M) : bigSep s Φ = iprop(bigSepL l Φ ∗ bigSep (s \ l.toFinset) Φ) := by
  rw [SparseCore.bigSep_sdiff_split' (t := l.toFinset) (fun i hi => hs i (List.mem_toFinset.mp hi)), bigSep_eq_bigSepL l hl]

/-- The subcore's listed cells at zero, and the rest of its own. -/
theorem ownSems0_pull (d : Dev nD) (c : Fin τ.nSC) (i : Fin τ.nSub) (l : List (SemLoc sig)) (hl : l.Nodup)
    (hs : ∀ s ∈ l, s.isScoped .scVector = true) :
    (ownSems0 (V d c i) : sProp 𝕄) = iprop(bigSepL (l.map fun s => ((V d c i, s) : GSem nD τ sig)) (fun g => semVal g 0)
      ∗ bigSep (ownCells (V d c i) \ (l.map fun s => ((V d c i, s) : GSem nD τ sig)).toFinset) fun g => semVal g 0) :=
  bigSep_pull _ _ (hl.map fun a b h => (Prod.ext_iff.mp h).2)
    (fun g hg => by
      obtain ⟨s, hsl, rfl⟩ := List.mem_map.mp hg
      exact mem_ownCells.mpr ⟨rfl, hs s hsl⟩) _

/-- The subcore's listed buffers at some contents, and the rest of its own. -/
theorem ownBufs_pull (d : Dev nD) (c : Fin τ.nSC) (i : Fin τ.nSub) (l : List (Ref sig .scVector)) (hl : l.Nodup)
    (hs : ∀ b ∈ l, ((Proc.scVector c i).devRef b : DevRef τ sig).owner = .proc (.scVector c i)) :
    (ownBufs (V d c i) : sProp 𝕄) = iprop(bigSepL (l.map fun b => ((Proc.scVector c i).devRef b : DevRef τ sig))
        (fun b => iprop(∃ f, ((d, b) : Loc nD τ sig) ↦{fullShare} f))
      ∗ bigSep (ownRefs (.scVector c i) \ (l.map fun b => ((Proc.scVector c i).devRef b : DevRef τ sig)).toFinset)
        fun b => iprop(∃ f, ((d, b) : Loc nD τ sig) ↦{fullShare} f)) :=
  bigSep_pull _ _ (hl.map fun a b h => Proc.devRef_injective _ h)
    (fun g hg => by
      obtain ⟨s, hsl, rfl⟩ := List.mem_map.mp hg
      exact SparseCore.Cfg.mem_ownRefs_of_owner (hs s hsl)) _

/-- What a row gather lands at row `x 0`, lane `x 1`: the row the list's entry names, at the same lane. -/
theorem gatherPayload_apply {e : EltTy} {z o : ℕ} [NeZero z] [NeZero o] (hg : (⟨2, ![z, 128]⟩ : Shape).Gathers 0 ⟨2, ![o, 128]⟩)
    (g : (⟨2, ![z, 128]⟩ : Shape).Idx → Elt F e) (idx : (⟨1, ![o]⟩ : Shape).Idx → Elt F .i32)
    (hn : (⟨1, ![o]⟩ : Shape).numel = (⟨2, ![o, 128]⟩ : Shape).size hg.axis')
    (h : ∀ x, (idx x).toNat < (⟨2, ![z, 128]⟩ : Shape).size hg.axis) (x : (⟨2, ![o, 128]⟩ : Shape).Idx) :
    SparseCore.gatherPayload (F := F) hg g (SparseCore.rows (F := F) idx hn h) x
      = g (ix2 (m := z) (n := 128) (idx (ix1 (m := o) (x 0).val)).toNat (x 1).val) := by
  unfold SparseCore.gatherPayload
  refine congrArg g (eq_ix2 _ ?_ ?_)
  · refine (congrArg Fin.val (Shape.Gathers.idx_axis hg _ x)).trans ?_
    show (idx _).toNat = _
    refine congrArg (fun j => (idx j).toNat) (eq_ix1 _ ?_)
    refine (Shape.rowMajor_val_one (d := ![o]) _).symm.trans ?_
    rw [Equiv.apply_symm_apply]
    rfl
  · exact Shape.Gathers.idx_of_ne hg _ x 1 Nat.one_ne_zero

/-- The number of a SparseCore's subcore among the thirty-two: subcores first, then SparseCores. -/
def wid (c : Fin 2) (i : Fin 16) : Fin (2 ^ 5) := ⟨2 * i.val + c.val, by omega⟩

end Cert.Proof

end
-- ==== Proof.Gather.lean ====
/-
  The dispatch gather on one vector subcore: it fetches its 512 words of the row list, gathers the rows of `x` they name, and
  writes them to its 512 rows of the output. Run at a symbolic subcore; the output's rows are left at the gathered values.
-/
module

public import proofs.«01_k».proof.Proof.SCTools

@[expose] public section

noncomputable section

namespace Cert.Proof.Gather

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

abbrev xV : Memref sig .scVector .hbm S4096x128 .f32 := Memref.whole main_v5_scv
abbrev iV : Memref sig .scVector .hbm S16384 .i32 := Memref.whole main_v14_scv
abbrev oV : Memref sig .scVector .hbm S16384x128 .f32 := Memref.whole main_v15_scv
abbrev sV : Memref sig .scVector .vmem S512 .i32 := Memref.whole cc1_scratch0
abbrev rV : Memref sig .scVector .vmem S512x128 .f32 := Memref.whole cc1_scratch1

abbrev xLoc (d : Dev nD) : Loc nD τ sig := (SparseCore.T d).loc main_v5
abbrev iLoc (d : Dev nD) : Loc nD τ sig := (SparseCore.T d).loc main_v14
abbrev oLoc (d : Dev nD) : Loc nD τ sig := (SparseCore.T d).loc main_v15

/-- Subcore `w`'s rows of the output: 512 of them. -/
def oSet (d : Dev nD) (w : Fin (2 ^ 5)) : Finset (Idx (oLoc d)) :=
  (Finset.univ : Finset S16384x128.Idx).filter fun y => (y 0).val / 512 = w.val

/-- The gathered rows: row `y 0` is the row of `fx` that entry `y 0` of the list names. -/
def gat (fx : S4096x128.Idx → Elt F .f32) (fi : S16384.Idx → Elt F .i32) : S16384x128.Idx → Elt F .f32 :=
  fun y => fx (ix2 (m := 4096) (n := 128) (fi (ix1 (m := 16384) (y 0).val)).toNat (y 1).val)

variable (d : Dev nD) (L : grid1.Coords)

abbrev cV : Fin τ.nSC := (L 0).castLE hcore1
abbrev jV : Fin τ.nSub := (L 1).castLE hsub1
theorem bound_zero : grid1.bound 0 = 2 := rfl
theorem bound_one : grid1.bound 1 = 16 := rfl
abbrev wL : Fin (2 ^ 5) := wid (Fin.cast bound_zero (L 0)) (Fin.cast bound_one (L 1))

/-- A subcore's share of the two arrays it reads and its own rows of the output. -/
def go (w : Fin (2 ^ 5)) (fx : Buf (Elt F) (xLoc d)) (fi : Buf (Elt F) (iLoc d)) : sProp 𝕄 :=
  iprop((xLoc d ↦{ShareLeaves.leaf 5 fullShare w} fx) ∗ (iLoc d ↦{ShareLeaves.leaf 5 fullShare w} fi) ∗ ∃ fo, oLoc d ↦[oSet d w]{fullShare} fo)

abbrev iRowK : Memref sig .scVector .hbm S512 .i32 := (iV).slice (Rect.unit (s := S16384) (k1_off1 L) S512.size (k1_off1_inb L)) (fun _ => rfl)
abbrev oRowK : Memref sig .scVector .hbm S512x128 .f32 := (oV).slice (Rect.unit (s := S16384x128) (k1_off2 L) S512x128.size (k1_off2_inb L)) (fun _ => rfl)
abbrev xAllK : Memref sig .scVector .hbm S4096x128 .f32 := (xV).slice (Rect.unit (s := S4096x128) ![0, 0] S4096x128.size inb_S4096x128_S4096x128_0_0) (fun _ => rfl)

theorem set_oRowK : (oRowK L).view.set = oSet d (wL L) := by
  rw [show (oRowK L).view.set = (Rect.unit (s := S16384x128) (k1_off2 L) S512x128.size (k1_off2_inb L)).set by
    simp only [Memref.view_slice, Memref.view_whole, View.set_slice]; exact Finset.map_refl]
  ext y
  rw [Rect.mem_set_unit]
  simp only [oSet, Finset.mem_filter, Finset.mem_univ, true_and]
  have h1 : ((y : S16384x128.Idx) 1).val < 128 := (y 1).isLt
  have h0 : k1_off2 L 0 = 1024 * (L 1).val + 512 * (L 0).val := congrFun (k1_off2_eq L) 0
  have h0' : k1_off2 L 1 = 0 := congrFun (k1_off2_eq L) 1
  constructor
  · intro h
    have := h 0
    rw [h0] at this
    replace this : 1024 * (L 1).val + 512 * (L 0).val ≤ ((y : S16384x128.Idx) 0).val ∧ ((y : S16384x128.Idx) 0).val < 1024 * (L 1).val + 512 * (L 0).val + 512 := this
    show _ = 2 * (L 1).val + (L 0).val
    omega
  · intro h a
    replace h : ((y : S16384x128.Idx) 0).val / 512 = 2 * (L 1).val + (L 0).val := h
    match a with
    | 0 => rw [h0]; show _ ≤ ((y : S16384x128.Idx) 0).val ∧ ((y : S16384x128.Idx) 0).val < _ + 512; omega
    | 1 => rw [h0']; show _ ≤ ((y : S16384x128.Idx) 1).val ∧ ((y : S16384x128.Idx) 1).val < _ + 128; omega

/-- The fetched list at entry `k`. -/
theorem read_iRowK (fi : Buf (Elt F) (iLoc d)) (k : S512.Idx) :
    (iRowK L).view.read (Elt F) fi k = fi (ix1 (m := 16384) (1024 * (L 1).val + 512 * (L 0).val + (k 0).val)) := by
  refine ((View.read_apply _ _).trans (cast_eq _ _)).trans (congrArg fi (eq_ix1 _ ?_))
  show k1_off1 L 0 + 1 * (k 0).val = _
  rw [k1_off1_eq]; simp

theorem read_xAllK (fx : Buf (Elt F) (xLoc d)) : (xAllK).view.read (Elt F) fx = fx := by
  funext k
  refine ((View.read_apply _ _).trans (cast_eq _ _)).trans (congrArg fx (funext fun a => Fin.ext ?_))
  match a with
  | 0 => show 0 + 1 * (k 0).val = _; omega
  | 1 => show 0 + 1 * (k 1).val = _; omega

theorem inb (fi : Buf (Elt F) (iLoc d)) (hfi : ∀ j : S16384.Idx, ((fi : S16384.Idx → Elt F .i32) j).toNat < 4096) (fs : Buf (Elt F) ((V d (cV L) (jV L)).loc cc1_scratch0)) (pay : S512.Idx → Elt F .i32)
    (hpay : pay = (iRowK L).view.read (Elt F) fi) :
    ∀ x, ((sV).view.read (Elt F) (View.write (Elt F) (sV).view fs pay Finset.univ) x).toNat < S4096x128.size gathers_S4096x128_S512x128.axis := by
  subst hpay; intro x
  rw [View.write_whole_univ]
  simp only [Memref.view_whole, View.read_whole]
  rw [read_iRowK]
  exact hfi _

/-- What the write-out leaves on the subcore's rows. -/
theorem out_eq (fx : Buf (Elt F) (xLoc d)) (fi : Buf (Elt F) (iLoc d)) (fo : Buf (Elt F) (oLoc d)) (fs : Buf (Elt F) ((V d (cV L) (jV L)).loc cc1_scratch0)) (fr : Buf (Elt F) ((V d (cV L) (jV L)).loc cc1_scratch1))
    (hin) (pay2 : S512x128.Idx → Elt F .f32)
    (h2 : pay2 = (rV).view.read (Elt F) (View.write (Elt F) (rV).view fr (SparseCore.gatherPayload (F := F) gathers_S4096x128_S512x128
      ((xAllK).view.read (Elt F) fx) (SparseCore.rows (F := F) ((sV).view.read (Elt F) (View.write (Elt F) (sV).view fs ((iRowK L).view.read (Elt F) fi) Finset.univ)) rfl hin)) Finset.univ)) :
    ∀ y ∈ oSet d (wL L), ((oRowK L).view.writes (Elt F) fo [⟨Rect.whole S512x128, pay2⟩]) y = gat fx fi y := by
  subst h2
  intro y hy
  rw [← set_oRowK] at hy
  obtain ⟨x, -, rfl⟩ := Finset.mem_map.mp hy
  refine ((cast_eq _ _).symm.trans (View.read_apply (v := (oRowK L).view) _ x).symm).trans ((congrFun (View.read_writes_whole (oRowK L).view fo _) x).trans ?_)
  rw [View.write_whole_univ]
  simp only [Memref.view_whole, View.read_whole]
  refine ((gatherPayload_apply (z := 4096) (o := 512) _ _ _ _ _ x).trans ?_)
  rw [read_xAllK, View.write_whole_univ, read_iRowK]
  have e0 : (((oRowK L).view.emb x : S16384x128.Idx) 0).val = 1024 * (L 1).val + 512 * (L 0).val + (x 0).val := by
    show k1_off2 L 0 + 1 * (x 0).val = _
    rw [k1_off2_eq]; simp
  have e1 : (((oRowK L).view.emb x : S16384x128.Idx) 1).val = (x 1).val := by
    show k1_off2 L 1 + 1 * (x 1).val = _
    rw [k1_off2_eq]; simp
  unfold gat
  rw [e0, e1]
  refine congrArg fx (congrArg (fun j => ix2 (m := 4096) (n := 128) (fi (ix1 (m := 16384) j)).toNat (x 1).val) ?_)
  exact congrArg (_ + ·) (Nat.mod_eq_of_lt (x 0).isLt)

theorem sems : (ownSems0 (V d (cV L) (jV L)) : sProp 𝕄)
      = iprop((semVal ((V d (cV L) (jV L), .dma cc1_scratch2.sem) : GSem nD τ sig) 0 ∗ semVal ((V d (cV L) (jV L), .dma cc1_scoped0.sem) : GSem nD τ sig) 0
          ∗ semVal ((V d (cV L) (jV L), .dma cc1_scoped1.sem) : GSem nD τ sig) 0) ∗ bigSep (ownCells (V d (cV L) (jV L)) \ ([SemLoc.dma cc1_scratch2.sem, .dma cc1_scoped0.sem, .dma cc1_scoped1.sem].map fun s => ((V d (cV L) (jV L), s) : GSem nD τ sig)).toFinset) fun g => semVal g 0) :=
  ownSems0_pull d _ _ [SemLoc.dma cc1_scratch2.sem, .dma cc1_scoped0.sem, .dma cc1_scoped1.sem] (by decide) (by decide)

theorem bufs : (ownBufs (V d (cV L) (jV L)) : sProp 𝕄)
      = iprop(((∃ f, (V d (cV L) (jV L)).loc cc1_scratch0 ↦{fullShare} f) ∗ (∃ f, (V d (cV L) (jV L)).loc cc1_scratch1 ↦{fullShare} f))
        ∗ bigSep (ownRefs (.scVector (cV L) (jV L)) \ ([cc1_scratch0, cc1_scratch1].map fun b => ((Proc.scVector (cV L) (jV L)).devRef b : DevRef τ sig)).toFinset)
        fun b => iprop(∃ f, ((d, b) : Loc nD τ sig) ↦{fullShare} f)) :=
  ownBufs_pull d _ _ [cc1_scratch0, cc1_scratch1] (by decide) (fun b hb => by
    rcases List.mem_cons.mp hb with rfl | hb; · rfl
    rcases List.mem_cons.mp hb with rfl | hb; · rfl
    cases hb)

set_option maxHeartbeats 4000000 in
/-- The task on vector subcore `(L 0, L 1)` of device `d`. -/
theorem tile_body (fx : Buf (Elt F) (xLoc d)) (fi : Buf (Elt F) (iLoc d)) (hfi : ∀ j : S16384.Idx, ((fi : S16384.Idx → Elt F .i32) j).toNat < 4096) (O : CellTallies nD τ sig (HIx 3)) (W : Waits sig (HIx 3)) (hO : ∀ g, O g none = 0) :
    iprop(levAts (K (F := F)).L (K (F := F)).lev ∗ emp ∗ go d (wL L) fx fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather L xV (Memref.isWhole_whole _) iV (Memref.isWhole_whole _) oV (Memref.isWhole_whole _)
            sV (Memref.isWhole_whole _) rV (Memref.isWhole_whole _) cc1_scratch2 cc1_scoped0 cc1_scoped1)
          fun _ => iprop((oLoc d ↦[oSet d (wL L)]{fullShare} gat fx fi)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_eq_skeleton]; unfold cc1__gather_skel go
  rw [(K (F := F)).scopedBufs_V facts d (cV L) (jV L), SparseCore.Cfg.scopedSems0_V (Val := Elt F) d (cV L) (jV L), sems, bufs]
  iintro ⟨#Hlv, -, ⟨Hx, Hi, ⟨%fo, Ho⟩⟩, ⟨⟨⟨%fs, Hs⟩, ⟨%fr, Hr⟩⟩, Hbufs⟩, ⟨⟨HsemB, HsemA, HsemC⟩, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  ihave Hi2 := (pointsTo_split_subset (q := ShareLeaves.leaf 5 fullShare (wL L)) (f := fi) (S := Finset.univ) (Finset.subset_univ (iRowK L).view.set)).1 $$ Hi
  icases Hi2 with ⟨Hi, -⟩
  ihave Hxs := (pointsTo_split_subset (q := ShareLeaves.leaf 5 fullShare (wL L)) (f := fx) (S := Finset.univ) (Finset.subset_univ (xAllK).view.set)).1 $$ Hx
  icases Hxs with ⟨Hx, -⟩
  ihave Hi' := (Entails.of_eq (show (iLoc d ↦[(iRowK L).view.set]{ShareLeaves.leaf 5 fullShare (wL L)} fi : sProp 𝕄)
      = ((iRowK L).view.loc (V d (cV L) (jV L)) ↦[(iRowK L).view.set]{ShareLeaves.leaf 5 fullShare (wL L)} fi) from rfl)) $$ Hi
  ihave Hx' := (Entails.of_eq (show (xLoc d ↦[(xAllK).view.set]{ShareLeaves.leaf 5 fullShare (wL L)} fx : sProp 𝕄)
      = ((xAllK).view.loc (V d (cV L) (jV L)) ↦[(xAllK).view.set]{ShareLeaves.leaf 5 fullShare (wL L)} fx) from rfl)) $$ Hx
  ihave Ho' := (Entails.of_eq (show (oLoc d ↦[oSet d (wL L)]{fullShare} fo : sProp 𝕄)
      = ((oRowK L).view.loc (V d (cV L) (jV L)) ↦[(oRowK L).view.set]{fullShare} fo) by rw [set_oRowK d])) $$ Ho
  ihave Hs' := (Entails.of_eq (show ((V d (cV L) (jV L)).loc cc1_scratch0 ↦{fullShare} fs : sProp 𝕄)
      = ((sV).view.loc (V d (cV L) (jV L)) ↦{fullShare} fs) from rfl)) $$ Hs
  ihave Hr' := (Entails.of_eq (show ((V d (cV L) (jV L)).loc cc1_scratch1 ↦{fullShare} fr : sProp 𝕄)
      = ((rV).view.loc (V d (cV L) (jV L)) ↦{fullShare} fr) from rfl)) $$ Hr
  sl_exec
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L fi) Finset.univ : sProp 𝕄)
      = (sV).view.loc (V d (cV L) (jV L)) ↦[(sV).view.set]{fullShare} View.write (Elt F) (sV).view fs (tile_body.sl.dma0 d L fi) Finset.univ
      by rw [hss])) $$ Hs'
  have hN : ∀ h : S4096x128.Gathers 0 S512x128, ∑ j, ((rV).slice (S512x128.rowRect h.axis' j) (S512x128.stride_rowRect h.axis' j)).view.dmaCredit
      = (rV).view.dmaCredit := by decide
  iapply (SparseCore.wp_indirectGatherLocal countersEmb 𝒱₀ (V d (cV L) (jV L)) none (hg := gathers_S4096x128_S512x128) (default : HIx 3)
      (rV).view.dmaCredit (hN _) (by decide) (inb d L fi hfi fs _ rfl)) $$ [Hx' Hr'' Hs'' HsemB]
  · isplitl [Hx']; · iexact Hx'
    isplitl [Hr'']; · iexact Hr''
    isplitl [Hs'']; · iexact Hs''
    iexact HsemB
  iintro Hfl
  sl_exec
  iapply (Transfers.wp_waitLocalO countersEmb 𝒱₀ (V d (cV L) (jV L)) none (default : HIx 3) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Ho']
  · have hw := out_eq d L fx fi fo fs fr _ (tile_body.sl.dma0_1 d L fx fi hfi fs fr) rfl
    rw [← pointsTo_congr hw, ← set_oRowK d]
    iexact Ho'
  isplitl [Hs3 Hr3 Hbufs]
  · isplitl [Hs3 Hr3]
    · isplitl [Hs3]; · iexists _; iexact Hs3
      iexists _; iexact Hr3
    iexact Hbufs
  isplitl [HsemA HsemB HsemC Hsems]
  · isplitl [HsemA HsemB HsemC]
    · isplitl [HsemB]; · iexact HsemB
      isplitl [HsemA]; · iexact HsemA
      iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Gather

end
-- ==== Proof.CombineLoop.lean ====
/-
  One trip of the combine's adding loop: eight pieces of sixteen lanes, each the sum of the two gathered pieces.
-/
module

public import proofs.«01_k».proof.Proof.SCTools
public import Idealize.ShloMosaic.Lib.Pipeline.Value

@[expose] public section

noncomputable section

namespace Cert.Proof.Combine

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 3) (Elt F) ℕ UU ℕ

abbrev yV : Memref sig .scVector .hbm S16384x128 .f32 := Memref.whole main_v25_scv
abbrev iaV : Memref sig .scVector .hbm S4096 .i32 := Memref.whole main_v34_scv
abbrev ibV : Memref sig .scVector .hbm S4096 .i32 := Memref.whole main_v43_scv
abbrev oV : Memref sig .scVector .hbm S4096x128 .f32 := Memref.whole main_v44_scv
abbrev saV : Memref sig .scVector .vmem S128 .i32 := Memref.whole cc3_scratch0
abbrev sbV : Memref sig .scVector .vmem S128 .i32 := Memref.whole cc3_scratch1
abbrev raV : Memref sig .scVector .vmem S128x128 .f32 := Memref.whole cc3_scratch2
abbrev rbV : Memref sig .scVector .vmem S128x128 .f32 := Memref.whole cc3_scratch3

variable (d : Dev nD) (L : grid3.Coords)

abbrev cV : Fin τ.nSC := (L 0).castLE hcore3
abbrev jV : Fin τ.nSub := (L 1).castLE hsub3
abbrev thr : Thread nD τ := V d (cV L) (jV L)

/-- Where piece `r` of trip `j` lies. -/
theorem off2_eq : ∀ j : Fin k3_t1_loop.trips, ∀ r : Fin 8,
    k3_off2 j (BitVec.ofNat 32 (16 * r.val)) = ![16 * r.val + j.val / 8, 16 * (j.val % 8)] := by decide +kernel

instance closed0 (j : Fin k3_t1_loop.trips) : ClosedOff (k3_off2 j 0#32) := ⟨![0 + j.val / 8, 16 * (j.val % 8)], off2_eq j 0⟩
instance closed1 (j : Fin k3_t1_loop.trips) : ClosedOff (k3_off2 j 16#32) := ⟨![16 + j.val / 8, 16 * (j.val % 8)], off2_eq j 1⟩
instance closed2 (j : Fin k3_t1_loop.trips) : ClosedOff (k3_off2 j 32#32) := ⟨![32 + j.val / 8, 16 * (j.val % 8)], off2_eq j 2⟩
instance closed3 (j : Fin k3_t1_loop.trips) : ClosedOff (k3_off2 j 48#32) := ⟨![48 + j.val / 8, 16 * (j.val % 8)], off2_eq j 3⟩
instance closed4 (j : Fin k3_t1_loop.trips) : ClosedOff (k3_off2 j 64#32) := ⟨![64 + j.val / 8, 16 * (j.val % 8)], off2_eq j 4⟩
instance closed5 (j : Fin k3_t1_loop.trips) : ClosedOff (k3_off2 j 80#32) := ⟨![80 + j.val / 8, 16 * (j.val % 8)], off2_eq j 5⟩
instance closed6 (j : Fin k3_t1_loop.trips) : ClosedOff (k3_off2 j 96#32) := ⟨![96 + j.val / 8, 16 * (j.val % 8)], off2_eq j 6⟩
instance closed7 (j : Fin k3_t1_loop.trips) : ClosedOff (k3_off2 j 112#32) := ⟨![112 + j.val / 8, 16 * (j.val % 8)], off2_eq j 7⟩

/-- The trip that adds at `y`. -/
def tripOf (y : S128x128.Idx) : ℕ := 8 * ((y 0).val % 16) + (y 1).val / 16

/-- The first buffer after the trips before `j` and the first `r` pieces of trip `j`: sums there, the first rows elsewhere. -/
def st (A B : Vec F S128x128 .f32) (j r : ℕ) : Vec F S128x128 .f32 :=
  fun y => if tripOf y < j ∨ (tripOf y = j ∧ (y 0).val / 16 < r) then addf A B y else A y

theorem st_zero (A B : Vec F S128x128 .f32) : st A B 0 0 = A := by
  funext y; unfold st; rw [if_neg (by omega)]

theorem st_succ (A B : Vec F S128x128 .f32) (j : ℕ) : st A B j 8 = st A B (j + 1) 0 := by
  funext y; unfold st
  have : (y 0).val < 128 := (y 0).isLt
  by_cases h : tripOf y < j ∨ (tripOf y = j ∧ (y 0).val / 16 < 8)
  · rw [if_pos h, if_pos (by omega)]
  · rw [if_neg h, if_neg (by omega)]

theorem st_all (A B : Vec F S128x128 .f32) : st A B 128 0 = addf A B := by
  funext y; unfold st
  have : (y 1).val < 128 := (y 1).isLt
  rw [if_pos (by unfold tripOf; omega)]

/-- Writing piece `r` of trip `j`. -/
theorem step {sig : RefSig} {κ : Kind} {sp : Space} (v : View sig κ sp S128x128 .f32) (f : v.ty.Contents (Elt F)) (A B : Vec F S128x128 .f32)
    {j r : ℕ} (hr : r < 8) (hj : j < 128) (L : List (View.Piece (Elt F) S128x128 .f32)) {off : Fin 2 → ℕ} (inb : ∀ a, off a + S1x16.size a ≤ S128x128.size a)
    (hoff : off = ![16 * r + j / 8, 16 * (j % 8)]) (h : v.read (Elt F) (v.writes (Elt F) f L) = st A B j r) (w : Vec F S1x16 .f32)
    (hw : ∀ x, w x = addf A B (ix2 (m := 128) (n := 128) (16 * r + j / 8) (16 * (j % 8) + (x 1).val))) :
    v.read (Elt F) (v.writes (Elt F) f (⟨Rect.unit off S1x16.size inb, w⟩ :: L)) = st A B j (r + 1) := by
  funext y
  have ha : (∀ a, (![16 * r + j / 8, 16 * (j % 8)] : Fin 2 → ℕ) a ≤ (y a).val ∧ (y a).val < (![16 * r + j / 8, 16 * (j % 8)] : Fin 2 → ℕ) a + S1x16.size a)
      ↔ (16 * r + j / 8 ≤ (y 0).val ∧ (y 0).val < 16 * r + j / 8 + 1) ∧ (16 * (j % 8) ≤ (y 1).val ∧ (y 1).val < 16 * (j % 8) + 16) := Fin.forall_fin_two
  rw [View.read_writes_cons_unit v f inb w L y hoff, h]
  have y0 : (y 0).val < 128 := (y 0).isLt
  have y1 : (y 1).val < 128 := (y 1).isLt
  by_cases hh : ∀ a, (![16 * r + j / 8, 16 * (j % 8)] : Fin 2 → ℕ) a ≤ (y a).val ∧ (y a).val < (![16 * r + j / 8, 16 * (j % 8)] : Fin 2 → ℕ) a + S1x16.size a
  · have h' := ha.mp hh
    rw [dif_pos hh, hw]
    unfold st
    rw [if_pos (by unfold tripOf; omega)]
    refine congrArg _ (eq_ix2 _ ?_ ?_).symm
    · omega
    · show (y 1).val = 16 * (j % 8) + ((y 1).val - 16 * (j % 8)); omega
  · rw [dif_neg hh]
    rw [ha] at hh
    unfold st
    by_cases h1 : tripOf y < j ∨ (tripOf y = j ∧ (y 0).val / 16 < r)
    · rw [if_pos h1, if_pos (by omega)]
    · rw [if_neg h1, if_neg (by unfold tripOf at *; omega)]

/-- What a piece's sum is: the sum of the two gathered arrays there. -/
theorem pay (A B fa fb : Vec F S128x128 .f32) {j r : ℕ} (hr : r < 8) (hj : j < 128) (hfa : fa = st A B j 0) (hfb : fb = B) {off : Fin 2 → ℕ} (inb : ∀ a, off a + S1x16.size a ≤ S128x128.size a)
    (hoff : off = ![16 * r + j / 8, 16 * (j % 8)]) (x : S1x16.Idx) :
    addf (View.ld fa (Rect.unit (s := S128x128) off S1x16.size inb)) (View.ld fb (Rect.unit (s := S128x128) off S1x16.size inb)) x
      = addf A B (ix2 (m := 128) (n := 128) (16 * r + j / 8) (16 * (j % 8) + (x 1).val)) := by
  subst hoff hfb hfa
  have x0 : (x 0).val < 1 := (x 0).isLt
  have x1 : (x 1).val < 16 := (x 1).isLt
  have e : (Rect.unit (s := S128x128) ![16 * r + j / 8, 16 * (j % 8)] S1x16.size inb).idx x
      = ix2 (m := 128) (n := 128) (16 * r + j / 8) (16 * (j % 8) + (x 1).val) := by
    refine eq_ix2 _ ?_ ?_
    · show 16 * r + j / 8 + 1 * (x 0).val = _; omega
    · show 16 * (j % 8) + 1 * (x 1).val = _; omega
  show FloatOps.addf (st A fb j 0 ((Rect.unit (s := S128x128) ![16 * r + j / 8, 16 * (j % 8)] S1x16.size inb).idx x)) (fb ((Rect.unit (s := S128x128) ![16 * r + j / 8, 16 * (j % 8)] S1x16.size inb).idx x)) = FloatOps.addf _ _
  rw [e]
  refine congrArg₂ _ ?_ rfl
  unfold st
  have e0 : ((ix2 (m := 128) (n := 128) (16 * r + j / 8) (16 * (j % 8) + (x 1).val)) 0).val = 16 * r + j / 8 := Nat.mod_eq_of_lt (by omega)
  have e1 : ((ix2 (m := 128) (n := 128) (16 * r + j / 8) (16 * (j % 8) + (x 1).val)) 1).val = 16 * (j % 8) + (x 1).val := Nat.mod_eq_of_lt (by omega)
  rw [if_neg (by unfold tripOf; rw [e0, e1]; omega)]

/-- The cast there and back around a sum drops. -/
theorem cast_add (u v : Vec F S1x16 .f32) (h1 h2 : S1x16.ShapeCasts S16) (h : S16.ShapeCasts S1x16) :
    shapeCast S1x16 (addf (shapeCast S16 u h1) (shapeCast S16 v h2) : Vec F S16 .f32) h = addf u v := by
  show (addf (shapeCast S1x16 (shapeCast S16 u h1) h) (shapeCast S1x16 (shapeCast S16 v h2) h) : Vec F S1x16 .f32) = _
  rw [shapeCast_shapeCast, shapeCast_shapeCast]

set_option maxHeartbeats 4000000 in
theorem trip (fa : Buf (Elt F) ((thr d L).loc cc3_scratch2)) (fb : Buf (Elt F) ((thr d L).loc cc3_scratch3)) (j : Fin k3_t1_loop.trips) (x : BitVec 32) (A : Vec F S128x128 .f32) (hfa : fa = st A fb j.val 0) :
    iprop(((raV).view.loc (thr d L) ↦{fullShare} fa) ∗ ((rbV).view.loc (thr d L) ↦{fullShare} fb))
      ⊢ (wp frame (wpE (defs₀ (F := F)) 𝒱₀ (thr d L) none) Set.univ
          (k3_t1_body L yV (Memref.isWhole_whole _) iaV (Memref.isWhole_whole _) ibV (Memref.isWhole_whole _) oV (Memref.isWhole_whole _)
            saV (Memref.isWhole_whole _) sbV (Memref.isWhole_whole _) raV (Memref.isWhole_whole _) rbV (Memref.isWhole_whole _) cc3_scratch4 cc3_scratch5
            cc3_scoped0 cc3_scoped1 cc3_scoped2 j x)
          fun _ => iprop(((raV).view.loc (thr d L) ↦{fullShare} (st A fb (j.val + 1) 0 : Vec F S128x128 .f32)) ∗ ((rbV).view.loc (thr d L) ↦{fullShare} fb)) : sProp 𝕄) := by
  unfold k3_t1_body
  simp only [k3_part1_eq_skeleton, k3_part2_eq_skeleton]
  unfold k3_part1_skel k3_part2_skel
  iintro ⟨Ha0, Hb0⟩
  ihave Ha := (Entails.of_eq (show ((thr d L).loc cc3_scratch2 ↦{fullShare} fa : sProp 𝕄) = ((raV).view.loc (thr d L) ↦{fullShare} fa) from rfl)) $$ Ha0
  ihave Hb := (Entails.of_eq (show ((thr d L).loc cc3_scratch3 ↦{fullShare} fb : sProp 𝕄) = ((rbV).view.loc (thr d L) ↦{fullShare} fb) from rfl)) $$ Hb0
  sl_exec
  sl_step
  isplitl [Ha]
  · have hj : j.val < 128 := j.isLt
    have h0 : raV.view.read (Elt F) (raV.view.writes (Elt F) fa []) = st A fb j.val 0 := hfa
    have h1 := step raV.view fa A fb (r := 0) (by decide) hj _ (off := k3_off2 j 0#32) (k3_off2_inb j 0) (off2_eq j 0) h0
      (addf (View.readAt (Elt F) (raV).view (Rect.unit (s := S128x128) (k3_off2 j 0#32) S1x16.size (k3_off2_inb j 0)).toLoadRect fa) (View.readAt (Elt F) (rbV).view (Rect.unit (s := S128x128) (k3_off2 j 0#32) S1x16.size (k3_off2_inb j 0)).toLoadRect fb))
      (pay A fb fa fb (r := 0) (by decide) hj hfa rfl (k3_off2_inb j 0) (off2_eq j 0))
    have h2 := step raV.view fa A fb (r := 1) (by decide) hj _ (off := k3_off2 j 16#32) (k3_off2_inb j 1) (off2_eq j 1) h1
      (addf (trip.sl.v28_ld d L fa j) (View.readAt (Elt F) (rbV).view (Rect.unit (s := S128x128) (k3_off2 j 16#32) S1x16.size (k3_off2_inb j 1)).toLoadRect fb))
      (pay A fb fa fb (r := 1) (by decide) hj hfa rfl (k3_off2_inb j 1) (off2_eq j 1))
    have h3 := step raV.view fa A fb (r := 2) (by decide) hj _ (off := k3_off2 j 32#32) (k3_off2_inb j 2) (off2_eq j 2) h2
      (addf (trip.sl.v41_ld d L fa j) (View.readAt (Elt F) (rbV).view (Rect.unit (s := S128x128) (k3_off2 j 32#32) S1x16.size (k3_off2_inb j 2)).toLoadRect fb))
      (pay A fb fa fb (r := 2) (by decide) hj hfa rfl (k3_off2_inb j 2) (off2_eq j 2))
    have h4 := step raV.view fa A fb (r := 3) (by decide) hj _ (off := k3_off2 j 48#32) (k3_off2_inb j 3) (off2_eq j 3) h3
      (addf (trip.sl.v54_ld d L fa j) (View.readAt (Elt F) (rbV).view (Rect.unit (s := S128x128) (k3_off2 j 48#32) S1x16.size (k3_off2_inb j 3)).toLoadRect fb))
      (pay A fb fa fb (r := 3) (by decide) hj hfa rfl (k3_off2_inb j 3) (off2_eq j 3))
    have h5 := step raV.view fa A fb (r := 4) (by decide) hj _ (off := k3_off2 j 64#32) (k3_off2_inb j 4) (off2_eq j 4) h4
      (addf (trip.sl.v67_ld d L fa j) (View.readAt (Elt F) (rbV).view (Rect.unit (s := S128x128) (k3_off2 j 64#32) S1x16.size (k3_off2_inb j 4)).toLoadRect fb))
      (pay A fb fa fb (r := 4) (by decide) hj hfa rfl (k3_off2_inb j 4) (off2_eq j 4))
    have h6 := step raV.view fa A fb (r := 5) (by decide) hj _ (off := k3_off2 j 80#32) (k3_off2_inb j 5) (off2_eq j 5) h5
      (addf (trip.sl.v80_ld d L fa j) (View.readAt (Elt F) (rbV).view (Rect.unit (s := S128x128) (k3_off2 j 80#32) S1x16.size (k3_off2_inb j 5)).toLoadRect fb))
      (pay A fb fa fb (r := 5) (by decide) hj hfa rfl (k3_off2_inb j 5) (off2_eq j 5))
    have h7 := step raV.view fa A fb (r := 6) (by decide) hj _ (off := k3_off2 j 96#32) (k3_off2_inb j 6) (off2_eq j 6) h6
      (addf (trip.sl.v93_ld d L fa j) (View.readAt (Elt F) (rbV).view (Rect.unit (s := S128x128) (k3_off2 j 96#32) S1x16.size (k3_off2_inb j 6)).toLoadRect fb))
      (pay A fb fa fb (r := 6) (by decide) hj hfa rfl (k3_off2_inb j 6) (off2_eq j 6))
    have h8 := step raV.view fa A fb (r := 7) (by decide) hj _ (off := k3_off2 j 112#32) (k3_off2_inb j 7) (off2_eq j 7) h7
      (addf (trip.sl.v106_ld d L fa j) (View.readAt (Elt F) (rbV).view (Rect.unit (s := S128x128) (k3_off2 j 112#32) S1x16.size (k3_off2_inb j 7)).toLoadRect fb))
      (pay A fb fa fb (r := 7) (by decide) hj hfa rfl (k3_off2_inb j 7) (off2_eq j 7))
    rw [st_succ] at h8
    unfold k3_pay1 k3_pay2 k3_pay3 k3_pay4 k3_pay5 k3_pay6 k3_pay7 k3_pay8
    dsimp only
    simp only [cast_add]
    have h9 := (View.read_whole _ _).symm.trans h8
    iapply (Entails.of_eq (congrArg (fun g => ((raV).view.loc (thr d L) ↦{fullShare} g : sProp 𝕄)) h9))
    iexact Ha
  iexact Hb

end Cert.Proof.Combine

end
-- ==== Proof.Combine.lean ====
/-
  The combine on one vector subcore: it fetches its 128 words of the two row lists, gathers the rows of the expert outputs they
  name into two buffers, adds the second onto the first, and writes the sums to its 128 rows of the output.
-/
module

public import proofs.«01_k».proof.Proof.CombineLoop

@[expose] public section

noncomputable section

namespace Cert.Proof.Combine

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 3) (Elt F) ℕ UU ℕ

abbrev yLoc (d : Dev nD) : Loc nD τ sig := (SparseCore.T d).loc main_v25
abbrev iaLoc (d : Dev nD) : Loc nD τ sig := (SparseCore.T d).loc main_v34
abbrev ibLoc (d : Dev nD) : Loc nD τ sig := (SparseCore.T d).loc main_v43
abbrev oLoc (d : Dev nD) : Loc nD τ sig := (SparseCore.T d).loc main_v44

/-- Subcore `w`'s rows of the output: 128 of them. -/
def oSet (d : Dev nD) (w : Fin (2 ^ 5)) : Finset (Idx (oLoc d)) :=
  (Finset.univ : Finset S4096x128.Idx).filter fun y => (y 0).val / 128 = w.val

/-- The rows of `fy` one list names. -/
def pick (fy : S16384x128.Idx → Elt F .f32) (fi : S4096.Idx → Elt F .i32) : S4096x128.Idx → Elt F .f32 :=
  fun y => fy (ix2 (m := 16384) (n := 128) (fi (ix1 (m := 4096) (y 0).val)).toNat (y 1).val)

/-- The sums of the two rows the lists name. -/
def comb (fy : S16384x128.Idx → Elt F .f32) (fia fib : S4096.Idx → Elt F .i32) : S4096x128.Idx → Elt F .f32 :=
  addf (φ := .f32) (pick fy fia : Vec F S4096x128 .f32) (pick fy fib)

variable (d : Dev nD) (L : grid3.Coords)

theorem bound_zero : grid3.bound 0 = 2 := rfl
theorem bound_one : grid3.bound 1 = 16 := rfl
abbrev wL : Fin (2 ^ 5) := wid (Fin.cast bound_zero (L 0)) (Fin.cast bound_one (L 1))
/-- The share of the subcore. -/
abbrev qL (w : Fin (2 ^ 5)) : PosShare TreeShare := ShareLeaves.leaf 5 fullShare w

/-- A subcore's share of the three arrays it reads and its own rows of the output. -/
def go (w : Fin (2 ^ 5)) (fy : Buf (Elt F) (yLoc d)) (fia : Buf (Elt F) (iaLoc d)) (fib : Buf (Elt F) (ibLoc d)) : sProp 𝕄 :=
  iprop((yLoc d ↦{qL w} fy) ∗ (iaLoc d ↦{qL w} fia) ∗ (ibLoc d ↦{qL w} fib) ∗ ∃ fo, oLoc d ↦[oSet d w]{fullShare} fo)

abbrev iaRowK : Memref sig .scVector .hbm S128 .i32 := (iaV).slice (Rect.unit (s := S4096) (k3_off1 L) S128.size (k3_off1_inb L)) (fun _ => rfl)
abbrev ibRowK : Memref sig .scVector .hbm S128 .i32 := (ibV).slice (Rect.unit (s := S4096) (k3_off1 L) S128.size (k3_off1_inb L)) (fun _ => rfl)
abbrev oRowK : Memref sig .scVector .hbm S128x128 .f32 := (oV).slice (Rect.unit (s := S4096x128) (k3_off3 L) S128x128.size (k3_off3_inb L)) (fun _ => rfl)
abbrev yAllK : Memref sig .scVector .hbm S16384x128 .f32 := (yV).slice (Rect.unit (s := S16384x128) ![0, 0] S16384x128.size inb_S16384x128_S16384x128_0_0) (fun _ => rfl)

theorem set_oRowK : (oRowK L).view.set = oSet d (wL L) := by
  rw [show (oRowK L).view.set = (Rect.unit (s := S4096x128) (k3_off3 L) S128x128.size (k3_off3_inb L)).set by
    simp only [Memref.view_slice, Memref.view_whole, View.set_slice]; exact Finset.map_refl]
  ext y
  rw [Rect.mem_set_unit]
  simp only [oSet, Finset.mem_filter, Finset.mem_univ, true_and]
  have h1 : ((y : S4096x128.Idx) 1).val < 128 := (y 1).isLt
  have h0 : k3_off3 L 0 = 256 * (L 1).val + 128 * (L 0).val := congrFun (k3_off3_eq L) 0
  have h0' : k3_off3 L 1 = 0 := congrFun (k3_off3_eq L) 1
  constructor
  · intro h
    have := h 0
    rw [h0] at this
    replace this : 256 * (L 1).val + 128 * (L 0).val ≤ ((y : S4096x128.Idx) 0).val ∧ ((y : S4096x128.Idx) 0).val < 256 * (L 1).val + 128 * (L 0).val + 128 := this
    show _ = 2 * (L 1).val + (L 0).val
    omega
  · intro h a
    replace h : ((y : S4096x128.Idx) 0).val / 128 = 2 * (L 1).val + (L 0).val := h
    match a with
    | 0 => rw [h0]; show _ ≤ ((y : S4096x128.Idx) 0).val ∧ ((y : S4096x128.Idx) 0).val < _ + 128; omega
    | 1 => rw [h0']; show _ ≤ ((y : S4096x128.Idx) 1).val ∧ ((y : S4096x128.Idx) 1).val < _ + 128; omega

theorem read_yAllK (fy : Buf (Elt F) (yLoc d)) : (yAllK).view.read (Elt F) fy = fy := by
  funext k
  refine ((View.read_apply _ _).trans (cast_eq _ _)).trans (congrArg fy (funext fun a => Fin.ext ?_))
  match a with
  | 0 => show 0 + 1 * (k 0).val = _; omega
  | 1 => show 0 + 1 * (k 1).val = _; omega

/-- The fetched list at entry `k`. -/
theorem read_iaRowK (fi : Buf (Elt F) (iaLoc d)) (k : S128.Idx) :
    (iaRowK L).view.read (Elt F) fi k = fi (ix1 (m := 4096) (256 * (L 1).val + 128 * (L 0).val + (k 0).val)) := by
  refine ((View.read_apply _ _).trans (cast_eq _ _)).trans (congrArg fi (eq_ix1 _ ?_))
  show k3_off1 L 0 + 1 * (k 0).val = _
  rw [k3_off1_eq]; simp

theorem inb_ia (fi : Buf (Elt F) (iaLoc d)) (hfi : ∀ j : S4096.Idx, ((fi : S4096.Idx → Elt F .i32) j).toNat < 16384) (fs : Buf (Elt F) ((thr d L).loc cc3_scratch0)) (pay : S128.Idx → Elt F .i32)
    (hpay : pay = (iaRowK L).view.read (Elt F) fi) :
    ∀ x, ((saV).view.read (Elt F) (View.write (Elt F) (saV).view fs pay Finset.univ) x).toNat < S16384x128.size gathers_S16384x128_S128x128.axis := by
  subst hpay; intro x
  rw [View.write_whole_univ]
  simp only [Memref.view_whole, View.read_whole]
  rw [read_iaRowK]
  exact hfi _

/-- The rows of `fy` this subcore's list names. -/
abbrev got_ia (fy : Buf (Elt F) (yLoc d)) (fi : Buf (Elt F) (iaLoc d)) : Vec F S128x128 .f32 :=
  fun x => fy (ix2 (m := 16384) (n := 128) (fi (ix1 (m := 4096) (256 * (L 1).val + 128 * (L 0).val + (x 0).val))).toNat (x 1).val)

/-- What the gather leaves in the row buffer. -/
theorem got_ia_eq (fy : Buf (Elt F) (yLoc d)) (fi : Buf (Elt F) (iaLoc d)) (fs : Buf (Elt F) ((thr d L).loc cc3_scratch0)) (fr : Buf (Elt F) ((thr d L).loc cc3_scratch2))
    (pay : S128.Idx → Elt F .i32) (hpay : pay = (iaRowK L).view.read (Elt F) fi) (hin) :
    View.write (Elt F) (raV).view fr (SparseCore.gatherPayload (F := F) gathers_S16384x128_S128x128
      ((yAllK).view.read (Elt F) fy) (SparseCore.rows (F := F) ((saV).view.read (Elt F) (View.write (Elt F) (saV).view fs pay Finset.univ)) rfl hin)) Finset.univ
      = got_ia d L fy fi := by
  subst hpay
  rw [View.write_whole_univ]
  funext x
  refine ((gatherPayload_apply (z := 16384) (o := 128) _ _ _ _ _ x).trans ?_)
  rw [read_yAllK, View.write_whole_univ]
  simp only [Memref.view_whole, View.read_whole]
  rw [read_iaRowK]
  refine congrArg fy (congrArg (fun j => ix2 (m := 16384) (n := 128) (fi (ix1 (m := 4096) j)).toNat (x 1).val) ?_)
  exact congrArg (_ + ·) (Nat.mod_eq_of_lt (x 0).isLt)

/-- The fetched list at entry `k`. -/
theorem read_ibRowK (fi : Buf (Elt F) (ibLoc d)) (k : S128.Idx) :
    (ibRowK L).view.read (Elt F) fi k = fi (ix1 (m := 4096) (256 * (L 1).val + 128 * (L 0).val + (k 0).val)) := by
  refine ((View.read_apply _ _).trans (cast_eq _ _)).trans (congrArg fi (eq_ix1 _ ?_))
  show k3_off1 L 0 + 1 * (k 0).val = _
  rw [k3_off1_eq]; simp

theorem inb_ib (fi : Buf (Elt F) (ibLoc d)) (hfi : ∀ j : S4096.Idx, ((fi : S4096.Idx → Elt F .i32) j).toNat < 16384) (fs : Buf (Elt F) ((thr d L).loc cc3_scratch1)) (pay : S128.Idx → Elt F .i32)
    (hpay : pay = (ibRowK L).view.read (Elt F) fi) :
    ∀ x, ((sbV).view.read (Elt F) (View.write (Elt F) (sbV).view fs pay Finset.univ) x).toNat < S16384x128.size gathers_S16384x128_S128x128.axis := by
  subst hpay; intro x
  rw [View.write_whole_univ]
  simp only [Memref.view_whole, View.read_whole]
  rw [read_ibRowK]
  exact hfi _

/-- The rows of `fy` this subcore's list names. -/
abbrev got_ib (fy : Buf (Elt F) (yLoc d)) (fi : Buf (Elt F) (ibLoc d)) : Vec F S128x128 .f32 :=
  fun x => fy (ix2 (m := 16384) (n := 128) (fi (ix1 (m := 4096) (256 * (L 1).val + 128 * (L 0).val + (x 0).val))).toNat (x 1).val)

/-- What the gather leaves in the row buffer. -/
theorem got_ib_eq (fy : Buf (Elt F) (yLoc d)) (fi : Buf (Elt F) (ibLoc d)) (fs : Buf (Elt F) ((thr d L).loc cc3_scratch1)) (fr : Buf (Elt F) ((thr d L).loc cc3_scratch3))
    (pay : S128.Idx → Elt F .i32) (hpay : pay = (ibRowK L).view.read (Elt F) fi) (hin) :
    View.write (Elt F) (rbV).view fr (SparseCore.gatherPayload (F := F) gathers_S16384x128_S128x128
      ((yAllK).view.read (Elt F) fy) (SparseCore.rows (F := F) ((sbV).view.read (Elt F) (View.write (Elt F) (sbV).view fs pay Finset.univ)) rfl hin)) Finset.univ
      = got_ib d L fy fi := by
  subst hpay
  rw [View.write_whole_univ]
  funext x
  refine ((gatherPayload_apply (z := 16384) (o := 128) _ _ _ _ _ x).trans ?_)
  rw [read_yAllK, View.write_whole_univ]
  simp only [Memref.view_whole, View.read_whole]
  rw [read_ibRowK]
  refine congrArg fy (congrArg (fun j => ix2 (m := 16384) (n := 128) (fi (ix1 (m := 4096) j)).toNat (x 1).val) ?_)
  exact congrArg (_ + ·) (Nat.mod_eq_of_lt (x 0).isLt)

/-- What the write-out leaves on the subcore's rows. -/
theorem out_eq (fy : Buf (Elt F) (yLoc d)) (fia : Buf (Elt F) (iaLoc d)) (fib : Buf (Elt F) (ibLoc d)) (fo : Buf (Elt F) (oLoc d))
    (pay2 : S128x128.Idx → Elt F .f32) (h2 : pay2 = (addf (got_ia d L fy fia) (got_ib d L fy fib) : Vec F S128x128 .f32)) :
    ∀ y ∈ oSet d (wL L), ((oRowK L).view.writes (Elt F) fo [⟨Rect.whole S128x128, pay2⟩]) y = comb fy fia fib y := by
  subst h2
  intro y hy
  rw [← set_oRowK] at hy
  obtain ⟨x, -, rfl⟩ := Finset.mem_map.mp hy
  refine ((cast_eq _ _).symm.trans (View.read_apply (v := (oRowK L).view) _ x).symm).trans ((congrFun (View.read_writes_whole (oRowK L).view fo _) x).trans ?_)
  have e0 : (((oRowK L).view.emb x : S4096x128.Idx) 0).val = 256 * (L 1).val + 128 * (L 0).val + (x 0).val := by
    show k3_off3 L 0 + 1 * (x 0).val = _
    rw [k3_off3_eq]; simp
  have e1 : (((oRowK L).view.emb x : S4096x128.Idx) 1).val = (x 1).val := by
    show k3_off3 L 1 + 1 * (x 1).val = _
    rw [k3_off3_eq]; simp
  show FloatOps.addf _ _ = FloatOps.addf (pick fy fia ((oRowK L).view.emb x)) (pick fy fib ((oRowK L).view.emb x))
  unfold pick
  rw [e0, e1]

theorem sems : (ownSems0 (thr d L) : sProp 𝕄)
      = iprop((semVal ((thr d L, .dma cc3_scratch4.sem) : GSem nD τ sig) 0 ∗ semVal ((thr d L, .dma cc3_scratch5.sem) : GSem nD τ sig) 0
          ∗ semVal ((thr d L, .dma cc3_scoped0.sem) : GSem nD τ sig) 0 ∗ semVal ((thr d L, .dma cc3_scoped1.sem) : GSem nD τ sig) 0 ∗ semVal ((thr d L, .dma cc3_scoped2.sem) : GSem nD τ sig) 0)
        ∗ bigSep (ownCells (thr d L) \ ([SemLoc.dma cc3_scratch4.sem, .dma cc3_scratch5.sem, .dma cc3_scoped0.sem, .dma cc3_scoped1.sem, .dma cc3_scoped2.sem].map fun s => ((thr d L, s) : GSem nD τ sig)).toFinset) fun g => semVal g 0) :=
  ownSems0_pull d _ _ [SemLoc.dma cc3_scratch4.sem, .dma cc3_scratch5.sem, .dma cc3_scoped0.sem, .dma cc3_scoped1.sem, .dma cc3_scoped2.sem] (by decide) (by decide)

theorem bufs : (ownBufs (thr d L) : sProp 𝕄)
      = iprop(((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f))
        ∗ bigSep (ownRefs (.scVector (cV L) (jV L)) \ ([cc3_scratch0, cc3_scratch1, cc3_scratch2, cc3_scratch3].map fun b => ((Proc.scVector (cV L) (jV L)).devRef b : DevRef τ sig)).toFinset)
        fun b => iprop(∃ f, ((d, b) : Loc nD τ sig) ↦{fullShare} f)) :=
  ownBufs_pull d _ _ [cc3_scratch0, cc3_scratch1, cc3_scratch2, cc3_scratch3] (by decide) (fun b hb => by
    rcases List.mem_cons.mp hb with rfl | hb; · rfl
    rcases List.mem_cons.mp hb with rfl | hb; · rfl
    rcases List.mem_cons.mp hb with rfl | hb; · rfl
    rcases List.mem_cons.mp hb with rfl | hb; · rfl
    cases hb)

set_option maxHeartbeats 4000000 in
/-- The task on vector subcore `(L 0, L 1)` of device `d`. -/
theorem tile_body (fy : Buf (Elt F) (yLoc d)) (fia : Buf (Elt F) (iaLoc d)) (fib : Buf (Elt F) (ibLoc d))
    (hfia : ∀ j : S4096.Idx, ((fia : S4096.Idx → Elt F .i32) j).toNat < 16384) (hfib : ∀ j : S4096.Idx, ((fib : S4096.Idx → Elt F .i32) j).toNat < 16384)
    (O : CellTallies nD τ sig (HIx 3)) (W : Waits sig (HIx 3)) (hO : ∀ g, O g none = 0) :
    iprop(levAts (K (F := F)).L (K (F := F)).lev ∗ emp ∗ go d (wL L) fy fia fib
        ∗ scopedBufs (thr d L) ∗ scopedSems0 (thr d L) ∗ owes (thr d L) O W)
      ⊢ wp frame (wpE (defs₀ (F := F)) 𝒱₀ (thr d L) none) Set.univ
          (cc3__combine L yV (Memref.isWhole_whole _) iaV (Memref.isWhole_whole _) ibV (Memref.isWhole_whole _) oV (Memref.isWhole_whole _)
            saV (Memref.isWhole_whole _) sbV (Memref.isWhole_whole _) raV (Memref.isWhole_whole _) rbV (Memref.isWhole_whole _) cc3_scratch4 cc3_scratch5
            cc3_scoped0 cc3_scoped1 cc3_scoped2)
          fun _ => iprop((oLoc d ↦[oSet d (wL L)]{fullShare} comb fy fia fib)
            ∗ scopedBufs (thr d L) ∗ scopedSems0 (thr d L)
            ∗ ∃ W', ⌜∀ p ∈ W', p ∈ W ∨ p.2 = none⌝ ∗ owes (thr d L) O W') := by
  simp only [cc3__combine_eq_skeleton]; unfold cc3__combine_skel go
  rw [(K (F := F)).scopedBufs_V facts d (cV L) (jV L), SparseCore.Cfg.scopedSems0_V (Val := Elt F) d (cV L) (jV L), sems, bufs]
  iintro ⟨#Hlv, -, ⟨Hy, Hia, Hib, ⟨%fo, Ho⟩⟩, ⟨⟨⟨%fsa, Hsa⟩, ⟨%fsb, Hsb⟩, ⟨%fra, Hra⟩, ⟨%frb, Hrb⟩⟩, Hbufs⟩, ⟨⟨Hs4, Hs5, Hs0, Hs1, Hs2⟩, Hsems⟩, HO⟩
  ihave Hmw := (show levAts (K (F := F)).L (K (F := F)).lev ⊢ Transfers.MayWaits (thr d L) (default : HIx 3) O from
    (K (F := F)).mayWaits_none (thr := thr d L) hO) $$ Hlv
  ihave Hi2 := (pointsTo_split_subset (q := qL (wL L)) (f := fia) (S := Finset.univ) (Finset.subset_univ (iaRowK L).view.set)).1 $$ Hia
  icases Hi2 with ⟨Hia, -⟩
  ihave Hi2 := (pointsTo_split_subset (q := qL (wL L)) (f := fib) (S := Finset.univ) (Finset.subset_univ (ibRowK L).view.set)).1 $$ Hib
  icases Hi2 with ⟨Hib, -⟩
  ihave Hxs := (pointsTo_split_subset (q := qL (wL L)) (f := fy) (S := Finset.univ) (Finset.subset_univ (yAllK).view.set)).1 $$ Hy
  icases Hxs with ⟨Hy, -⟩
  ihave Hys := (pointsTo_share (PosShare.mem_left_op_right (qL (wL L)))).1 $$ Hy
  icases Hys with ⟨Hya, Hyb⟩
  ihave Hia' := (Entails.of_eq (show (iaLoc d ↦[(iaRowK L).view.set]{qL (wL L)} fia : sProp 𝕄)
      = ((iaRowK L).view.loc (thr d L) ↦[(iaRowK L).view.set]{qL (wL L)} fia) from rfl)) $$ Hia
  ihave Hib' := (Entails.of_eq (show (ibLoc d ↦[(ibRowK L).view.set]{qL (wL L)} fib : sProp 𝕄)
      = ((ibRowK L).view.loc (thr d L) ↦[(ibRowK L).view.set]{qL (wL L)} fib) from rfl)) $$ Hib
  ihave Hya' := (Entails.of_eq (show (yLoc d ↦[(yAllK).view.set]{(qL (wL L)).left} fy : sProp 𝕄)
      = ((yAllK).view.loc (thr d L) ↦[(yAllK).view.set]{(qL (wL L)).left} fy) from rfl)) $$ Hya
  ihave Hyb' := (Entails.of_eq (show (yLoc d ↦[(yAllK).view.set]{(qL (wL L)).right} fy : sProp 𝕄)
      = ((yAllK).view.loc (thr d L) ↦[(yAllK).view.set]{(qL (wL L)).right} fy) from rfl)) $$ Hyb
  ihave Ho' := (Entails.of_eq (show (oLoc d ↦[oSet d (wL L)]{fullShare} fo : sProp 𝕄)
      = ((oRowK L).view.loc (thr d L) ↦[(oRowK L).view.set]{fullShare} fo) by rw [set_oRowK d])) $$ Ho
  ihave Hsa' := (Entails.of_eq (show ((thr d L).loc cc3_scratch0 ↦{fullShare} fsa : sProp 𝕄)
      = ((saV).view.loc (thr d L) ↦{fullShare} fsa) from rfl)) $$ Hsa
  ihave Hsb' := (Entails.of_eq (show ((thr d L).loc cc3_scratch1 ↦{fullShare} fsb : sProp 𝕄)
      = ((sbV).view.loc (thr d L) ↦{fullShare} fsb) from rfl)) $$ Hsb
  ihave Hra' := (Entails.of_eq (show ((thr d L).loc cc3_scratch2 ↦{fullShare} fra : sProp 𝕄)
      = ((raV).view.loc (thr d L) ↦{fullShare} fra) from rfl)) $$ Hra
  ihave Hrb' := (Entails.of_eq (show ((thr d L).loc cc3_scratch3 ↦{fullShare} frb : sProp 𝕄)
      = ((rbV).view.loc (thr d L) ↦{fullShare} frb) from rfl)) $$ Hrb
  sl_exec
  have hra : (raV).view.set = Finset.univ := View.set_whole _
  have hsa : (saV).view.set = Finset.univ := View.set_whole _
  have hrb : (rbV).view.set = Finset.univ := View.set_whole _
  have hsb : (sbV).view.set = Finset.univ := View.set_whole _
  have hNa : ∀ h : S16384x128.Gathers 0 S128x128, ∑ j, ((raV).slice (S128x128.rowRect h.axis' j) (S128x128.stride_rowRect h.axis' j)).view.dmaCredit
      = (raV).view.dmaCredit := by decide
  have hNb : ∀ h : S16384x128.Gathers 0 S128x128, ∑ j, ((rbV).slice (S128x128.rowRect h.axis' j) (S128x128.stride_rowRect h.axis' j)).view.dmaCredit
      = (rbV).view.dmaCredit := by decide
  ihave Hr'' := (Entails.of_eq (show ((raV).view.loc (thr d L) ↦{fullShare} fra : sProp 𝕄)
      = (raV).view.loc (thr d L) ↦[(raV).view.set]{fullShare} fra by rw [hra])) $$ Hra'
  ihave Hs'' := (Entails.of_eq (show ((saV).view.loc (thr d L) ↦{fullShare} View.write (Elt F) (saV).view fsa (tile_body.sl.dma0 d L fia) Finset.univ : sProp 𝕄)
      = (saV).view.loc (thr d L) ↦[(saV).view.set]{fullShare} View.write (Elt F) (saV).view fsa (tile_body.sl.dma0 d L fia) Finset.univ
      by rw [hsa])) $$ Hsa'
  iapply (SparseCore.wp_indirectGatherLocal countersEmb 𝒱₀ (thr d L) none (hg := gathers_S16384x128_S128x128) (default : HIx 3)
      (raV).view.dmaCredit (hNa _) (by decide) (inb_ia d L fia hfia fsa _ rfl)) $$ [Hya' Hr'' Hs'' Hs4]
  · isplitl [Hya']; · iexact Hya'
    isplitl [Hr'']; · iexact Hr''
    isplitl [Hs'']; · iexact Hs''
    iexact Hs4
  iintro Hfla
  sl_exec
  ihave Hr'' := (Entails.of_eq (show ((rbV).view.loc (thr d L) ↦{fullShare} frb : sProp 𝕄)
      = (rbV).view.loc (thr d L) ↦[(rbV).view.set]{fullShare} frb by rw [hrb])) $$ Hrb'
  ihave Hs'' := (Entails.of_eq (show ((sbV).view.loc (thr d L) ↦{fullShare} View.write (Elt F) (sbV).view fsb (tile_body.sl.dma0_1 d L fib) Finset.univ : sProp 𝕄)
      = (sbV).view.loc (thr d L) ↦[(sbV).view.set]{fullShare} View.write (Elt F) (sbV).view fsb (tile_body.sl.dma0_1 d L fib) Finset.univ
      by rw [hsb])) $$ Hsb'
  iapply (SparseCore.wp_indirectGatherLocal countersEmb 𝒱₀ (thr d L) none (hg := gathers_S16384x128_S128x128) (default : HIx 3)
      (rbV).view.dmaCredit (hNb _) (by decide) (inb_ib d L fib hfib fsb _ rfl)) $$ [Hyb' Hr'' Hs'' Hs5]
  · isplitl [Hyb']; · iexact Hyb'
    isplitl [Hr'']; · iexact Hr''
    isplitl [Hs'']; · iexact Hs''
    iexact Hs5
  iintro Hflb
  sl_exec
  iapply (Transfers.wp_waitLocalO countersEmb 𝒱₀ (thr d L) none (default : HIx 3) (rfl : (raV).view.dmaCredit = _)) $$ [Hfla HO]
  · isplitl [Hfla]; · iexact Hfla
    isplitl [HO]; · iexact HO
    iapply (Transfers.MayWaits.elim (SemLoc.dma cc3_scratch4.sem)) $$ Hmw
  iintro ⟨⟨Hra2, Hxa, Hsa2⟩, Hs4, HO⟩
  rw [got_ia_eq d L fy fia fsa fra _ rfl]
  ihave Hra := (Entails.of_eq (show ((raV).view.loc (thr d L) ↦[(raV).view.set]{fullShare} _ : sProp 𝕄)
      = (raV).view.loc (thr d L) ↦{fullShare} _ by rw [hra])) $$ Hra2
  ihave Hsa := (Entails.of_eq (show ((saV).view.loc (thr d L) ↦[(saV).view.set]{fullShare} _ : sProp 𝕄)
      = (saV).view.loc (thr d L) ↦{fullShare} _ by rw [hsa])) $$ Hsa2
  sl_exec
  iapply (Transfers.wp_waitLocalO countersEmb 𝒱₀ (thr d L) none (default : HIx 3) (rfl : (rbV).view.dmaCredit = _)) $$ [Hflb HO]
  · isplitl [Hflb]; · iexact Hflb
    isplitl [HO]; · iexact HO
    iapply (Transfers.MayWaits.elim (SemLoc.dma cc3_scratch5.sem)) $$ Hmw
  iintro ⟨⟨Hrb2, Hxb, Hsb2⟩, Hs5, HO⟩
  rw [got_ib_eq d L fy fib fsb frb _ rfl]
  ihave Hrb := (Entails.of_eq (show ((rbV).view.loc (thr d L) ↦[(rbV).view.set]{fullShare} _ : sProp 𝕄)
      = (rbV).view.loc (thr d L) ↦{fullShare} _ by rw [hrb])) $$ Hrb2
  ihave Hsb := (Entails.of_eq (show ((sbV).view.loc (thr d L) ↦[(sbV).view.set]{fullShare} _ : sProp 𝕄)
      = (sbV).view.loc (thr d L) ↦{fullShare} _ by rw [hsb])) $$ Hsb2
  sl_step
  sl_for (fun k _ => iprop(((raV).view.loc (thr d L) ↦{fullShare} (st (got_ia d L fy fia) (got_ib d L fy fib) k 0 : Vec F S128x128 .f32) : sProp 𝕄)
    ∗ ((rbV).view.loc (thr d L) ↦{fullShare} got_ib d L fy fib))) $$ [Hra Hrb]
  case region =>
    intro k acc
    exact trip d L _ _ k acc _ rfl
  · rw [st_zero]
    isplitl [Hra]; · iexact Hra
    iexact Hrb
  iintro %_ ⟨Hra0, Hrb0⟩
  rw [show Scf.trips k3_t1_loop.lb k3_t1_loop.ub k3_t1_loop.st = 128 by decide, st_all]
  ihave Hra := (Entails.of_eq (show ((thr d L).loc cc3_scratch2 ↦{fullShare} (addf (got_ia d L fy fia) (got_ib d L fy fib) : Vec F S128x128 .f32) : sProp 𝕄)
      = ((raV).view.loc (thr d L) ↦{fullShare} (addf (got_ia d L fy fia) (got_ib d L fy fib) : Vec F S128x128 .f32)) from rfl)) $$ Hra0
  sl_exec
  sl_step
  isplitl [Ho']
  · have hw := out_eq d L fy fia fib fo (tile_body.sl.dma0_2 d L fy fia fib) rfl
    rw [← pointsTo_congr hw, ← set_oRowK d]
    iexact Ho'
  isplitl [Hsa Hsb Hra Hrb0 Hbufs]
  · isplitl [Hsa Hsb Hra Hrb0]
    · isplitl [Hsa]; · iexists _; iexact Hsa
      isplitl [Hsb]; · iexists _; iexact Hsb
      isplitl [Hra]; · iexists _; iexact Hra
      iexists _; iexact Hrb0
    iexact Hbufs
  isplitl [Hs4 Hs5 Hs0 Hs1 Hs2 Hsems]
  · isplitl [Hs4 Hs5 Hs0 Hs1 Hs2]
    · isplitl [Hs4]; · iexact Hs4
      isplitl [Hs5]; · iexact Hs5
      isplitl [Hs0]; · iexact Hs0
      isplitl [Hs1]; · iexact Hs1
      iexact Hs2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Combine

end
-- ==== Proof.Routing.lean ====
/-
  The routing in numbers: how often each expert is named, where its rows begin, and where each (token, choice) pair's row goes.
-/
module

public import proofs.«01_k».proof.Proof.MoeValue
public import Mathlib.Data.Nat.Count

@[expose] public section

noncomputable section

namespace Cert.Proof.Routing

open Cert.Proof.Moe (Routes)

/-- Naming an expert at place `p`. -/
abbrev Is (key : ℕ → ℕ) (e : ℕ) : ℕ → Prop := fun p => key p = e

/-- How many of the first `m` pairs name expert `e`. -/
def upTo (key : ℕ → ℕ) (e m : ℕ) : ℕ := Nat.count (Is key e) m

/-- How many pairs name expert `e`. -/
def cnt (key : ℕ → ℕ) (e : ℕ) : ℕ := upTo key e 512

/-- That number rounded up to a multiple of 64. -/
def pad (key : ℕ → ℕ) (e : ℕ) : ℕ := (cnt key e + 63) / 64 * 64

/-- Where the rows of expert `e` begin. -/
def ro (key : ℕ → ℕ) (e : ℕ) : ℕ := ∑ k ∈ Finset.range e, pad key k

/-- How many tiles of 64 rows expert `e` has. -/
def ns (key : ℕ → ℕ) (e : ℕ) : ℕ := pad key e / 64

/-- The last expert up to `e` that is named at all. -/
def fe (key : ℕ → ℕ) : ℕ → ℕ
  | 0 => 0
  | e + 1 => if 0 < cnt key (e + 1) then e + 1 else fe key e

/-- The row of pair `p`. -/
def dest (key : ℕ → ℕ) (p : ℕ) : ℕ := ro key (key p) + upTo key (key p) p

variable {key : ℕ → ℕ}

theorem upTo_zero (e : ℕ) : upTo key e 0 = 0 := Nat.count_zero _

theorem upTo_succ (e m : ℕ) : upTo key e (m + 1) = upTo key e m + if key m = e then 1 else 0 := Nat.count_succ _ _

/-- Counting in two stretches. -/
theorem upTo_add (e a b : ℕ) : upTo key e (a + b) = upTo key e a + upTo (fun k => key (a + k)) e b := Nat.count_add _ _ _

theorem upTo_mono (e : ℕ) {a b : ℕ} (h : a ≤ b) : upTo key e a ≤ upTo key e b := Nat.count_monotone _ h

theorem upTo_le (e m : ℕ) : upTo key e m ≤ m := Nat.count_le _

/-- A pair not among the experts is not counted. -/
theorem upTo_eq_zero {e : ℕ} {m : ℕ} (h : ∀ p, p < m → key p ≠ e) : upTo key e m = 0 := by
  induction m with
  | zero => exact upTo_zero e
  | succ m ih => rw [upTo_succ, ih (fun p hp => h p (by omega)), if_neg (h m (by omega))]

/-- Only the keys below `m` matter. -/
theorem upTo_congr {key' : ℕ → ℕ} (e : ℕ) {m : ℕ} (h : ∀ p, p < m → key p = key' p) : upTo key e m = upTo key' e m := by
  induction m with
  | zero => rw [upTo_zero, upTo_zero]
  | succ m ih => rw [upTo_succ, upTo_succ, ih (fun p hp => h p (by omega)), h m (by omega)]

theorem sum_upTo (m : ℕ) (h : ∀ p, p < m → key p < 8) : ∑ e ∈ Finset.range 8, upTo key e m = m := by
  induction m with
  | zero => simp [upTo_zero]
  | succ m ih =>
    simp only [upTo_succ, Finset.sum_add_distrib]
    rw [ih fun p hp => h p (by omega), Finset.sum_ite_eq, if_pos (Finset.mem_range.mpr (h m (by omega)))]

theorem pad_ge (e : ℕ) : cnt key e ≤ pad key e := by unfold pad; omega

theorem ro_succ (e : ℕ) : ro key (e + 1) = ro key e + pad key e := Finset.sum_range_succ _ _

theorem ns_pad (e : ℕ) : 64 * ns key e = pad key e := by unfold ns pad; omega

theorem ro_mono {a b : ℕ} (h : a ≤ b) : ro key a ≤ ro key b :=
  Finset.sum_le_sum_of_subset (Finset.range_mono h)

theorem ro_eight (h : ∀ p, p < 512 → key p < 8) : ro key 8 ≤ 1024 := by
  have h1 : ro key 8 ≤ ∑ e ∈ Finset.range 8, (cnt key e + 63) :=
    Finset.sum_le_sum fun e _ => by unfold pad; omega
  rw [Finset.sum_add_distrib, show ∑ e ∈ Finset.range 8, cnt key e = 512 from sum_upTo 512 h] at h1
  simp at h1
  omega

theorem dvd_ro (e : ℕ) : 64 ∣ ro key e :=
  Finset.dvd_sum fun k _ => ⟨(cnt key k + 63) / 64, by unfold pad; omega⟩

theorem upTo_lt {p m : ℕ} (h : p < m) : upTo key (key p) p < upTo key (key p) m :=
  lt_of_lt_of_le (by rw [upTo_succ, if_pos rfl]; omega) (upTo_mono (key p) (show p + 1 ≤ m from h))

/-- A pair's row lies among its expert's. -/
theorem dest_lt {p : ℕ} (h : p < 512) : dest key p < ro key (key p) + 64 * ns key (key p) := by
  have h1 : upTo key (key p) p < cnt key (key p) := upTo_lt h
  have h2 := pad_ge (key := key) (key p)
  rw [ns_pad]; unfold dest; omega

theorem le_dest (p : ℕ) : ro key (key p) ≤ dest key p := Nat.le_add_right _ _

theorem dest_lt_1024 (hk : ∀ p, p < 512 → key p < 8) {p : ℕ} (h : p < 512) : dest key p < 1024 := by
  have h1 := dest_lt (key := key) h
  have h2 := ro_mono (key := key) (show key p + 1 ≤ 8 from hk p h)
  have h3 := ro_eight hk
  rw [ro_succ, ← ns_pad] at h2
  omega

/-- No two pairs share a row. -/
theorem dest_inj {p q : ℕ} (hp : p < 512) (hq : q < 512) (h : dest key p = dest key q) : p = q := by
  have aux : ∀ {p q : ℕ}, p < 512 → key p < key q → dest key p ≠ dest key q := by
    intro p q hp hlt he
    have h1 := dest_lt (key := key) hp
    have h2 := ro_mono (key := key) (show key p + 1 ≤ key q from hlt)
    have h3 := le_dest (key := key) q
    rw [ro_succ, ← ns_pad] at h2
    omega
  rcases lt_trichotomy (key p) (key q) with hlt | heq | hgt
  · exact absurd h (aux hp hlt)
  · have h1 : upTo key (key p) p = upTo key (key p) q := by
      unfold dest at h; rw [← heq] at h; omega
    rcases lt_trichotomy p q with hlt | e | hgt
    · have := upTo_lt (key := key) hlt; omega
    · exact e
    · have := upTo_lt (key := key) hgt; rw [← heq] at this; omega
  · exact absurd h.symm (aux hq hgt)

/-- A token names an expert at most once, so no expert has more than 256 pairs. -/
theorem cnt_le (hd : ∀ t, t < 256 → key (2 * t) ≠ key (2 * t + 1)) (e : ℕ) : cnt key e ≤ 256 := by
  have aux : ∀ t, t ≤ 256 → upTo key e (2 * t) ≤ t := by
    intro t ht
    induction t with
    | zero => rw [Nat.mul_zero, upTo_zero]
    | succ t ih =>
      rw [show 2 * (t + 1) = 2 * t + 1 + 1 from rfl, upTo_succ, upTo_succ]
      have h1 := ih (by omega)
      have h2 := hd t (by omega)
      split_ifs with ha hb hb <;> first | exact absurd (hb.trans ha.symm) h2 | exact absurd (ha.trans hb.symm) h2 | omega
  exact aux 256 le_rfl

theorem fe_le (e : ℕ) : fe key e ≤ e := by
  induction e with
  | zero => exact le_rfl
  | succ e ih => unfold fe; split_ifs <;> omega

theorem fe_of_pos {e : ℕ} (h : 0 < cnt key e) : fe key e = e := by
  cases e with
  | zero => rfl
  | succ e => unfold fe; rw [if_pos h]

/-- What the grouped matrix products ask of the routing. -/
theorem routes (hk : ∀ p, p < 512 → key p < 8) (hd : ∀ t, t < 256 → key (2 * t) ≠ key (2 * t + 1)) : Routes (ro key) (ns key) (fe key) where
  n_le e _ := by have := cnt_le hd e; unfold ns pad; omega
  dvd e _ := dvd_ro e
  le e he := by
    rw [ns_pad, ← ro_succ]
    exact (ro_mono (show e + 1 ≤ 8 from he)).trans (ro_eight hk)
  apart e e' h _ := by
    rw [ns_pad, ← ro_succ]
    exact ro_mono (show e + 1 ≤ e' from h)
  fe_lt e he := (fe_le e).trans_lt he
  fe_eq e _ hn := fe_of_pos (by
    by_contra h0
    apply hn
    unfold ns pad
    omega)

/-- A table filled row by row: pair `p`'s value at its row. -/
def placed {α : Type} (key : ℕ → ℕ) (val : ℕ → α) (z : α) : ℕ → ℕ → α
  | 0, _ => z
  | p + 1, y => if y = dest key p then val p else placed key val z p y

theorem placed_dest {α : Type} (val : ℕ → α) (z : α) {n p : ℕ} (hn : n ≤ 512) (hp : p < n) : placed key val z n (dest key p) = val p := by
  induction n with
  | zero => omega
  | succ n ih =>
    unfold placed
    rcases Nat.lt_succ_iff_lt_or_eq.mp hp with h | h
    · rw [if_neg fun he => absurd (dest_inj (by omega) (by omega) he) (by omega)]
      exact ih (by omega) h
    · subst h; rw [if_pos rfl]

theorem placed_prop {α : Type} {val : ℕ → α} {z : α} {Q : α → Prop} (hz : Q z) (n y : ℕ) (hv : ∀ p, p < n → Q (val p)) : Q (placed key val z n y) := by
  induction n with
  | zero => exact hz
  | succ n ih => unfold placed; split_ifs; exacts [hv n (by omega), ih fun p hp => hv p (by omega)]

/-- The rows of the pairs of parity `b`, by token: what is left of `f` after the first pairs. -/
def rowOf {α : Type} (b : ℕ) (val : ℕ → α) (f : ℕ → α) : ℕ → ℕ → α
  | 0, y => f y
  | p + 1, y => if p % 2 = b ∧ y = p / 2 then val p else rowOf b val f p y

theorem rowOf_eq {α : Type} {b : ℕ} (hb : b < 2) (val : ℕ → α) (f : ℕ → α) {n t : ℕ} (h : 2 * t + b < n) : rowOf b val f n t = val (2 * t + b) := by
  induction n with
  | zero => omega
  | succ n ih =>
    unfold rowOf
    by_cases hn : 2 * t + b = n
    · rw [if_pos ⟨by omega, by omega⟩, hn]
    · rw [if_neg (by omega)]; exact ih (by omega)

end Cert.Proof.Routing

end
-- ==== Proof.RouteLanes.lean ====
/-
  The routing kernel's arithmetic on sixteen lanes, read in natural numbers.
-/
module

public import proofs.«01_k».proof.Proof.Routing
public import proofs.«01_k».proof.Proof.MoeRegion
public import Idealize.ShloMosaic.Lib.Pipeline.Value

@[expose] public section

noncomputable section

namespace Cert.Proof.Route

open Cert.KernelIdeal Cert.KernelIdeal.Gen
open Cert.Proof.Moe (ix1 eq_ix1 w32)
open Cert.Proof.Routing
open Idealize.ShloMosaic

variable {F : FTy → Type} [FloatOps F]

theorem lane (i : S16.Idx) : i = ix1 (m := 16) (i 0).val := eq_ix1 (m := 16) i rfl

theorem lane_lt (i : S16.Idx) : (i 0).val < 16 := (i 0).isLt

/-- The lanes a scan has passed by lane `l`. -/
theorem scanned : ∀ l : Fin 16, ((List.finRange 16).filter fun k => decide (0 < k.val ∧ k.val ≤ l.val)) = (List.finRange l.val).map fun k => ⟨k.val + 1, by omega⟩ := by
  decide

/-- A scan's running word, lane by lane. -/
def run (kind : ScanKind) (v : IVec S16 32) : ℕ → BitVec 32
  | 0 => v (ix1 (m := 16) 0)
  | n + 1 => kind.step (run kind v n) (v (ix1 (m := 16) (n + 1)))

theorem scan_run (kind : ScanKind) (v : IVec S16 32) (l : Fin 16) : scan kind v (ix1 (m := 16) l.val) = run kind v l.val := by
  have h0 : (ix1 (m := 16) l.val 0 : Fin 16) = l := Fin.ext (Nat.mod_eq_of_lt l.isLt)
  let g : Fin 16 → BitVec 32 := fun k => v (Shape.ofLane (d := ![16]) k)
  have hg : ∀ k : Fin 16, g k = v (ix1 (m := 16) k.val) := fun k => congrArg v (eq_ix1 (m := 16) _ rfl)
  show (List.filter (fun k : Fin 16 => decide (0 < k.val ∧ k.val ≤ (ix1 (m := 16) l.val 0 : Fin 16).val)) (List.finRange 16)).foldl (fun r k => kind.step r (g k)) (g 0) = _
  rw [h0, scanned, List.foldl_map]
  have key : ∀ n (hn : n < 16), (List.finRange n).foldl (fun (r : BitVec 32) (k : Fin n) => kind.step r (g ⟨k.val + 1, by omega⟩)) (g 0) = run kind v n := by
    intro n hn
    induction n with
    | zero => exact hg 0
    | succ n ih =>
      rw [List.finRange_succ_last, List.foldl_append, List.foldl_map]
      have := ih (by omega)
      simp only [Fin.val_castSucc] at this ⊢
      rw [this]
      simp only [List.foldl, Fin.val_last, hg]
      rfl
  exact key l.val l.isLt

/-- A sum scan's lanes. -/
theorem run_sum (v : IVec S16 32) (n : ℕ) : run .sum v n = w32 (∑ k ∈ Finset.range (n + 1), (v (ix1 (m := 16) k)).toNat) := by
  induction n with
  | zero => simp [run, w32]
  | succ n ih =>
    rw [Finset.sum_range_succ]
    unfold run; rw [ih]
    show w32 _ + _ = _
    simp only [w32, BitVec.ofNat_add, BitVec.ofNat_toNat, BitVec.setWidth_eq]

/-- Sixteen lanes holding the numbers `f 0, f 1, …`. -/
def vec (f : ℕ → ℕ) : IVec S16 32 := fun i => w32 (f (i 0).val)

theorem vec_ix (f : ℕ → ℕ) {k : ℕ} (hk : k < 16) : vec f (ix1 (m := 16) k) = w32 (f k) :=
  congrArg (fun n => w32 (f n)) (Nat.mod_eq_of_lt hk)

theorem eq_vec {v : IVec S16 32} {f : ℕ → ℕ} (h : ∀ k, k < 16 → v (ix1 (m := 16) k) = w32 (f k)) : v = vec f := by
  funext i; rw [lane i, h _ (lane_lt i), vec_ix f (lane_lt i)]

theorem vec_congr {f g : ℕ → ℕ} (h : ∀ k, k < 16 → f k = g k) : vec f = vec g :=
  eq_vec fun k hk => by rw [vec_ix f hk, h k hk]

theorem scan_vec (f : ℕ → ℕ) : scan .sum (vec f) = vec fun l => ∑ k ∈ Finset.range (l + 1), f k := by
  refine eq_vec fun k hk => ?_
  rw [scan_run .sum _ (⟨k, hk⟩ : Fin 16), run_sum]
  simp only [w32]
  apply BitVec.eq_of_toNat_eq
  simp only [BitVec.toNat_ofNat]
  rw [Finset.sum_nat_mod, Finset.sum_nat_mod (f := f)]
  refine congrArg (· % _) (Finset.sum_congr rfl fun j hj => ?_)
  rw [vec_ix f (by have := Finset.mem_range.mp hj; omega)]
  simp

variable {kv : ℕ → ℕ}

/-- The lanes naming expert `e`, counted. -/
theorem scan_is (kv : ℕ → ℕ) (hkv : ∀ l, l < 16 → kv l < 8) {e : ℕ} (he : e < 8) (h1 : 1 < 32) :
    scan .sum (extui 32 (cmpi .eq (vec kv) (broadcast S16 (w32 e))) h1) = vec fun l => upTo kv e (l + 1) := by
  have h : extui 32 (cmpi .eq (vec kv) (broadcast S16 (w32 e))) h1 = vec fun k => if kv k = e then 1 else 0 := by
    refine eq_vec fun k hk => ?_
    have := hkv k hk
    show BitVec.setWidth 32 (BitVec.ofBool (vec kv (ix1 (m := 16) k) == w32 e)) = _
    rw [vec_ix kv hk]
    generalize kv k = a at this
    interval_cases a <;> interval_cases e <;> decide
  rw [h, scan_vec]
  refine vec_congr fun l _ => ?_
  induction l with
  | zero => rw [Finset.sum_range_succ, upTo_succ, upTo_zero, Finset.sum_range_zero]
  | succ l ih => rw [Finset.sum_range_succ, ih (by omega), upTo_succ e (l + 1)]

theorem iota_vec : (iota .scVector S16 32 [0] iota_S16_d0_w32_scVector : IVec S16 32) = vec id := by
  refine eq_vec fun k hk => ?_
  show BitVec.ofNat 32 (0 * 16 + k % 16) = w32 k
  rw [Nat.mod_eq_of_lt hk, Nat.zero_mul, Nat.zero_add]

theorem ones_vec : k0_pay30 = vec fun _ => 1 := rfl
theorem zeros_vec : k0_pay31 = vec fun _ => 0 := rfl

theorem cmp_vec (f : ℕ → ℕ) (hf : ∀ l, l < 16 → f l < 16) {e : ℕ} (he : e < 8) {k : ℕ} (hk : k < 16) :
    cmpi .eq (vec f) (broadcast S16 (w32 e)) (ix1 (m := 16) k) = if f k = e then 1#1 else 0#1 := by
  show BitVec.ofBool (vec f (ix1 (m := 16) k) == w32 e) = _
  rw [vec_ix f hk]
  have := hf k hk
  generalize f k = a at this
  interval_cases a <;> interval_cases e <;> decide

theorem select_vec (f g h : ℕ → ℕ) (hf : ∀ l, l < 16 → f l < 16) {e : ℕ} (he : e < 8) :
    select (cmpi .eq (vec f) (broadcast S16 (w32 e))) (vec g) (vec h) = vec fun l => if f l = e then g l else h l := by
  refine eq_vec fun k hk => ?_
  show (if cmpi .eq (vec f) (broadcast S16 (w32 e)) (ix1 (m := 16) k) = 1 then _ else _) = _
  rw [cmp_vec f hf he hk, vec_ix g hk, vec_ix h hk]
  split_ifs <;> simp_all

theorem add_vec (f g : ℕ → ℕ) : addi (vec f) (vec g) = vec fun l => f l + g l := by
  refine eq_vec fun k hk => ?_
  show vec f (ix1 (m := 16) k) + vec g (ix1 (m := 16) k) = _
  rw [vec_ix f hk, vec_ix g hk]; exact (BitVec.ofNat_add _ _).symm

theorem sub_vec (f g : ℕ → ℕ) (h : ∀ l, l < 16 → g l ≤ f l) : subi (vec f) (vec g) = vec fun l => f l - g l := by
  refine eq_vec fun k hk => ?_
  show vec f (ix1 (m := 16) k) - vec g (ix1 (m := 16) k) = _
  rw [vec_ix f hk, vec_ix g hk, sub_eq_iff_eq_add]
  refine (congrArg w32 ?_).trans (BitVec.ofNat_add _ _)
  have := h k hk; omega

/-- The counts of experts `0 … m-1` among sixteen lanes. -/
def H (kv : ℕ → ℕ) (m : ℕ) : ℕ → ℕ := fun l => if l < m then upTo kv l 16 else 0

theorem H_step (kv : ℕ → ℕ) {e : ℕ} (he : e < 8) :
    select (cmpi .eq (iota .scVector S16 32 [0] iota_S16_d0_w32_scVector) (broadcast S16 (w32 e))) (vec fun _ => upTo kv e 16) (vec (H kv e))
      = vec (H kv (e + 1)) := by
  rw [iota_vec, select_vec id _ _ (fun l h => h) he]
  refine vec_congr fun k _ => ?_
  unfold H
  by_cases hk : k = e
  · subst hk; rw [if_pos (show id k = k from rfl), if_pos (by omega)]
  · rw [if_neg (show ¬ id k = e from hk)]
    by_cases h2 : k < e
    · rw [if_pos h2, if_pos (by omega)]
    · rw [if_neg h2, if_neg (by omega)]

theorem H_all (kv : ℕ → ℕ) (hkv : ∀ l, l < 16 → kv l < 8) : vec (H kv 8) = vec fun l => upTo kv l 16 := by
  refine vec_congr fun k _ => ?_
  unfold H
  split_ifs with h
  · rfl
  · exact (upTo_eq_zero fun p hp => by have := hkv p hp; omega).symm

/-- The lanes before this one naming the same expert, for the experts below `m`. -/
def E (kv : ℕ → ℕ) (m : ℕ) : ℕ → ℕ := fun l => if kv l < m then upTo kv (kv l) l else 0

theorem E_step (kv : ℕ → ℕ) (hkv : ∀ l, l < 16 → kv l < 8) {e : ℕ} (he : e < 8) (h1 : 1 < 32) :
    select (cmpi .eq (vec kv) (broadcast S16 (w32 e)))
      (subi (scan .sum (extui 32 (cmpi .eq (vec kv) (broadcast S16 (w32 e))) h1)) (vec fun _ => 1)) (vec (E kv e)) = vec (E kv (e + 1)) := by
  rw [scan_is kv hkv he h1]
  refine eq_vec fun k hk => ?_
  show (if cmpi .eq (vec kv) (broadcast S16 (w32 e)) (ix1 (m := 16) k) = 1 then vec _ (ix1 (m := 16) k) - vec _ (ix1 (m := 16) k) else _) = _
  rw [cmp_vec kv (fun l h => (hkv l h).trans (by omega)) he hk, vec_ix _ hk, vec_ix _ hk, vec_ix _ hk]
  unfold E
  by_cases hke : kv k = e
  · subst hke
    rw [if_pos rfl, if_pos (show (1#1 : BitVec 1) = 1 from rfl), if_pos (by omega), upTo_succ, if_pos rfl, sub_eq_iff_eq_add]
    exact BitVec.ofNat_add _ _
  · rw [if_neg hke, if_neg (by decide)]
    by_cases h2 : kv k < e
    · rw [if_pos h2, if_pos (by omega)]
    · rw [if_neg h2, if_neg (by omega)]

theorem E_all (kv : ℕ → ℕ) (hkv : ∀ l, l < 16 → kv l < 8) : vec (E kv 8) = vec fun l => upTo kv (kv l) l :=
  vec_congr fun k hk => if_pos (hkv k hk)

theorem even_vec : ∀ k : Fin 16, k0_pay21 (vec id) (vec fun _ => 1) (ix1 (m := 16) k.val) = if k.val % 2 = 0 then 1#1 else 0#1 := by
  decide

theorem odd_vec : ∀ k : Fin 16, k0_pay22 (vec id) (vec fun _ => 1) (ix1 (m := 16) k.val) = if k.val % 2 = 1 then 1#1 else 0#1 := by
  decide

/-- Rounding up to 64 by shifts. -/
theorem pad_vec (f : ℕ → ℕ) (hf : ∀ l, l < 16 → f l ≤ 512) : k0_pay34 (F := F) (vec f) = vec fun l => (f l + 63) / 64 * 64 := by
  refine eq_vec fun k hk => ?_
  have := hf k hk
  show ((vec f (ix1 (m := 16) k) + 63#32) >>> (6#32)) <<< (6#32) = _
  rw [vec_ix f hk]
  apply BitVec.eq_of_toNat_eq
  simp [Nat.shiftRight_eq_div_pow, Nat.shiftLeft_eq]
  omega

theorem ns_vec (f : ℕ → ℕ) (hf : ∀ l, l < 16 → f l ≤ 512) : k0_pay36 (F := F) (vec f) = vec fun l => (f l + 63) / 64 * 64 / 64 := by
  unfold k0_pay36
  rw [pad_vec f hf]
  refine eq_vec fun k hk => ?_
  have := hf k hk
  show (vec _ (ix1 (m := 16) k)) >>> (6#32) = _
  rw [vec_ix _ hk]
  apply BitVec.eq_of_toNat_eq
  simp [Nat.shiftRight_eq_div_pow]
  omega

theorem ro_vec (f : ℕ → ℕ) (hf : ∀ l, l < 16 → f l ≤ 512) : k0_pay35 (F := F) (vec f) = vec fun l => ∑ k ∈ Finset.range l, (f k + 63) / 64 * 64 := by
  unfold k0_pay35
  simp only
  rw [pad_vec f hf, scan_vec, sub_vec _ _ fun l _ => by rw [Finset.sum_range_succ]; omega]
  refine vec_congr fun k _ => ?_
  rw [Finset.sum_range_succ]; omega

theorem pos_vec (f : ℕ → ℕ) (hf : ∀ l, l < 16 → f l ≤ 512) {k : ℕ} (hk : k < 16) :
    k0_pay37 (F := F) (vec f) (ix1 (m := 16) k) = if 0 < f k then 1#1 else 0#1 := by
  have := hf k hk
  show BitVec.ofBool ((0#32).slt (vec f (ix1 (m := 16) k))) = _
  rw [vec_ix f hk]
  have h : (0#32).slt (w32 (f k)) = decide (0 < f k) := by
    rw [BitVec.slt, BitVec.toInt_eq_toNat_of_lt (x := w32 (f k)) (by simp; omega)]
    simp; omega
  rw [h]
  by_cases h0 : 0 < f k <;> simp [h0]

theorem max_step : ∀ a b : Fin 16, IntOp.maxui (w32 (2147483648 + a.val)) (w32 (2147483648 + b.val)) = w32 (2147483648 + max a.val b.val) := by
  decide

theorem flip_in : ∀ a : Fin 16, IntOp.xori (w32 a.val) 2147483648#32 = w32 (2147483648 + a.val) := by decide
theorem flip_out : ∀ a : Fin 16, IntOp.xori (w32 (2147483648 + a.val)) 2147483648#32 = w32 a.val := by decide

theorem fe_vec (key : ℕ → ℕ) (hc : ∀ l, l < 16 → cnt key l ≤ 512) :
    k0_pay1 (vec id) (vec fun _ => 0) (k0_pay37 (F := F) (vec (cnt key))) = vec (fe key) := by
  have h1 : ∀ k, k < 16 → xori (select (k0_pay37 (F := F) (vec (cnt key))) (vec id) (vec fun _ => 0)) (broadcast S16 2147483648#32) (ix1 (m := 16) k)
      = w32 (2147483648 + if 0 < cnt key k then k else 0) := by
    intro k hk
    show IntOp.xori (if k0_pay37 (F := F) (vec (cnt key)) (ix1 (m := 16) k) = 1 then vec id (ix1 (m := 16) k) else vec (fun _ => 0) (ix1 (m := 16) k)) 2147483648#32 = _
    rw [pos_vec _ hc hk, vec_ix _ hk, vec_ix _ hk]
    split_ifs
    · exact flip_in ⟨k, hk⟩
    · exact absurd rfl ‹_›
    · exact absurd ‹(0#1 = 1)› (by decide)
    · exact flip_in 0
  have h2 : ∀ k, k < 16 → run .max (xori (select (k0_pay37 (F := F) (vec (cnt key))) (vec id) (vec fun _ => 0)) (broadcast S16 2147483648#32)) k
      = w32 (2147483648 + fe key k) := by
    intro k hk
    induction k with
    | zero =>
      unfold run; rw [h1 0 hk]; unfold fe; split_ifs <;> rfl
    | succ k ih =>
      unfold run; rw [ih (by omega), h1 _ hk]
      have hle := fe_le (key := key) k
      rw [show fe key (k + 1) = if 0 < cnt key (k + 1) then k + 1 else fe key k from rfl]
      by_cases h : 0 < cnt key (k + 1)
      · rw [if_pos h, if_pos h]
        refine (max_step ⟨fe key k, by omega⟩ ⟨k + 1, hk⟩).trans ?_
        rw [max_eq_right (show fe key k ≤ k + 1 by omega)]
      · rw [if_neg h, if_neg h]
        exact (max_step ⟨fe key k, by omega⟩ 0).trans (by rw [max_eq_left (by simp)])
  refine eq_vec fun k hk => ?_
  show IntOp.xori (scan .max _ (ix1 (m := 16) k)) 2147483648#32 = _
  rw [scan_run .max _ (⟨k, hk⟩ : Fin 16), h2 k hk]
  exact flip_out ⟨fe key k, by have := fe_le (key := key) k; omega⟩

end Cert.Proof.Route

end
-- ==== Proof.RouteLoops.lean ====
/-
  The routing kernel's loops, one trip each.
-/
module

public import proofs.«01_k».proof.Proof.RouteLanes
public import proofs.«01_k».proof.Proof.SCTools
public import Idealize.ShloMosaic.Lib.VecWindow

@[expose] public section

noncomputable section

namespace Cert.Proof.Route

open Cert.KernelIdeal Cert.KernelIdeal.Gen
open Cert.Proof
open Cert.Proof.Moe (ix1 eq_ix1 w32)
open Cert.Proof.Routing
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 3) (Elt F) ℕ UU ℕ

abbrev hkH : Memref sig .scVector .hbm S512 .i32 := Memref.whole main_v0_scv
abbrev hwH : Memref sig .scVector .hbm S512 .f32 := Memref.whole main_v1_scv
abbrev htH : Memref sig .scVector .hbm S512 .i32 := Memref.whole main_v3_scv
abbrev opH : Memref sig .scVector .hbm S1024 .i32 := Memref.whole main_v4_0_scv
abbrev owH : Memref sig .scVector .hbm S1024 .f32 := Memref.whole main_v4_1_scv
abbrev oaH : Memref sig .scVector .hbm S256 .i32 := Memref.whole main_v4_2_scv
abbrev obH : Memref sig .scVector .hbm S256 .i32 := Memref.whole main_v4_3_scv
abbrev orH : Memref sig .scVector .hbm S16 .i32 := Memref.whole main_v4_4_scv
abbrev onH : Memref sig .scVector .hbm S16 .i32 := Memref.whole main_v4_5_scv
abbrev ofH : Memref sig .scVector .hbm S16 .i32 := Memref.whole main_v4_6_scv
abbrev kV : Memref sig .scVector .vmem S512 .i32 := Memref.whole cc0_scratch0
abbrev wV : Memref sig .scVector .vmem S512 .f32 := Memref.whole cc0_scratch1
abbrev tV : Memref sig .scVector .vmem S512 .i32 := Memref.whole cc0_scratch2
abbrev pV : Memref sig .scVector .vmem S1024 .i32 := Memref.whole cc0_scratch3
abbrev sV : Memref sig .scVector .vmem S1024 .f32 := Memref.whole cc0_scratch4
abbrev aV : Memref sig .scVector .vmem S256 .i32 := Memref.whole cc0_scratch5
abbrev bV : Memref sig .scVector .vmem S256 .i32 := Memref.whole cc0_scratch6
abbrev cV : Memref sig .scVector .vmem S16 .i32 := Memref.whole cc0_scratch7
abbrev rV : Memref sig .scVector .vmem S16 .i32 := Memref.whole cc0_scratch8
abbrev nV : Memref sig .scVector .vmem S16 .i32 := Memref.whole cc0_scratch9
abbrev fV : Memref sig .scVector .vmem S16 .i32 := Memref.whole cc0_scratch10
abbrev xV : Memref sig .scVector .vmem S16 .i32 := Memref.whole cc0_scratch11

variable (d : Dev nD) (L : grid0.Coords)

abbrev thr : Thread nD τ := V d ((L 0).castLE hcore0) ((L 1).castLE hsub0)

theorem off1_eq : ∀ j : Fin k0_t1_loop.trips, k0_off1 j = ![16 * j.val] := by decide +kernel
theorem off2_eq : ∀ j : Fin k0_t2_loop.trips, k0_off2 j = ![16 * j.val] := by decide +kernel
theorem off3_eq : ∀ j : Fin k0_t3_loop.trips, k0_off3 j = ![16 * j.val] := by decide +kernel

instance (j : Fin k0_t1_loop.trips) : ClosedOff (k0_off1 j) := ⟨![16 * j.val], off1_eq j⟩
instance (j : Fin k0_t2_loop.trips) : ClosedOff (k0_off2 j) := ⟨![16 * j.val], off2_eq j⟩
instance (j : Fin k0_t3_loop.trips) : ClosedOff (k0_off3 j) := ⟨![16 * j.val], off3_eq j⟩

/-- The list of lane 15, sixteen times. -/
abbrev fifteen : IVec S16 32 := broadcast S16 15#32

/-- A load of a whole view reads it. -/
theorem readAt_all {κ : Kind} {sp : Space} {s : Shape} {e : EltTy} (v : View sig κ sp s e) (f : v.ty.Contents (Elt F)) :
    v.readAt (Elt F) (LoadRect.whole s) f = v.read (Elt F) f := by
  funext y
  refine congrArg (v.read (Elt F) f) (funext fun a => Fin.ext ?_)
  show 0 + 1 * (y a).val = (y a).val
  omega

/-- Lane 15 of a vector just stored, sixteen times. -/
theorem splat_of {κ : Kind} {sp : Space} {v : View sig κ sp S16 .i32} {inb} {w : Vec F S16 .i32} {l : List (View.Piece (Elt F) S16 .i32)} {f : Vec F S16 .i32}
    (hf : f = v.readCov (⟨Rect.unit (s := S16) ![0] S16.size inb, w⟩ :: l) (LoadRect.whole S16)) {g : ℕ → ℕ} (hw : w = vec g) {n : ℕ} (hn : g 15 = n) (h) :
    loadIdx (F := F) (s := S16) (e := .i32) (t := S16) f ![fifteen] h = vec fun _ => n := by
  have e : f = w := hf.trans ((readAt_all v _).trans (View.read_writes_full v v.junk inb w l))
  rw [e, hw]
  funext x
  exact congrArg w32 hn

/-- Sixteen words of a list of 512, loaded. -/
theorem load16 {κ : Kind} {sp : Space} {e : EltTy} (v : View sig κ sp S512 e) (f : v.ty.Contents (Elt F)) {off : Fin 1 → ℕ} {j : ℕ} (hj : j < 32) (ho : off = ![16 * j])
    (inb : ∀ a, off a + S16.size a ≤ S512.size a) {k : ℕ} (hk : k < 16) :
    v.readAt (Elt F) (Rect.unit (s := S512) off S16.size inb).toLoadRect f (ix1 (m := 16) k) = v.read (Elt F) f (ix1 (m := 512) (16 * j + k)) := by
  subst ho
  refine congrArg (v.read (Elt F) f) (eq_ix1 (m := 512) _ ?_)
  show 16 * j + 1 * (k % 16) = _
  rw [Nat.mod_eq_of_lt hk, Nat.one_mul]

theorem load_keys {κ : Kind} {sp : Space} (v : View sig κ sp S512 .i32) (f : v.ty.Contents (Elt F)) {off : Fin 1 → ℕ} {j : ℕ} (hj : j < 32) (ho : off = ![16 * j])
    (inb : ∀ a, off a + S16.size a ≤ S512.size a) {key : ℕ → ℕ} (hf : ∀ p, p < 512 → v.read (Elt F) f (ix1 (m := 512) p) = w32 (key p)) :
    v.readAt (Elt F) (Rect.unit (s := S512) off S16.size inb).toLoadRect f = vec fun l => key (16 * j + l) :=
  eq_vec fun k hk => (load16 v f hj ho inb hk).trans (hf _ (by omega))

/-- One trip of the clearing loop, on one table. -/
theorem clear_step {κ : Kind} {sp : Space} {e : EltTy} (v : View sig κ sp S1024 e) (f : v.ty.Contents (Elt F)) {off : Fin 1 → ℕ} {j : ℕ} (ho : off = ![16 * j])
    (inb : ∀ a, off a + S16.size a ≤ S1024.size a) (z : Elt F e) (w : Vec F S16 e) (hw : ∀ x, w x = z)
    (h : ∀ y : S1024.Idx, (y 0).val < 16 * j → v.read (Elt F) f y = z) :
    ∀ y : S1024.Idx, (y 0).val < 16 * (j + 1) → v.read (Elt F) (v.writes (Elt F) f [⟨Rect.unit (s := S1024) off S16.size inb, w⟩]) y = z := by
  intro y hy
  rw [View.read_writes_cons_unit v f inb w [] y ho]
  split_ifs with hh
  · exact hw _
  · refine h y ?_
    by_contra hc
    exact hh (Fin.forall_fin_one.mpr ⟨show 16 * j ≤ (y 0).val by omega, show (y 0).val < 16 * j + 16 by omega⟩)

set_option maxHeartbeats 4000000 in
/-- One trip of the clearing loop. -/
theorem clear_trip (fp : Buf (Elt F) ((thr d L).loc cc0_scratch3)) (fs : Buf (Elt F) ((thr d L).loc cc0_scratch4))
    (h1 : k0_cond1 L = 1#1) (j : Fin k0_t1_loop.trips) (x : BitVec 32)
    (hp : ∀ y : S1024.Idx, (y 0).val < 16 * j.val → (fp : Vec F S1024 .i32) y = 0#32)
    (hs : ∀ y : S1024.Idx, (y 0).val < 16 * j.val → (fs : Vec F S1024 .f32) y = Scalar.ofBits .f32 0x00000000#32) :
    iprop(((pV).view.loc (thr d L) ↦{fullShare} fp) ∗ ((sV).view.loc (thr d L) ↦{fullShare} fs))
      ⊢ (wp frame (wpE (defs₀ (F := F)) 𝒱₀ (thr d L) none) Set.univ
          (k0_t1_body L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9 h1 j x)
          fun _ => iprop(∃ (fp' : Buf (Elt F) ((thr d L).loc cc0_scratch3)) (fs' : Buf (Elt F) ((thr d L).loc cc0_scratch4)),
            ⌜(∀ y : S1024.Idx, (y 0).val < 16 * (j.val + 1) → (fp' : Vec F S1024 .i32) y = 0#32)
              ∧ ∀ y : S1024.Idx, (y 0).val < 16 * (j.val + 1) → (fs' : Vec F S1024 .f32) y = Scalar.ofBits .f32 0x00000000#32⌝
            ∗ ((pV).view.loc (thr d L) ↦{fullShare} fp') ∗ ((sV).view.loc (thr d L) ↦{fullShare} fs')) : sProp 𝕄) := by
  unfold k0_t1_body
  iintro ⟨Hp0, Hs0⟩
  ihave Hp := (Entails.of_eq (show ((thr d L).loc cc0_scratch3 ↦{fullShare} fp : sProp 𝕄) = ((pV).view.loc (thr d L) ↦{fullShare} fp) from rfl)) $$ Hp0
  ihave Hs := (Entails.of_eq (show ((thr d L).loc cc0_scratch4 ↦{fullShare} fs : sProp 𝕄) = ((sV).view.loc (thr d L) ↦{fullShare} fs) from rfl)) $$ Hs0
  sl_exec
  sl_step
  iexists _; iexists _
  isplitr [Hp Hs]
  · ipureintro
    exact ⟨clear_step (pV).view fp (off1_eq j) (k0_off1_inb L j h1) _ k0_pay31 (fun _ => rfl) hp, clear_step (sV).view fs (off1_eq j) (k0_off1_inb L j h1) _ (k0_pay32 (F := F)) (fun _ => rfl) hs⟩
  isplitl [Hp]; · iexact Hp
  iexact Hs

/-- The counts of the first three experts, … of all. -/
theorem hist_vec (kv : ℕ → ℕ) (hkv : ∀ l, l < 16 → kv l < 8) (g : ℕ → ℕ) :
    k0_pay33 (F := F) (vec g) (k0_pay14 (F := F) (iota .scVector S16 32 [0] iota_S16_d0_w32_scVector)
      (k0_pay9 (F := F) (iota .scVector S16 32 [0] iota_S16_d0_w32_scVector) k0_pay31 (vec fun _ => upTo kv 0 16) (vec fun _ => upTo kv 1 16) (vec fun _ => upTo kv 2 16))
      3#32 (vec fun _ => upTo kv 3 16) (vec fun _ => upTo kv 4 16) (vec fun _ => upTo kv 5 16) (vec fun _ => upTo kv 6 16)) 7#32 (vec fun _ => upTo kv 7 16)
      = vec fun l => g l + upTo kv l 16 := by
  unfold k0_pay33 k0_pay14 k0_pay9
  dsimp only
  rw [zeros_vec, show (vec fun _ => 0) = vec (H kv 0) from rfl, H_step kv (e := 0) (by decide), H_step kv (e := 1) (by decide), H_step kv (e := 2) (by decide),
    H_step kv (e := 3) (by decide), H_step kv (e := 4) (by decide), H_step kv (e := 5) (by decide), H_step kv (e := 6) (by decide), H_step kv (e := 7) (by decide),
    H_all kv hkv, add_vec]

theorem hist_vec' (kv : ℕ → ℕ) (hkv : ∀ l, l < 16 → kv l < 8) (g : ℕ → ℕ) :
    k0_pay5 (F := F) (iota .scVector S16 32 [0] iota_S16_d0_w32_scVector) (vec g) (k0_pay29 (F := F) (iota .scVector S16 32 [0] iota_S16_d0_w32_scVector)
      (k0_pay24 (F := F) (iota .scVector S16 32 [0] iota_S16_d0_w32_scVector) k0_pay31 (vec fun _ => upTo kv 0 16)) (vec fun _ => upTo kv 1 16) (vec fun _ => upTo kv 2 16)
       (vec fun _ => upTo kv 3 16) (vec fun _ => upTo kv 4 16)) (vec fun _ => upTo kv 5 16) (vec fun _ => upTo kv 6 16) (vec fun _ => upTo kv 7 16)
      = vec fun l => g l + upTo kv l 16 := by
  unfold k0_pay5 k0_pay29 k0_pay24
  dsimp only
  rw [zeros_vec, show (vec fun _ => 0) = vec (H kv 0) from rfl, H_step kv (e := 0) (by decide), H_step kv (e := 1) (by decide), H_step kv (e := 2) (by decide),
    H_step kv (e := 3) (by decide), H_step kv (e := 4) (by decide), H_step kv (e := 5) (by decide), H_step kv (e := 6) (by decide), H_step kv (e := 7) (by decide),
    H_all kv hkv, add_vec]

set_option maxHeartbeats 4000000 in
/-- One trip of the counting loop. -/
theorem count_trip (fk : Buf (Elt F) ((thr d L).loc cc0_scratch0)) (fc : Buf (Elt F) ((thr d L).loc cc0_scratch7)) (fx : Buf (Elt F) ((thr d L).loc cc0_scratch11))
    (h1 : k0_cond1 L = 1#1) (hw : k0_chk1 L fifteen) (key : ℕ → ℕ) (hk : ∀ p, p < 512 → key p < 8)
    (hfk : ∀ p, p < 512 → (fk : Vec F S512 .i32) (ix1 (m := 512) p) = w32 (key p))
    (j : Fin k0_t2_loop.trips) (x : BitVec 32) (hfc : fc = (vec fun l => upTo key l (16 * j.val) : Vec F S16 .i32)) :
    iprop(((kV).view.loc (thr d L) ↦{fullShare} fk) ∗ ((cV).view.loc (thr d L) ↦{fullShare} fc) ∗ ((xV).view.loc (thr d L) ↦{fullShare} fx))
      ⊢ (wp frame (wpE (defs₀ (F := F)) 𝒱₀ (thr d L) none) Set.univ
          (k0_t2_body L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9 h1 (iota .scVector S16 32 [0] iota_S16_d0_w32_scVector) fifteen hw j x)
          fun _ => iprop(((kV).view.loc (thr d L) ↦{fullShare} fk)
            ∗ ((cV).view.loc (thr d L) ↦{fullShare} (vec fun l => upTo key l (16 * (j.val + 1)) : Vec F S16 .i32)) ∗ ∃ fx', ((xV).view.loc (thr d L) ↦{fullShare} fx')) : sProp 𝕄) := by
  unfold k0_t2_body
  simp only [k0_part1_eq_skeleton, k0_part2_eq_skeleton]
  unfold k0_part1_skel k0_part2_skel SparseCore.vectorLoadIdx
  iintro ⟨Hk0, Hc0, Hx0⟩
  ihave Hk := (Entails.of_eq (show ((thr d L).loc cc0_scratch0 ↦{fullShare} fk : sProp 𝕄) = ((kV).view.loc (thr d L) ↦{fullShare} fk) from rfl)) $$ Hk0
  ihave Hc := (Entails.of_eq (show ((thr d L).loc cc0_scratch7 ↦{fullShare} fc : sProp 𝕄) = ((cV).view.loc (thr d L) ↦{fullShare} fc) from rfl)) $$ Hc0
  ihave Hx := (Entails.of_eq (show ((thr d L).loc cc0_scratch11 ↦{fullShare} fx : sProp 𝕄) = ((xV).view.loc (thr d L) ↦{fullShare} fx) from rfl)) $$ Hx0
  sl_exec
  sl_step
  dsimp only
  have hj : j.val < 32 := j.isLt
  have hkv : ∀ l, l < 16 → key (16 * j.val + l) < 8 := fun l hl => hk _ (by omega)
  have hv : View.readAt (Elt F) (kV).view (Rect.unit (s := S512) (k0_off2 j) S16.size (k0_off2_inb L j h1)).toLoadRect fk = vec fun l => key (16 * j.val + l) :=
    load_keys (kV).view fk hj (off2_eq j) _ hfk
  have hp : ∀ e, e < 8 → scan .sum (extui 32 (cmpi .eq (View.readAt (Elt F) (kV).view (Rect.unit (s := S512) (k0_off2 j) S16.size (k0_off2_inb L j h1)).toLoadRect fk) (broadcast S16 (w32 e))) natLt_1_32)
      = vec fun l => upTo (fun l => key (16 * j.val + l)) e (l + 1) := fun e he => by rw [hv]; exact scan_is _ hkv he _
  have e0 := splat_of (f := count_trip.sl.f d L fk h1 j) rfl (hp 0 (by decide)) rfl
  have e1 := splat_of (f := count_trip.sl.f_1 d L fk h1 j) rfl (hp 1 (by decide)) rfl
  have e2 := splat_of (f := count_trip.sl.f_2 d L fk h1 j) rfl (hp 2 (by decide)) rfl
  have e3 := splat_of (f := count_trip.sl.f_3 d L fk fc h1 hw j) rfl (hp 3 (by decide)) rfl
  have e4 := splat_of (f := count_trip.sl.f_4 d L fk fc h1 hw j) rfl (hp 4 (by decide)) rfl
  have e5 := splat_of (f := count_trip.sl.f_5 d L fk fc h1 hw j) rfl (hp 5 (by decide)) rfl
  have e6 := splat_of (f := count_trip.sl.f_6 d L fk fc h1 hw j) rfl (hp 6 (by decide)) rfl
  have e7 := splat_of (f := count_trip.sl.f_7 d L fk fc h1 hw j) rfl (hp 7 (by decide)) rfl
  have hc : View.readAt (Elt F) (View.whole cc0_scratch7) (Rect.unit (s := S16) ![0] ![16] inb_S16_S16_0).toLoadRect fc = vec fun l => upTo key l (16 * j.val) := by
    refine (View.readAt_full (View.whole cc0_scratch7) fc (off := ![0]) inb_S16_S16_0).trans ?_
    rw [View.read_whole, hfc]
  isplitl [Hk]; · iexact Hk
  isplitl [Hc]
  · rw [e0, e1, e2, e3, e4, e5, e6, e7, hc, hist_vec _ hkv]
    have hfin : ∀ w : Vec F S16 .i32, (View.whole cc0_scratch7).writes (Elt F) fc [⟨Rect.unit (s := S16) ![0] ![16] inb_S16_S16_0, w⟩] = w := fun w => by
      rw [← View.read_whole (Val := Elt F) cc0_scratch7 ((View.whole cc0_scratch7).writes (Elt F) fc [⟨Rect.unit (s := S16) ![0] ![16] inb_S16_S16_0, w⟩])]
      exact View.read_writes_full _ _ _ _ _
    rw [hfin, show (vec fun l => upTo key l (16 * (j.val + 1)) : Vec F S16 .i32) = vec fun l => upTo key l (16 * j.val) + upTo (fun l => key (16 * j.val + l)) l 16
      from vec_congr fun l _ => upTo_add l (16 * j.val) 16]
    iexact Hc
  iexists _; iexact Hx

end Cert.Proof.Route

end
-- ==== Proof.RoutePlace.lean ====
/-
  One trip of the routing kernel's placing loop: sixteen pairs go to their rows.
-/
module

public import proofs.«01_k».proof.Proof.RouteLoops
public import proofs.«01_k».proof.Proof.SCTools

@[expose] public section

noncomputable section

namespace Cert.Proof.Route

open Cert.KernelIdeal Cert.KernelIdeal.Gen
open Cert.Proof
open Cert.Proof.Moe (ix1 eq_ix1 w32)
open Cert.Proof.Routing
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 3) (Elt F) ℕ UU ℕ

variable (d : Dev nD) (L : grid0.Coords)

/-- A left fold along the lanes, from the states between. -/
theorem foldl_lanes {α : Type} {n : ℕ} (st : α → Fin n → α) (g : ℕ → α) (h : ∀ k : Fin n, st (g k.val) k = g (k.val + 1)) :
    (List.finRange n).foldl st (g 0) = g n := by
  induction n with
  | zero => rfl
  | succ n ih =>
    rw [List.finRange_succ_last, List.foldl_append, List.foldl_map]
    have h' := ih (fun x k => st x k.castSucc) fun k => h k.castSucc
    rw [h']
    exact h (Fin.last n)

/-- A scatter, lane by lane. -/
theorem storeIdx_steps {s : Shape} {e : EltTy} (f : Vec F s e) (idxs : Fin s.rank → IVec S16 32) (v : Vec F S16 e) (mask : IVec S16 1)
    (h : ∀ a x, (idxs a x).toNat < s.size a) (g : ℕ → Vec F s e) (h0 : f = g 0)
    (hg : ∀ k : Fin 16, ∀ j, g (k.val + 1) j = if mask (ix1 (m := 16) k.val) = 1#1 ∧ (∀ a, (j a).val = (idxs a (ix1 (m := 16) k.val)).toNat) then v (ix1 (m := 16) k.val) else g k.val j) :
    storeIdx (F := F) (d := ![16]) f idxs v mask false h = g 16 := by
  have hl : ∀ k : Fin 16, (Shape.ofLane (d := ![16]) k : S16.Idx) = ix1 (m := 16) k.val := fun k => eq_ix1 (m := 16) _ rfl
  rw [h0]
  unfold storeIdx
  refine foldl_lanes (n := 16) _ g fun k => ?_
  funext j
  rw [hg k j, ← hl k]
  simp only [idxAt, Bool.false_eq_true, ↓reduceIte]
  by_cases hm : mask (Shape.ofLane (d := ![16]) k) = 1#1
  · rw [if_pos (show mask (Shape.ofLane (d := ![16]) k) = 1 from hm)]
    by_cases ha : ∀ a, (j a).val = (idxs a (Shape.ofLane (d := ![16]) k)).toNat
    · rw [if_pos ha]; exact (if_pos ⟨hm, ha⟩).symm
    · rw [if_neg ha]; exact (if_neg fun hh => ha hh.2).symm
  · rw [if_neg (show ¬ mask (Shape.ofLane (d := ![16]) k) = 1 from hm), if_neg fun hh => hm hh.1]

theorem toNat_vec (f : ℕ → ℕ) {k : ℕ} (hk : k < 16) (hf : f k < 4294967296) : (vec f (ix1 (m := 16) k)).toNat = f k := by
  rw [vec_ix f hk, BitVec.toNat_ofNat]; exact Nat.mod_eq_of_lt hf

/-- Sixteen words below a table's size index it. -/
theorem within {s : Shape} {n : ℕ} {f : ℕ → ℕ} (hs : s = ⟨1, ![n]⟩) (hf : ∀ k, k < 16 → f k < n) (hn : n ≤ 1024 := by decide) :
    ∀ (a : Fin 1) (x : S16.Idx), ((![vec f] : Fin 1 → IVec S16 32) a x).toNat < (![n] : Fin 1 → ℕ) a := by
  intro a x
  rw [Subsingleton.elim a 0]
  have h : (x 0).val < 16 := (x 0).isLt
  have := hf _ h
  show (w32 (f (x 0).val)).toNat < n
  rw [BitVec.toNat_ofNat, Nat.mod_eq_of_lt (by omega)]
  exact this

/-- Sixteen pairs placed in a table of rows. -/
theorem place {e : EltTy} {key : ℕ → ℕ} {val : ℕ → Elt F e} {z : Elt F e} {j : ℕ} (v : Vec F S16 e) (hv : ∀ k, k < 16 → v (ix1 (m := 16) k) = val (16 * j + k))
    (hd : ∀ k, k < 16 → dest key (16 * j + k) < 1024) (f : Vec F S1024 e) (hf : f = fun y => placed key val z (16 * j) (y 0).val)
    {i : IVec S16 32} (hi : i = vec fun l => dest key (16 * j + l)) (h) :
    storeIdx (F := F) (s := S1024) (d := ![16]) f ![i] v (fun _ => 1#1) false h = fun y => placed key val z (16 * (j + 1)) (y 0).val := by
  subst hi
  refine storeIdx_steps f _ v _ h (fun k y => placed key val z (16 * j + k) (y 0).val) hf fun k y => ?_
  have hc : (∀ a, (y a).val = ((![vec fun l => dest key (16 * j + l)] : Fin 1 → IVec S16 32) a (ix1 (m := 16) k.val)).toNat) ↔ (y 0).val = dest key (16 * j + k.val) := by
    rw [Fin.forall_fin_one]
    show (y 0).val = (vec (fun l => dest key (16 * j + l)) (ix1 (m := 16) k.val)).toNat ↔ _
    rw [toNat_vec _ k.isLt (by have := hd k.val k.isLt; omega)]
  show placed key val z (16 * j + k.val + 1) (y 0).val = _
  rw [hv k.val k.isLt]
  by_cases hy : (y 0).val = dest key (16 * j + k.val)
  · rw [if_pos ⟨rfl, hc.mpr hy⟩]; exact if_pos hy
  · rw [if_neg fun hh => hy (hc.mp hh.2)]; exact if_neg hy

/-- The rows of sixteen pairs, those of one parity, entered by token. -/
theorem enter {val : ℕ → BitVec 32} {f0 : ℕ → BitVec 32} {b j : ℕ} (hj : j < 32) (v : IVec S16 32) (hv : ∀ k, k < 16 → v (ix1 (m := 16) k) = val (16 * j + k))
    (mask : IVec S16 1) (hm : ∀ k : Fin 16, mask (ix1 (m := 16) k.val) = if k.val % 2 = b then 1#1 else 0#1)
    (f : Vec F S256 .i32) (hf : f = fun y => rowOf b val f0 (16 * j) (y 0).val) (h) :
    storeIdx (F := F) (s := S256) (e := .i32) (d := ![16]) f ![vec fun l => (16 * j + l) / 2] v mask false h = fun y => rowOf b val f0 (16 * (j + 1)) (y 0).val := by
  refine storeIdx_steps f _ v _ h (fun k y => rowOf b val f0 (16 * j + k) (y 0).val) hf fun k y => ?_
  have hkk := k.isLt
  have hc : (∀ a, (y a).val = ((![vec fun l => (16 * j + l) / 2] : Fin 1 → IVec S16 32) a (ix1 (m := 16) k.val)).toNat) ↔ (y 0).val = (16 * j + k.val) / 2 := by
    rw [Fin.forall_fin_one]
    show (y 0).val = (vec (fun l => (16 * j + l) / 2) (ix1 (m := 16) k.val)).toNat ↔ _
    rw [toNat_vec _ k.isLt (by omega)]
  have hb' : (mask (ix1 (m := 16) k.val) = 1#1) ↔ (16 * j + k.val) % 2 = b := by
    rw [hm k, show (16 * j + k.val) % 2 = k.val % 2 by omega]
    by_cases hb : k.val % 2 = b
    · rw [if_pos hb]; exact ⟨fun _ => hb, fun _ => rfl⟩
    · rw [if_neg hb]; exact ⟨fun h => absurd h (by decide), fun h => absurd h hb⟩
  show rowOf b val f0 (16 * j + k.val + 1) (y 0).val = _
  rw [hv k.val k.isLt]
  by_cases hy : (16 * j + k.val) % 2 = b ∧ (y 0).val = (16 * j + k.val) / 2
  · rw [if_pos ⟨hb'.mpr hy.1, hc.mpr hy.2⟩]; exact if_pos hy
  · rw [if_neg fun hh => hy ⟨hb'.mp hh.1, hc.mp hh.2⟩]; exact if_neg hy

/-- Lanes of a table of sixteen, looked up. -/
theorem look {f v : Vec F S16 .i32} {g kv : ℕ → ℕ} (hf : f = vec g) (hv : v = vec kv) (hkv : ∀ l, l < 16 → kv l < 8) (h) :
    loadIdx (F := F) (s := S16) (e := .i32) (t := S16) f ![v] h = vec fun l => g (kv l) := by
  subst hf hv
  refine eq_vec fun k hk => ?_
  have := hkv k hk
  show w32 (g (vec kv (ix1 (m := 16) k)).toNat) = _
  rw [toNat_vec kv hk (by omega)]

/-- The rows the sixteen pairs go to. -/
theorem dest_vec (key : ℕ → ℕ) (j : ℕ) (hkv : ∀ l, l < 16 → key (16 * j + l) < 8) (h1 : 1 < 32) :
    k0_pay19 (F := F) k0_pay30 (vec fun l => key (16 * j + l)) (vec fun l => upTo key (key (16 * j + l)) (16 * j)) (vec fun l => ro key (key (16 * j + l)))
      (k0_pay16 (F := F) k0_pay30 k0_pay31 (vec fun l => key (16 * j + l))) (k0_pay17 (F := F) (vec fun l => key (16 * j + l))) (k0_pay18 (F := F) (vec fun l => key (16 * j + l)))
      = vec fun l => dest key (16 * j + l) := by
  unfold k0_pay19 k0_pay16 k0_pay18 k0_pay17
  dsimp only
  rw [ones_vec, zeros_vec, show (vec fun _ => 0) = vec (E (fun l => key (16 * j + l)) 0) from rfl, E_step (fun l => key (16 * j + l)) hkv (e := 0) (by decide), E_step (fun l => key (16 * j + l)) hkv (e := 1) (by decide), E_step (fun l => key (16 * j + l)) hkv (e := 2) (by decide),
    E_step (fun l => key (16 * j + l)) hkv (e := 3) (by decide), E_step (fun l => key (16 * j + l)) hkv (e := 4) (by decide), E_step (fun l => key (16 * j + l)) hkv (e := 5) (by decide), E_step (fun l => key (16 * j + l)) hkv (e := 6) (by decide), E_step (fun l => key (16 * j + l)) hkv (e := 7) (by decide), E_all _ hkv, add_vec, add_vec]
  refine vec_congr fun l _ => ?_
  unfold dest
  rw [upTo_add, Nat.add_assoc]

set_option maxHeartbeats 8000000 in
/-- One trip of the placing loop. -/
theorem place_trip (fk : Buf (Elt F) ((thr d L).loc cc0_scratch0)) (fw : Buf (Elt F) ((thr d L).loc cc0_scratch1)) (ft : Buf (Elt F) ((thr d L).loc cc0_scratch2))
    (fp : Buf (Elt F) ((thr d L).loc cc0_scratch3)) (fs : Buf (Elt F) ((thr d L).loc cc0_scratch4)) (fa : Buf (Elt F) ((thr d L).loc cc0_scratch5)) (fb : Buf (Elt F) ((thr d L).loc cc0_scratch6))
    (fc : Buf (Elt F) ((thr d L).loc cc0_scratch7)) (fr : Buf (Elt F) ((thr d L).loc cc0_scratch8)) (fx : Buf (Elt F) ((thr d L).loc cc0_scratch11))
    (h1 : k0_cond1 L = 1#1) (hw : k0_chk1 L fifteen) (key : ℕ → ℕ) (hk : ∀ p, p < 512 → key p < 8) (a0 b0 : ℕ → BitVec 32)
    (hfk : ∀ p, p < 512 → (fk : Vec F S512 .i32) (ix1 (m := 512) p) = w32 (key p)) (hft : ∀ p, p < 512 → (ft : Vec F S512 .i32) (ix1 (m := 512) p) = w32 (p / 2))
    (j : Fin k0_t3_loop.trips) (x : BitVec 32) (hfc : fc = (vec fun l => upTo key l (16 * j.val) : Vec F S16 .i32)) (hfr : fr = (vec (ro key) : Vec F S16 .i32))
    (hfp : fp = ((fun y => placed key (fun p => w32 (p / 2)) 0#32 (16 * j.val) (y 0).val) : Vec F S1024 .i32))
    (hfs : fs = ((fun y => placed key (fun p => (fw : Vec F S512 .f32) (ix1 (m := 512) p)) (Scalar.ofBits .f32 0x00000000#32) (16 * j.val) (y 0).val) : Vec F S1024 .f32))
    (hfa : fa = ((fun y => rowOf 0 (fun p => w32 (dest key p)) a0 (16 * j.val) (y 0).val) : Vec F S256 .i32))
    (hfb : fb = ((fun y => rowOf 1 (fun p => w32 (dest key p)) b0 (16 * j.val) (y 0).val) : Vec F S256 .i32)) :
    iprop(((kV).view.loc (thr d L) ↦{fullShare} fk) ∗ ((wV).view.loc (thr d L) ↦{fullShare} fw) ∗ ((tV).view.loc (thr d L) ↦{fullShare} ft)
        ∗ ((pV).view.loc (thr d L) ↦{fullShare} fp) ∗ ((sV).view.loc (thr d L) ↦{fullShare} fs) ∗ ((aV).view.loc (thr d L) ↦{fullShare} fa) ∗ ((bV).view.loc (thr d L) ↦{fullShare} fb)
        ∗ ((cV).view.loc (thr d L) ↦{fullShare} fc) ∗ ((rV).view.loc (thr d L) ↦{fullShare} fr) ∗ ((xV).view.loc (thr d L) ↦{fullShare} fx))
      ⊢ (wp frame (wpE (defs₀ (F := F)) 𝒱₀ (thr d L) none) Set.univ
          (k0_t3_body L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9 h1 (iota .scVector S16 32 [0] iota_S16_d0_w32_scVector) k0_pay30 k0_pay31 fifteen hw j x)
          fun _ => iprop(((kV).view.loc (thr d L) ↦{fullShare} fk) ∗ ((wV).view.loc (thr d L) ↦{fullShare} fw) ∗ ((tV).view.loc (thr d L) ↦{fullShare} ft)
            ∗ ((pV).view.loc (thr d L) ↦{fullShare} ((fun y => placed key (fun p => w32 (p / 2)) 0#32 (16 * (j.val + 1)) (y 0).val) : Vec F S1024 .i32))
            ∗ ((sV).view.loc (thr d L) ↦{fullShare} ((fun y => placed key (fun p => (fw : Vec F S512 .f32) (ix1 (m := 512) p)) (Scalar.ofBits .f32 0x00000000#32) (16 * (j.val + 1)) (y 0).val) : Vec F S1024 .f32))
            ∗ ((aV).view.loc (thr d L) ↦{fullShare} ((fun y => rowOf 0 (fun p => w32 (dest key p)) a0 (16 * (j.val + 1)) (y 0).val) : Vec F S256 .i32))
            ∗ ((bV).view.loc (thr d L) ↦{fullShare} ((fun y => rowOf 1 (fun p => w32 (dest key p)) b0 (16 * (j.val + 1)) (y 0).val) : Vec F S256 .i32))
            ∗ ((cV).view.loc (thr d L) ↦{fullShare} (vec fun l => upTo key l (16 * (j.val + 1)) : Vec F S16 .i32)) ∗ ((rV).view.loc (thr d L) ↦{fullShare} fr)
            ∗ ∃ fx', ((xV).view.loc (thr d L) ↦{fullShare} fx')) : sProp 𝕄) := by
  unfold k0_t3_body
  simp only [k0_part3_eq_skeleton, k0_part4_eq_skeleton, k0_part5_eq_skeleton]
  unfold k0_part3_skel k0_part4_skel k0_part5_skel SparseCore.vectorLoadIdx SparseCore.vectorStoreIdx
  iintro ⟨Hk0, Hw0, Ht0, Hp0, Hs0, Ha0, Hb0, Hc0, Hr0, Hx0⟩
  ihave Hk := (Entails.of_eq (show ((thr d L).loc cc0_scratch0 ↦{fullShare} fk : sProp 𝕄) = ((kV).view.loc (thr d L) ↦{fullShare} fk) from rfl)) $$ Hk0
  ihave Hw := (Entails.of_eq (show ((thr d L).loc cc0_scratch1 ↦{fullShare} fw : sProp 𝕄) = ((wV).view.loc (thr d L) ↦{fullShare} fw) from rfl)) $$ Hw0
  ihave Ht := (Entails.of_eq (show ((thr d L).loc cc0_scratch2 ↦{fullShare} ft : sProp 𝕄) = ((tV).view.loc (thr d L) ↦{fullShare} ft) from rfl)) $$ Ht0
  ihave Hp := (Entails.of_eq (show ((thr d L).loc cc0_scratch3 ↦{fullShare} fp : sProp 𝕄) = ((pV).view.loc (thr d L) ↦{fullShare} fp) from rfl)) $$ Hp0
  ihave Hs := (Entails.of_eq (show ((thr d L).loc cc0_scratch4 ↦{fullShare} fs : sProp 𝕄) = ((sV).view.loc (thr d L) ↦{fullShare} fs) from rfl)) $$ Hs0
  ihave Ha := (Entails.of_eq (show ((thr d L).loc cc0_scratch5 ↦{fullShare} fa : sProp 𝕄) = ((aV).view.loc (thr d L) ↦{fullShare} fa) from rfl)) $$ Ha0
  ihave Hb := (Entails.of_eq (show ((thr d L).loc cc0_scratch6 ↦{fullShare} fb : sProp 𝕄) = ((bV).view.loc (thr d L) ↦{fullShare} fb) from rfl)) $$ Hb0
  ihave Hc := (Entails.of_eq (show ((thr d L).loc cc0_scratch7 ↦{fullShare} fc : sProp 𝕄) = ((cV).view.loc (thr d L) ↦{fullShare} fc) from rfl)) $$ Hc0
  ihave Hr := (Entails.of_eq (show ((thr d L).loc cc0_scratch8 ↦{fullShare} fr : sProp 𝕄) = ((rV).view.loc (thr d L) ↦{fullShare} fr) from rfl)) $$ Hr0
  ihave Hx := (Entails.of_eq (show ((thr d L).loc cc0_scratch11 ↦{fullShare} fx : sProp 𝕄) = ((xV).view.loc (thr d L) ↦{fullShare} fx) from rfl)) $$ Hx0
  have hj : j.val < 32 := j.isLt
  have hkv : ∀ l, l < 16 → key (16 * j.val + l) < 8 := fun l hl => hk _ (by omega)
  have hv : View.readAt (Elt F) (kV).view (Rect.unit (s := S512) (k0_off3 j) S16.size (k0_off3_inb L j h1)).toLoadRect fk = vec fun l => key (16 * j.val + l) :=
    load_keys (kV).view fk hj (off3_eq j) _ hfk
  have ht : View.readAt (Elt F) (tV).view (Rect.unit (s := S512) (k0_off3 j) S16.size (k0_off3_inb L j h1)).toLoadRect ft = vec fun l => (16 * j.val + l) / 2 :=
    load_keys (tV).view ft hj (off3_eq j) _ hft
  have hd : ∀ k, k < 16 → dest key (16 * j.val + k) < 1024 := fun k hk' => dest_lt_1024 hk (by omega)
  have c2 : k0_chk2 L (vec fun l => key (16 * j.val + l)) :=
    ⟨fun _ => within (s := S16) rfl fun l hl => by have := hkv l hl; omega, fun _ => within (s := S16) rfl fun l hl => by have := hkv l hl; omega⟩
  have c4 : k0_chk4 L (vec fun l => (16 * j.val + l) / 2) := ⟨fun _ => within (s := S256) rfl fun l hl => by omega, fun _ => within (s := S256) rfl fun l hl => by omega⟩
  have hD : k0_pay19 (F := F) k0_pay30 (vec fun l => key (16 * j.val + l))
      (loadIdx (F := F) (s := S16) (e := .i32) (t := S16) (View.readAt (Elt F) (cV).view (LoadRect.whole S16) fc) ![vec fun l => key (16 * j.val + l)] (k0_idx9_inb L _ c2 h1))
      (loadIdx (F := F) (s := S16) (e := .i32) (t := S16) (View.readAt (Elt F) (rV).view (LoadRect.whole S16) fr) ![vec fun l => key (16 * j.val + l)] (k0_idx10_inb L _ c2 h1))
      (k0_pay16 (F := F) k0_pay30 k0_pay31 (vec fun l => key (16 * j.val + l))) (k0_pay17 (F := F) (vec fun l => key (16 * j.val + l))) (k0_pay18 (F := F) (vec fun l => key (16 * j.val + l)))
      = vec fun l => dest key (16 * j.val + l) := by
    rw [look ((readAt_all (cV).view fc).trans hfc) rfl hkv (k0_idx9_inb L _ c2 h1), look ((readAt_all (rV).view fr).trans hfr) rfl hkv (k0_idx10_inb L _ c2 h1)]
    exact dest_vec key j.val hkv (by decide)
  sl_exec
  have hD' : place_trip.sl.v109 d L fw fc fr h1 key j c2 c4 = vec fun l => dest key (16 * j.val + l) := hD
  have c3 : k0_chk3 L (place_trip.sl.v109 d L fw fc fr h1 key j c2 c4) := by
    rw [hD']; exact ⟨fun _ => within (s := S1024) rfl hd, fun _ => within (s := S1024) rfl hd⟩
  sl_exec
  sl_step
  dsimp only
  have hp : ∀ e, e < 8 → scan .sum (extui 32 (cmpi .eq (vec fun l => key (16 * j.val + l)) (broadcast S16 (w32 e))) natLt_1_32)
      = vec fun l => upTo (fun l => key (16 * j.val + l)) e (l + 1) := fun e he => scan_is _ hkv he _
  have e0 := splat_of (f := place_trip.sl.f d L fw fc fr h1 key j c2 c4) rfl (hp 0 (by decide)) rfl
  have e1 := splat_of (f := place_trip.sl.f_1 d L fw fc fr h1 key j c2 c4) rfl (hp 1 (by decide)) rfl
  have e2 := splat_of (f := place_trip.sl.f_2 d L fw fc fr h1 key j c2 c4) rfl (hp 2 (by decide)) rfl
  have e3 := splat_of (f := place_trip.sl.f_3 d L fw fc fr h1 key j c2 c4) rfl (hp 3 (by decide)) rfl
  have e4 := splat_of (f := place_trip.sl.f_4 d L fw fc fr h1 key j c2 c4) rfl (hp 4 (by decide)) rfl
  have e5 := splat_of (f := place_trip.sl.f_5 d L fw fc fr h1 key j c2 c4) rfl (hp 5 (by decide)) rfl
  have e6 := splat_of (f := place_trip.sl.f_6 d L fw fc fr h1 key j c2 c4) rfl (hp 6 (by decide)) rfl
  have e7 := splat_of (f := place_trip.sl.f_7 d L fw fc fr h1 key j c2 c4) rfl (hp 7 (by decide)) rfl
  have hc : View.readAt (Elt F) (View.whole cc0_scratch7) (Rect.unit (s := S16) ![0] ![16] inb_S16_S16_0).toLoadRect fc = vec fun l => upTo key l (16 * j.val) := by
    refine (View.readAt_full (View.whole cc0_scratch7) fc (off := ![0]) inb_S16_S16_0).trans ?_
    rw [View.read_whole, hfc]
  have wp : ∀ w : Vec F S1024 .i32, (View.whole cc0_scratch3).writes (Elt F) fp [⟨Rect.whole S1024, w⟩] = w := fun w => View.read_writes_whole (View.whole cc0_scratch3) fp w
  have ws : ∀ w : Vec F S1024 .f32, (View.whole cc0_scratch4).writes (Elt F) fs [⟨Rect.whole S1024, w⟩] = w := fun w => View.read_writes_whole (View.whole cc0_scratch4) fs w
  have wa : ∀ w : Vec F S256 .i32, (View.whole cc0_scratch5).writes (Elt F) fa [⟨Rect.whole S256, w⟩] = w := fun w => View.read_writes_whole (View.whole cc0_scratch5) fa w
  have wb : ∀ w : Vec F S256 .i32, (View.whole cc0_scratch6).writes (Elt F) fb [⟨Rect.whole S256, w⟩] = w := fun w => View.read_writes_whole (View.whole cc0_scratch6) fb w
  isplitl [Hk]; · iexact Hk
  isplitl [Hw]; · iexact Hw
  isplitl [Ht]; · iexact Ht
  isplitl [Hp]
  · rw [wp, place (key := key) (val := fun p => w32 (p / 2)) (z := 0#32) (j := j.val) (e := .i32) (vec fun l => (16 * j.val + l) / 2) (fun k hk' => vec_ix _ hk') hd
      (View.readAt (Elt F) (View.whole cc0_scratch3) (LoadRect.whole S1024) fp)
      ((readAt_all (View.whole cc0_scratch3) fp).trans hfp) hD']
    iexact Hp
  isplitl [Hs]
  · rw [ws, place (key := key) (val := fun p => (fw : Vec F S512 .f32) (ix1 (m := 512) p)) (z := Scalar.ofBits .f32 0x00000000#32) (j := j.val) (e := .f32)
      (View.readAt (Elt F) (View.whole cc0_scratch1) (Rect.unit (s := S512) (k0_off3 j) ![16] (k0_off3_inb L j h1)).toLoadRect fw)
      (fun k hk' => load16 (View.whole cc0_scratch1) fw hj (off3_eq j) _ hk') hd
      (View.readAt (Elt F) (View.whole cc0_scratch4) (LoadRect.whole S1024) fs)
      ((readAt_all (View.whole cc0_scratch4) fs).trans hfs) hD']
    iexact Hs
  isplitl [Ha]
  · rw [wa, enter (val := fun p => w32 (dest key p)) (f0 := a0) (b := 0) hj (place_trip.sl.v109 d L fw fc fr h1 key j c2 c4) (fun k hk' => (congrFun hD' _).trans (vec_ix _ hk')) (k0_pay21 (iota .scVector S16 32 [0] iota_S16_d0_w32_scVector) k0_pay30) (fun k => by rw [iota_vec, ones_vec]; exact even_vec k)
      (View.readAt (Elt F) (View.whole cc0_scratch5) (LoadRect.whole S256) fa)
      ((readAt_all (View.whole cc0_scratch5) fa).trans hfa)]
    iexact Ha
  isplitl [Hb]
  · rw [wb, enter (val := fun p => w32 (dest key p)) (f0 := b0) (b := 1) hj (place_trip.sl.v109 d L fw fc fr h1 key j c2 c4) (fun k hk' => (congrFun hD' _).trans (vec_ix _ hk')) (k0_pay22 (iota .scVector S16 32 [0] iota_S16_d0_w32_scVector) k0_pay30) (fun k => by rw [iota_vec, ones_vec]; exact odd_vec k)
      (View.readAt (Elt F) (View.whole cc0_scratch6) (LoadRect.whole S256) fb)
      ((readAt_all (View.whole cc0_scratch6) fb).trans hfb)]
    iexact Hb
  isplitl [Hc]
  · rw [e0, e1, e2, e3, e4, e5, e6, e7, hc, hist_vec' _ hkv]
    have hfin : ∀ w : Vec F S16 .i32, (View.whole cc0_scratch7).writes (Elt F) fc [⟨Rect.unit (s := S16) ![0] ![16] inb_S16_S16_0, w⟩] = w := fun w => by
      rw [← View.read_whole (Val := Elt F) cc0_scratch7 ((View.whole cc0_scratch7).writes (Elt F) fc [⟨Rect.unit (s := S16) ![0] ![16] inb_S16_S16_0, w⟩])]
      exact View.read_writes_full _ _ _ _ _
    rw [hfin, show (vec fun l => upTo key l (16 * (j.val + 1)) : Vec F S16 .i32) = vec fun l => upTo key l (16 * j.val) + upTo (fun l => key (16 * j.val + l)) l 16
      from vec_congr fun l _ => upTo_add l (16 * j.val) 16]
    iexact Hc
  isplitl [Hr]; · iexact Hr
  iexists _; iexact Hx

end Cert.Proof.Route

end
-- ==== Proof.Route.lean ====
/-
  The routing kernel on one vector subcore: subcore 0 of core 0 does the work, the others none.
-/
module

public import proofs.«01_k».proof.Proof.RoutePlace
public import proofs.«01_k».proof.Proof.SCTools

@[expose] public section

noncomputable section

namespace Cert.Proof.Route

open Cert.KernelIdeal Cert.KernelIdeal.Gen
open Cert.Proof
open Cert.Proof.Moe (ix1 eq_ix1 w32)
open Cert.Proof.Routing
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.Pipeline

variable {F : FTy → Type} [FloatOps F]

local notation "𝕄" => MT nD τ sig (HIx 3) (Elt F) ℕ UU ℕ

variable (d : Dev nD) (L : grid0.Coords)

/-- The buffers between the host and the routing kernel. -/
abbrev kLoc : Loc nD τ sig := (SparseCore.T d).loc main_v0
abbrev wLoc : Loc nD τ sig := (SparseCore.T d).loc main_v1
abbrev tLoc : Loc nD τ sig := (SparseCore.T d).loc main_v3
abbrev opLoc : Loc nD τ sig := (SparseCore.T d).loc main_v4_0
abbrev owLoc : Loc nD τ sig := (SparseCore.T d).loc main_v4_1
abbrev oaLoc : Loc nD τ sig := (SparseCore.T d).loc main_v4_2
abbrev obLoc : Loc nD τ sig := (SparseCore.T d).loc main_v4_3
abbrev orLoc : Loc nD τ sig := (SparseCore.T d).loc main_v4_4
abbrev onLoc : Loc nD τ sig := (SparseCore.T d).loc main_v4_5
abbrev ofLoc : Loc nD τ sig := (SparseCore.T d).loc main_v4_6

/-- The token each padded row holds (0 where it holds none). -/
def permF (key : ℕ → ℕ) : Vec F S1024 .i32 := fun y => placed key (fun p => w32 (p / 2)) 0#32 512 (y 0).val

/-- The weight each padded row holds (0 where it holds none). -/
def wsF (key : ℕ → ℕ) (fw : Vec F S512 .f32) : Vec F S1024 .f32 :=
  fun y => placed key (fun p => fw (ix1 (m := 512) p)) (Scalar.ofBits .f32 0x00000000#32) 512 (y 0).val

/-- The row of each token's pair `b`. -/
def rowF (key : ℕ → ℕ) (b : ℕ) : Vec F S256 .i32 := fun y => w32 (dest key (2 * (y 0).val + b))

/-- What the routing subcore is given. -/
def go (fk : Buf (Elt F) (kLoc d)) (fw : Buf (Elt F) (wLoc d)) (ft : Buf (Elt F) (tLoc d)) : sProp 𝕄 :=
  iprop((kLoc d ↦{fullShare} fk) ∗ (wLoc d ↦{fullShare} fw) ∗ (tLoc d ↦{fullShare} ft)
    ∗ (∃ f, opLoc d ↦{fullShare} f) ∗ (∃ f, owLoc d ↦{fullShare} f) ∗ (∃ f, oaLoc d ↦{fullShare} f) ∗ (∃ f, obLoc d ↦{fullShare} f)
    ∗ (∃ f, orLoc d ↦{fullShare} f) ∗ (∃ f, onLoc d ↦{fullShare} f) ∗ (∃ f, ofLoc d ↦{fullShare} f))

/-- What it hands back. -/
def td (key : ℕ → ℕ) (fw : Vec F S512 .f32) : sProp 𝕄 :=
  iprop((opLoc d ↦{fullShare} (permF key : Vec F S1024 .i32)) ∗ (owLoc d ↦{fullShare} wsF key fw)
    ∗ (oaLoc d ↦{fullShare} (rowF key 0 : Vec F S256 .i32)) ∗ (obLoc d ↦{fullShare} (rowF key 1 : Vec F S256 .i32))
    ∗ (orLoc d ↦{fullShare} (vec (ro key) : Vec F S16 .i32)) ∗ (onLoc d ↦{fullShare} (vec (ns key) : Vec F S16 .i32)) ∗ (ofLoc d ↦{fullShare} (vec (fe key) : Vec F S16 .i32)))

theorem sems : (ownSems0 (thr d L) : sProp 𝕄)
      = iprop((semVal ((thr d L, .dma cc0_scoped0.sem) : GSem nD τ sig) 0 ∗ semVal ((thr d L, .dma cc0_scoped1.sem) : GSem nD τ sig) 0 ∗ semVal ((thr d L, .dma cc0_scoped2.sem) : GSem nD τ sig) 0 ∗ semVal ((thr d L, .dma cc0_scoped3.sem) : GSem nD τ sig) 0 ∗ semVal ((thr d L, .dma cc0_scoped4.sem) : GSem nD τ sig) 0 ∗ semVal ((thr d L, .dma cc0_scoped5.sem) : GSem nD τ sig) 0 ∗ semVal ((thr d L, .dma cc0_scoped6.sem) : GSem nD τ sig) 0 ∗ semVal ((thr d L, .dma cc0_scoped7.sem) : GSem nD τ sig) 0 ∗ semVal ((thr d L, .dma cc0_scoped8.sem) : GSem nD τ sig) 0 ∗ semVal ((thr d L, .dma cc0_scoped9.sem) : GSem nD τ sig) 0)
        ∗ bigSep (ownCells (thr d L) \ ([SemLoc.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem].map fun s => ((thr d L, s) : GSem nD τ sig)).toFinset) fun g => semVal g 0) :=
  ownSems0_pull d _ _ [SemLoc.dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem] (by decide) (by decide)

theorem bufs : (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f) ∗ (∃ f, (thr d L).loc cc0_scratch9 ↦{fullShare} f) ∗ (∃ f, (thr d L).loc cc0_scratch10 ↦{fullShare} f) ∗ (∃ f, (thr d L).loc cc0_scratch11 ↦{fullShare} f))
        ∗ bigSep (ownRefs (.scVector ((L 0).castLE hcore0) ((L 1).castLE hsub0)) \ ([cc0_scratch0, cc0_scratch1, cc0_scratch2, cc0_scratch3, cc0_scratch4, cc0_scratch5, cc0_scratch6, cc0_scratch7, cc0_scratch8, cc0_scratch9, cc0_scratch10, cc0_scratch11].map fun b => ((Proc.scVector ((L 0).castLE hcore0) ((L 1).castLE hsub0)).devRef b : DevRef τ sig)).toFinset)
        fun b => iprop(∃ f, ((d, b) : Loc nD τ sig) ↦{fullShare} f)) :=
  ownBufs_pull d _ _ [cc0_scratch0, cc0_scratch1, cc0_scratch2, cc0_scratch3, cc0_scratch4, cc0_scratch5, cc0_scratch6, cc0_scratch7, cc0_scratch8, cc0_scratch9, cc0_scratch10, cc0_scratch11] (by decide) (fun b hb => by
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    rcases List.mem_cons.mp hb with rfl | hb; · rfl
    cases hb)

set_option maxHeartbeats 8000000 in
/-- The routing subcore's task. -/
theorem body (h1 : k0_cond1 L = 1#1) (fk : Buf (Elt F) (kLoc d)) (fw : Buf (Elt F) (wLoc d)) (ft : Buf (Elt F) (tLoc d))
    (key : ℕ → ℕ) (hk : ∀ p, p < 512 → key p < 8)
    (hfk : ∀ p, p < 512 → (fk : Vec F S512 .i32) (ix1 (m := 512) p) = w32 (key p)) (hft : ∀ p, p < 512 → (ft : Vec F S512 .i32) (ix1 (m := 512) p) = w32 (p / 2))
    (O : CellTallies nD τ sig (HIx 3)) (W : Waits sig (HIx 3)) (hO : ∀ g, O g none = 0) :
    iprop(levAts (K (F := F)).L (K (F := F)).lev ∗ emp ∗ go d fk fw ft
        ∗ scopedBufs (thr d L) ∗ scopedSems0 (thr d L) ∗ owes (thr d L) O W)
      ⊢ wp frame (wpE (defs₀ (F := F)) 𝒱₀ (thr d L) none) Set.univ
          (cc0__route L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9)
          fun _ => iprop(td d key fw
            ∗ scopedBufs (thr d L) ∗ scopedSems0 (thr d L)
            ∗ ∃ W', ⌜∀ p ∈ W', p ∈ W ∨ p.2 = none⌝ ∗ owes (thr d L) O W') := by
  simp only [cc0__route_eq_skeleton]; unfold cc0__route_skel go
  rw [dif_pos h1]
  simp only [k0_part6_eq_skeleton]
  unfold k0_part6_skel
  rw [(K (F := F)).scopedBufs_V facts d ((L 0).castLE hcore0) ((L 1).castLE hsub0), SparseCore.Cfg.scopedSems0_V (Val := Elt F) d ((L 0).castLE hcore0) ((L 1).castLE hsub0), sems, bufs]
  iintro ⟨#Hlv, -, ⟨Ik, Iw, It, ⟨%gp, Op⟩, ⟨%gs, Os⟩, ⟨%ga, Oa⟩, ⟨%gb, Ob⟩, ⟨%gr, Or⟩, ⟨%gn, On⟩, ⟨%gf, Of⟩⟩, ⟨⟨⟨%hk0, Hk0⟩, ⟨%hw0, Hw0⟩, ⟨%ht0, Ht0⟩, ⟨%fp, Hp0⟩, ⟨%fs, Hs0⟩, ⟨%fa, Ha0⟩, ⟨%fb, Hb0⟩, ⟨%fc, Hc0⟩, ⟨%fr, Hr0⟩, ⟨%fn, Hn0⟩, ⟨%ff, Hf0⟩, ⟨%fx, Hx0⟩⟩, Hbufs⟩, ⟨⟨Z0, Z1, Z2, Z3, Z4, Z5, Z6, Z7, Z8, Z9⟩, Hsems⟩, HO⟩
  ihave Hmw := (show levAts (K (F := F)).L (K (F := F)).lev ⊢ Transfers.MayWaits (thr d L) (default : HIx 3) O from
    (K (F := F)).mayWaits_none (thr := thr d L) hO) $$ Hlv
  ihave Hk := (Entails.of_eq (show ((thr d L).loc cc0_scratch0 ↦{fullShare} hk0 : sProp 𝕄) = ((kV).view.loc (thr d L) ↦{fullShare} hk0) from rfl)) $$ Hk0
  ihave Hw := (Entails.of_eq (show ((thr d L).loc cc0_scratch1 ↦{fullShare} hw0 : sProp 𝕄) = ((wV).view.loc (thr d L) ↦{fullShare} hw0) from rfl)) $$ Hw0
  ihave Ht := (Entails.of_eq (show ((thr d L).loc cc0_scratch2 ↦{fullShare} ht0 : sProp 𝕄) = ((tV).view.loc (thr d L) ↦{fullShare} ht0) from rfl)) $$ Ht0
  ihave Hp := (Entails.of_eq (show ((thr d L).loc cc0_scratch3 ↦{fullShare} fp : sProp 𝕄) = ((pV).view.loc (thr d L) ↦{fullShare} fp) from rfl)) $$ Hp0
  ihave Hs := (Entails.of_eq (show ((thr d L).loc cc0_scratch4 ↦{fullShare} fs : sProp 𝕄) = ((sV).view.loc (thr d L) ↦{fullShare} fs) from rfl)) $$ Hs0
  ihave Ha := (Entails.of_eq (show ((thr d L).loc cc0_scratch5 ↦{fullShare} fa : sProp 𝕄) = ((aV).view.loc (thr d L) ↦{fullShare} fa) from rfl)) $$ Ha0
  ihave Hb := (Entails.of_eq (show ((thr d L).loc cc0_scratch6 ↦{fullShare} fb : sProp 𝕄) = ((bV).view.loc (thr d L) ↦{fullShare} fb) from rfl)) $$ Hb0
  ihave Hc := (Entails.of_eq (show ((thr d L).loc cc0_scratch7 ↦{fullShare} fc : sProp 𝕄) = ((cV).view.loc (thr d L) ↦{fullShare} fc) from rfl)) $$ Hc0
  ihave Hr := (Entails.of_eq (show ((thr d L).loc cc0_scratch8 ↦{fullShare} fr : sProp 𝕄) = ((rV).view.loc (thr d L) ↦{fullShare} fr) from rfl)) $$ Hr0
  ihave Hn := (Entails.of_eq (show ((thr d L).loc cc0_scratch9 ↦{fullShare} fn : sProp 𝕄) = ((nV).view.loc (thr d L) ↦{fullShare} fn) from rfl)) $$ Hn0
  ihave Hf := (Entails.of_eq (show ((thr d L).loc cc0_scratch10 ↦{fullShare} ff : sProp 𝕄) = ((fV).view.loc (thr d L) ↦{fullShare} ff) from rfl)) $$ Hf0
  ihave Hx := (Entails.of_eq (show ((thr d L).loc cc0_scratch11 ↦{fullShare} fx : sProp 𝕄) = ((xV).view.loc (thr d L) ↦{fullShare} fx) from rfl)) $$ Hx0
  ihave JIk := (Entails.of_eq (show (kLoc d ↦{fullShare} fk : sProp 𝕄) = ((hkH).view.loc (thr d L) ↦{fullShare} fk) from rfl)) $$ Ik
  ihave JIw := (Entails.of_eq (show (wLoc d ↦{fullShare} fw : sProp 𝕄) = ((hwH).view.loc (thr d L) ↦{fullShare} fw) from rfl)) $$ Iw
  ihave JIt := (Entails.of_eq (show (tLoc d ↦{fullShare} ft : sProp 𝕄) = ((htH).view.loc (thr d L) ↦{fullShare} ft) from rfl)) $$ It
  ihave JOp := (Entails.of_eq (show (opLoc d ↦{fullShare} gp : sProp 𝕄) = ((opH).view.loc (thr d L) ↦{fullShare} gp) from rfl)) $$ Op
  ihave JOs := (Entails.of_eq (show (owLoc d ↦{fullShare} gs : sProp 𝕄) = ((owH).view.loc (thr d L) ↦{fullShare} gs) from rfl)) $$ Os
  ihave JOa := (Entails.of_eq (show (oaLoc d ↦{fullShare} ga : sProp 𝕄) = ((oaH).view.loc (thr d L) ↦{fullShare} ga) from rfl)) $$ Oa
  ihave JOb := (Entails.of_eq (show (obLoc d ↦{fullShare} gb : sProp 𝕄) = ((obH).view.loc (thr d L) ↦{fullShare} gb) from rfl)) $$ Ob
  ihave JOr := (Entails.of_eq (show (orLoc d ↦{fullShare} gr : sProp 𝕄) = ((orH).view.loc (thr d L) ↦{fullShare} gr) from rfl)) $$ Or
  ihave JOn := (Entails.of_eq (show (onLoc d ↦{fullShare} gn : sProp 𝕄) = ((onH).view.loc (thr d L) ↦{fullShare} gn) from rfl)) $$ On
  ihave JOf := (Entails.of_eq (show (ofLoc d ↦{fullShare} gf : sProp 𝕄) = ((ofH).view.loc (thr d L) ↦{fullShare} gf) from rfl)) $$ Of
  have hK : k0_chk1 L fifteen := by
    have h15 := within (s := S16) (n := 16) (f := fun _ => 15) rfl (fun _ _ => by decide)
    unfold k0_chk1
    exact ⟨fun _ => h15, fun _ => h15, fun _ => h15, fun _ => h15, fun _ => h15, fun _ => h15, fun _ => h15, fun _ => h15, fun _ => h15, fun _ => h15, fun _ => h15, fun _ => h15, fun _ => h15, fun _ => h15, fun _ => h15, fun _ => h15⟩
  sl_exec
  have wk : View.write (Elt F) (kV).view hk0 (body.sl.dma0 d fk) Finset.univ = (fk : Vec F S512 .i32) := View.write_whole_univ cc0_scratch0 hk0 fk
  have ww : View.write (Elt F) (wV).view hw0 (body.sl.dma0_1 d fw) Finset.univ = (fw : Vec F S512 .f32) := View.write_whole_univ cc0_scratch1 hw0 fw
  have wt : View.write (Elt F) (tV).view ht0 (body.sl.dma0_2 d ft) Finset.univ = (ft : Vec F S512 .i32) := View.write_whole_univ cc0_scratch2 ht0 ft
  ihave Hk1 := (Entails.of_eq (congrArg (fun z => ((kV).view.loc (thr d L) ↦{fullShare} z : sProp 𝕄)) wk)) $$ Hk
  ihave Hw1 := (Entails.of_eq (congrArg (fun z => ((wV).view.loc (thr d L) ↦{fullShare} z : sProp 𝕄)) ww)) $$ Hw
  ihave Ht1 := (Entails.of_eq (congrArg (fun z => ((tV).view.loc (thr d L) ↦{fullShare} z : sProp 𝕄)) wt)) $$ Ht
  simp (config := { iota := false, proj := false, eta := false }) only [Prog.bind_assoc, bind_assoc]
  sl_for (fun k _ => iprop(∃ (fp' : Buf (Elt F) ((thr d L).loc cc0_scratch3)) (fs' : Buf (Elt F) ((thr d L).loc cc0_scratch4)),
            ⌜(∀ y : S1024.Idx, (y 0).val < 16 * k → (fp' : Vec F S1024 .i32) y = 0#32)
              ∧ ∀ y : S1024.Idx, (y 0).val < 16 * k → (fs' : Vec F S1024 .f32) y = Scalar.ofBits .f32 0x00000000#32⌝
            ∗ ((pV).view.loc (thr d L) ↦{fullShare} fp') ∗ ((sV).view.loc (thr d L) ↦{fullShare} fs') : sProp 𝕄)) $$ [Hp Hs]
  case region =>
    intro k acc
    iintro ⟨%fp', %fs', %hz, Hp, Hs⟩
    iapply (clear_trip d L fp' fs' h1 k acc hz.1 hz.2)
    isplitl [Hp]; · iexact Hp
    iexact Hs
  · iexists fp; iexists fs
    isplitr [Hp Hs]
    · ipureintro; exact ⟨fun y hy => absurd hy (by omega), fun y hy => absurd hy (by omega)⟩
    isplitl [Hp]; · iexact Hp
    iexact Hs
  iintro %_ ⟨%fp1, %fs1, %hz, Hp0, Hs0⟩
  rw [show Scf.trips k0_t1_loop.lb k0_t1_loop.ub k0_t1_loop.st = 64 by decide] at hz
  have hp0 : fp1 = ((fun y => placed key (fun p => w32 (p / 2)) 0#32 (16 * 0) (y 0).val) : Vec F S1024 .i32) := funext fun y => hz.1 y (y 0).isLt
  have hs0 : fs1 = ((fun y => placed key (fun p => (fw : Vec F S512 .f32) (ix1 (m := 512) p)) (Scalar.ofBits .f32 0x00000000#32) (16 * 0) (y 0).val) : Vec F S1024 .f32) :=
    funext fun y => hz.2 y (y 0).isLt
  sl_exec
  have wc : (cV).view.writes (Elt F) (cV).view.junk body.sl.Hc_1 = (vec fun l => upTo key l (16 * 0) : Vec F S16 .i32) :=
    (View.read_writes_full (Val := Elt F) (View.whole cc0_scratch7) (cV).view.junk (off := ![0]) inb_S16_S16_0 (k0_pay31 : Vec F S16 .i32) []).trans zeros_vec
  ihave Hc1 := (Entails.of_eq (congrArg (fun z => ((cV).view.loc (thr d L) ↦{fullShare} z : sProp 𝕄)) wc)) $$ Hc
  sl_for (fun k _ => iprop(((kV).view.loc (thr d L) ↦{fullShare} (fk : Vec F S512 .i32))
            ∗ ((cV).view.loc (thr d L) ↦{fullShare} (vec fun l => upTo key l (16 * k) : Vec F S16 .i32)) ∗ ∃ fx', ((xV).view.loc (thr d L) ↦{fullShare} fx') : sProp 𝕄)) $$ [Hk1 Hc1 Hx]
  case region =>
    intro k acc
    iintro ⟨Hk, Hc, ⟨%fx', Hx⟩⟩
    iapply (count_trip d L (fk : Vec F S512 .i32) _ fx' h1 hK key hk hfk k acc rfl)
    isplitl [Hk]; · iexact Hk
    isplitl [Hc]; · iexact Hc
    iexact Hx
  · isplitl [Hk1]; · iexact Hk1
    isplitl [Hc1]; · iexact Hc1
    iexists fx; iexact Hx
  iintro %_ ⟨Hk2, Hc2, ⟨%fx2, Hx2⟩⟩
  rw [show Scf.trips k0_t2_loop.lb k0_t2_loop.ub k0_t2_loop.st = 32 by decide]
  sl_exec
  have hcnt : View.readAt (Elt F) (cV).view (Rect.unit (s := S16) ![0] S16.size inb_S16_S16_0).toLoadRect (vec fun l => upTo key l (16 * 32) : Vec F S16 .i32) = vec (cnt key) :=
    View.readAt_full (View.whole cc0_scratch7) _ (off := ![0]) inb_S16_S16_0
  have hle : ∀ l, l < 16 → cnt key l ≤ 512 := fun l _ => upTo_le (key := key) l 512
  have wr : (rV).view.writes (Elt F) (rV).view.junk (body.sl.Hr_1 key) = (vec (ro key) : Vec F S16 .i32) :=
    (View.read_writes_full (Val := Elt F) (View.whole cc0_scratch8) (rV).view.junk (off := ![0]) inb_S16_S16_0
      (k0_pay35 (F := F) (View.readAt (Elt F) (cV).view (Rect.unit (s := S16) ![0] S16.size inb_S16_S16_0).toLoadRect (vec fun l => upTo key l (16 * 32) : Vec F S16 .i32)) : Vec F S16 .i32) []).trans
      (by rw [hcnt, ro_vec _ hle]; rfl)
  have wn : (nV).view.writes (Elt F) (nV).view.junk (body.sl.Hn_1 key) = (vec (ns key) : Vec F S16 .i32) :=
    (View.read_writes_full (Val := Elt F) (View.whole cc0_scratch9) (nV).view.junk (off := ![0]) inb_S16_S16_0
      (k0_pay36 (F := F) (View.readAt (Elt F) (cV).view (Rect.unit (s := S16) ![0] S16.size inb_S16_S16_0).toLoadRect (vec fun l => upTo key l (16 * 32) : Vec F S16 .i32)) : Vec F S16 .i32) []).trans
      (by rw [hcnt, ns_vec _ hle]; rfl)
  have wf : (fV).view.writes (Elt F) (fV).view.junk (body.sl.Hf_1 L key hK) = (vec (fe key) : Vec F S16 .i32) :=
    (View.read_writes_full (Val := Elt F) (View.whole cc0_scratch10) (fV).view.junk (off := ![0]) inb_S16_S16_0
      (k0_pay1 (iota .scVector S16 32 [0] iota_S16_d0_w32_scVector) k0_pay31
        (k0_pay37 (F := F) (View.readAt (Elt F) (cV).view (Rect.unit (s := S16) ![0] S16.size inb_S16_S16_0).toLoadRect (vec fun l => upTo key l (16 * 32) : Vec F S16 .i32))) : Vec F S16 .i32) []).trans
      (by rw [hcnt, iota_vec, zeros_vec, fe_vec key hle])
  have wc2 : (cV).view.writes (Elt F) (cV).view.junk (body.sl.Hc2_1 L key hK) = (vec fun l => upTo key l (16 * 0) : Vec F S16 .i32) :=
    (View.read_writes_full (Val := Elt F) (View.whole cc0_scratch7) (cV).view.junk (off := ![0]) inb_S16_S16_0 (k0_pay31 : Vec F S16 .i32) _).trans zeros_vec
  have ha0 : fa = ((fun y => rowOf 0 (fun p => w32 (dest key p)) (fun t => (fa : Vec F S256 .i32) (ix1 (m := 256) t)) (16 * 0) (y 0).val) : Vec F S256 .i32) :=
    funext fun y => congrArg (fa : Vec F S256 .i32) (eq_ix1 (m := 256) y rfl)
  have hb0 : fb = ((fun y => rowOf 1 (fun p => w32 (dest key p)) (fun t => (fb : Vec F S256 .i32) (ix1 (m := 256) t)) (16 * 0) (y 0).val) : Vec F S256 .i32) :=
    funext fun y => congrArg (fb : Vec F S256 .i32) (eq_ix1 (m := 256) y rfl)
  ihave Hr1 := (Entails.of_eq (congrArg (fun z => ((rV).view.loc (thr d L) ↦{fullShare} z : sProp 𝕄)) wr)) $$ Hr
  ihave Hn1 := (Entails.of_eq (congrArg (fun z => ((nV).view.loc (thr d L) ↦{fullShare} z : sProp 𝕄)) wn)) $$ Hn
  ihave Hf1 := (Entails.of_eq (congrArg (fun z => ((fV).view.loc (thr d L) ↦{fullShare} z : sProp 𝕄)) wf)) $$ Hf
  ihave Hc3 := (Entails.of_eq (congrArg (fun z => ((cV).view.loc (thr d L) ↦{fullShare} z : sProp 𝕄)) wc2)) $$ Hc2
  ihave Hp1 := (Entails.of_eq (congrArg (fun z => ((pV).view.loc (thr d L) ↦{fullShare} z : sProp 𝕄)) hp0)) $$ Hp0
  ihave Hs1 := (Entails.of_eq (congrArg (fun z => ((sV).view.loc (thr d L) ↦{fullShare} z : sProp 𝕄)) hs0)) $$ Hs0
  ihave Ha1 := (Entails.of_eq (congrArg (fun z => ((aV).view.loc (thr d L) ↦{fullShare} z : sProp 𝕄)) ha0)) $$ Ha
  ihave Hb1 := (Entails.of_eq (congrArg (fun z => ((bV).view.loc (thr d L) ↦{fullShare} z : sProp 𝕄)) hb0)) $$ Hb
  sl_for (fun k _ => iprop((((kV).view.loc (thr d L) ↦{fullShare} (fk : Vec F S512 .i32)) ∗ ((wV).view.loc (thr d L) ↦{fullShare} (fw : Vec F S512 .f32)) ∗ ((tV).view.loc (thr d L) ↦{fullShare} (ft : Vec F S512 .i32))
            ∗ ((pV).view.loc (thr d L) ↦{fullShare} ((fun y => placed key (fun p => w32 (p / 2)) 0#32 (16 * k) (y 0).val) : Vec F S1024 .i32))
            ∗ ((sV).view.loc (thr d L) ↦{fullShare} ((fun y => placed key (fun p => (fw : Vec F S512 .f32) (ix1 (m := 512) p)) (Scalar.ofBits .f32 0x00000000#32) (16 * k) (y 0).val) : Vec F S1024 .f32))
            ∗ ((aV).view.loc (thr d L) ↦{fullShare} ((fun y => rowOf 0 (fun p => w32 (dest key p)) (fun t => (fa : Vec F S256 .i32) (ix1 (m := 256) t)) (16 * k) (y 0).val) : Vec F S256 .i32))
            ∗ ((bV).view.loc (thr d L) ↦{fullShare} ((fun y => rowOf 1 (fun p => w32 (dest key p)) (fun t => (fb : Vec F S256 .i32) (ix1 (m := 256) t)) (16 * k) (y 0).val) : Vec F S256 .i32))
            ∗ ((cV).view.loc (thr d L) ↦{fullShare} (vec fun l => upTo key l (16 * k) : Vec F S16 .i32)) ∗ ((rV).view.loc (thr d L) ↦{fullShare} (vec (ro key) : Vec F S16 .i32))
            ∗ ∃ fx', ((xV).view.loc (thr d L) ↦{fullShare} fx')) : sProp 𝕄)) $$ [Hk2 Hw1 Ht1 Hp1 Hs1 Ha1 Hb1 Hc3 Hr1 Hx2]
  case region =>
    intro k acc
    iintro ⟨Hk, Hw, Ht, Hp, Hs, Ha, Hb, Hc, Hr, ⟨%fx', Hx⟩⟩
    iapply (place_trip d L (fk : Vec F S512 .i32) (fw : Vec F S512 .f32) (ft : Vec F S512 .i32) _ _ _ _ _ _ fx' h1 hK key hk _ _ hfk hft k acc rfl rfl rfl rfl rfl rfl)
    isplitl [Hk]; · iexact Hk
    isplitl [Hw]; · iexact Hw
    isplitl [Ht]; · iexact Ht
    isplitl [Hp]; · iexact Hp
    isplitl [Hs]; · iexact Hs
    isplitl [Ha]; · iexact Ha
    isplitl [Hb]; · iexact Hb
    isplitl [Hc]; · iexact Hc
    isplitl [Hr]; · iexact Hr
    iexact Hx
  · isplitl [Hk2]; · iexact Hk2
    isplitl [Hw1]; · iexact Hw1
    isplitl [Ht1]; · iexact Ht1
    isplitl [Hp1]; · iexact Hp1
    isplitl [Hs1]; · iexact Hs1
    isplitl [Ha1]; · iexact Ha1
    isplitl [Hb1]; · iexact Hb1
    isplitl [Hc3]; · iexact Hc3
    isplitl [Hr1]; · iexact Hr1
    iexists fx2; iexact Hx2
  iintro %_ ⟨Hk3, Hw3, Ht3, Hp3, Hs3, Ha3, Hb3, Hc4, Hr3, ⟨%fx3, Hx3⟩⟩
  rw [show Scf.trips k0_t3_loop.lb k0_t3_loop.ub k0_t3_loop.st = 32 by decide]
  sl_exec
  sl_step
  have dr : ∀ (b : ℕ) (hb : b < 2) (f : ℕ → BitVec 32), ((fun y => rowOf b (fun p => w32 (dest key p)) f (16 * 32) (y 0).val) : Vec F S256 .i32) = rowF key b := fun b hb f => funext fun y => by
    have h : (y 0).val < 256 := (y 0).isLt
    exact rowOf_eq hb (fun p => w32 (dest key p)) f (by omega)
  have oOp : View.write (Elt F) (opH).view gp (body.sl.dma0_3 key) Finset.univ = (permF key : Vec F S1024 .i32) := View.write_whole_univ main_v4_0_scv gp (permF key : Vec F S1024 .i32)
  have oOs : View.write (Elt F) (owH).view gs (body.sl.dma0_4 d fw key) Finset.univ = wsF key fw := View.write_whole_univ main_v4_1_scv gs (wsF key fw)
  have oOa : View.write (Elt F) (oaH).view ga (body.sl.dma0_5 d L key fa) Finset.univ = (rowF key 0 : Vec F S256 .i32) := (View.write_whole_univ main_v4_2_scv ga ((fun y => rowOf 0 (fun p => w32 (dest key p)) (fun t => (fa : Vec F S256 .i32) (ix1 (m := 256) t)) (16 * 32) (y 0).val) : Vec F S256 .i32)).trans (dr 0 (by decide) _)
  have oOb : View.write (Elt F) (obH).view gb (body.sl.dma0_6 d L key fb) Finset.univ = (rowF key 1 : Vec F S256 .i32) := (View.write_whole_univ main_v4_3_scv gb ((fun y => rowOf 1 (fun p => w32 (dest key p)) (fun t => (fb : Vec F S256 .i32) (ix1 (m := 256) t)) (16 * 32) (y 0).val) : Vec F S256 .i32)).trans (dr 1 (by decide) _)
  have oOr : View.write (Elt F) (orH).view gr (body.sl.dma0_7 key) Finset.univ = (vec (ro key) : Vec F S16 .i32) := View.write_whole_univ main_v4_4_scv gr (vec (ro key) : Vec F S16 .i32)
  have oOn : View.write (Elt F) (onH).view gn (body.sl.dma0_8 key) Finset.univ = (vec (ns key) : Vec F S16 .i32) := View.write_whole_univ main_v4_5_scv gn (vec (ns key) : Vec F S16 .i32)
  have oOf : View.write (Elt F) (ofH).view gf (body.sl.dma0_9 key) Finset.univ = (vec (fe key) : Vec F S16 .i32) := View.write_whole_univ main_v4_6_scv gf (vec (fe key) : Vec F S16 .i32)
  isplitl [JOp JOs JOa JOb JOr JOn JOf]
  · unfold td
    isplitl [JOp]
    · ihave E := (Entails.of_eq ((congrArg (fun z => ((opH).view.loc (thr d L) ↦{fullShare} z : sProp 𝕄)) oOp).trans (show ((opH).view.loc (thr d L) ↦{fullShare} (permF key : Vec F S1024 .i32) : sProp 𝕄) = (opLoc d ↦{fullShare} (permF key : Vec F S1024 .i32)) from rfl))) $$ JOp
      iexact E
    isplitl [JOs]
    · ihave E := (Entails.of_eq ((congrArg (fun z => ((owH).view.loc (thr d L) ↦{fullShare} z : sProp 𝕄)) oOs).trans (show ((owH).view.loc (thr d L) ↦{fullShare} wsF key fw : sProp 𝕄) = (owLoc d ↦{fullShare} wsF key fw) from rfl))) $$ JOs
      iexact E
    isplitl [JOa]
    · ihave E := (Entails.of_eq ((congrArg (fun z => ((oaH).view.loc (thr d L) ↦{fullShare} z : sProp 𝕄)) oOa).trans (show ((oaH).view.loc (thr d L) ↦{fullShare} (rowF key 0 : Vec F S256 .i32) : sProp 𝕄) = (oaLoc d ↦{fullShare} (rowF key 0 : Vec F S256 .i32)) from rfl))) $$ JOa
      iexact E
    isplitl [JOb]
    · ihave E := (Entails.of_eq ((congrArg (fun z => ((obH).view.loc (thr d L) ↦{fullShare} z : sProp 𝕄)) oOb).trans (show ((obH).view.loc (thr d L) ↦{fullShare} (rowF key 1 : Vec F S256 .i32) : sProp 𝕄) = (obLoc d ↦{fullShare} (rowF key 1 : Vec F S256 .i32)) from rfl))) $$ JOb
      iexact E
    isplitl [JOr]
    · ihave E := (Entails.of_eq ((congrArg (fun z => ((orH).view.loc (thr d L) ↦{fullShare} z : sProp 𝕄)) oOr).trans (show ((orH).view.loc (thr d L) ↦{fullShare} (vec (ro key) : Vec F S16 .i32) : sProp 𝕄) = (orLoc d ↦{fullShare} (vec (ro key) : Vec F S16 .i32)) from rfl))) $$ JOr
      iexact E
    isplitl [JOn]
    · ihave E := (Entails.of_eq ((congrArg (fun z => ((onH).view.loc (thr d L) ↦{fullShare} z : sProp 𝕄)) oOn).trans (show ((onH).view.loc (thr d L) ↦{fullShare} (vec (ns key) : Vec F S16 .i32) : sProp 𝕄) = (onLoc d ↦{fullShare} (vec (ns key) : Vec F S16 .i32)) from rfl))) $$ JOn
      iexact E
    ihave E := (Entails.of_eq ((congrArg (fun z => ((ofH).view.loc (thr d L) ↦{fullShare} z : sProp 𝕄)) oOf).trans (show ((ofH).view.loc (thr d L) ↦{fullShare} (vec (fe key) : Vec F S16 .i32) : sProp 𝕄) = (ofLoc d ↦{fullShare} (vec (fe key) : Vec F S16 .i32)) from rfl))) $$ JOf
    iexact E
  isplitl [Hk3 Hw3 Ht3 Hp3 Hs3 Ha3 Hb3 Hc4 Hr3 Hn1 Hf1 Hx3 Hbufs]
  · isplitl [Hk3 Hw3 Ht3 Hp3 Hs3 Ha3 Hb3 Hc4 Hr3 Hn1 Hf1 Hx3]
    · isplitl [Hk3]; · iexists _; iexact Hk3
      isplitl [Hw3]; · iexists _; iexact Hw3
      isplitl [Ht3]; · iexists _; iexact Ht3
      isplitl [Hp3]; · iexists _; iexact Hp3
      isplitl [Hs3]; · iexists _; iexact Hs3
      isplitl [Ha3]; · iexists _; iexact Ha3
      isplitl [Hb3]; · iexists _; iexact Hb3
      isplitl [Hc4]; · iexists _; iexact Hc4
      isplitl [Hr3]; · iexists _; iexact Hr3
      isplitl [Hn1]; · iexists _; iexact Hn1
      isplitl [Hf1]; · iexists _; iexact Hf1
      iexists _; iexact Hx3
    iexact Hbufs
  isplitl [Z0 Z1 Z2 Z3 Z4 Z5 Z6 Z7 Z8 Z9 Hsems]
  · isplitl [Z0 Z1 Z2 Z3 Z4 Z5 Z6 Z7 Z8 Z9]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      iexact Z9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact Or.inl hp

/-- Subcore 0 of core 0 is the one that works. -/
theorem cond1_iff : k0_cond1 L = 1#1 ↔ ((L 0).val = 0 ∧ (L 1).val = 0) := by
  have h : ∀ (a : Fin 2) (b : Fin 16), (let v1 := Scalar.addi (Scalar.muli (BitVec.ofNat 32 b.val) 2#32) (BitVec.ofNat 32 a.val)
      Scalar.cmpi .ne (Scalar.extui (Scalar.cmpi .eq v1 0#32) : BitVec 32) 0#32) = 1#1 ↔ (a.val = 0 ∧ b.val = 0) := by decide
  exact h (L 0) (L 1)

/-- The other subcores do nothing. -/
theorem idle (h1 : ¬ k0_cond1 L = 1#1) (O : CellTallies nD τ sig (HIx 3)) (W : Waits sig (HIx 3)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc0__route L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9)
          fun _ => (iprop(emp
            ∗ scopedBufs (thr d L) ∗ scopedSems0 (thr d L)
            ∗ ∃ W', ⌜∀ p ∈ W', p ∈ W ∨ p.2 = none⌝ ∗ owes (thr d L) O W') : sProp 𝕄) := by
  simp only [cc0__route_eq_skeleton]; unfold cc0__route_skel
  rw [dif_neg h1]
  iintro ⟨-, -, -, Hb, Hs, HO⟩
  sl_exec
  sl_step
  isplitl []; · itrivial
  isplitl [Hb]; · iexact Hb
  isplitl [Hs]; · iexact Hs
  iexists W
  isplitr [HO]
  · ipureintro; exact fun p hp => .inl hp
  iexact HO

end Cert.Proof.Route

end
-- ==== Proof.Pay.lean ====
/-
  What the three SparseCore calls carry: per subcore, what it is handed and what it hands back, over the values of one run; the
  obligation of each subcore's task; and how the whole arrays on the TensorCore's side divide among the thirty-two subcores.
-/
module

public import proofs.«01_k».proof.Proof.Gather
public import proofs.«01_k».proof.Proof.Combine
public import proofs.«01_k».proof.Proof.Route

@[expose] public section

noncomputable section

namespace Cert.Proof

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Route (permF wsF rowF)
open Cert.Proof.Moe (w32)
open Idealize.ShloMosaic.ShareLeaves (pointsTo_leaves)

variable {F : FTy → Type} [FloatOps F]

local notation "𝕄" => MT nD τ sig (HIx 3) (Elt F) ℕ UU ℕ

/-- The values of one run. -/
structure Vals (F : FTy → Type) [FloatOps F] where
  /-- The expert of each of the 512 pairs of a token and one of its two choices. -/
  key : ℕ → ℕ
  hk : ∀ p, p < 512 → key p < 8
  /-- The three arrays the routing reads: experts, weights, tokens. -/
  fk : Vec F S512 .i32
  fw : Vec F S512 .f32
  ft : Vec F S512 .i32
  hfk : ∀ p, p < 512 → fk (ix1 (m := 512) p) = w32 (key p)
  hft : ∀ p, p < 512 → ft (ix1 (m := 512) p) = w32 (p / 2)
  /-- The rows and the row list of the gather. -/
  fx : S4096x128.Idx → Elt F .f32
  fi : S16384.Idx → Elt F .i32
  hfi : ∀ j : S16384.Idx, (fi j).toNat < 4096
  /-- What is known of the experts' output, and the two row lists of the combine. -/
  Yk : (S16384x128.Idx → Elt F .f32) → Prop
  fia : S4096.Idx → Elt F .i32
  fib : S4096.Idx → Elt F .i32
  hfia : ∀ j : S4096.Idx, (fia j).toNat < 16384
  hfib : ∀ j : S4096.Idx, (fib j).toNat < 16384
  /-- The sums. -/
  out : S4096x128.Idx → Elt F .f32
  hout : ∀ Y, Yk Y → Combine.comb Y fia fib = out

variable (A : Vals F)

/-- The routing's subcore: the first of the first SparseCore. -/
def rgo (d : Dev nD) (c i : ℕ) : sProp 𝕄 := if c = 0 ∧ i = 0 then Route.go d A.fk A.fw A.ft else iprop(emp)
def rtd (d : Dev nD) (c i : ℕ) : sProp 𝕄 := if c = 0 ∧ i = 0 then Route.td d A.key A.fw else iprop(emp)
def ggo (d : Dev nD) (w : Fin (2 ^ 5)) : sProp 𝕄 := Gather.go d w A.fx A.fi
def gtd (d : Dev nD) (w : Fin (2 ^ 5)) : sProp 𝕄 := (Gather.oLoc d ↦[Gather.oSet d w]{fullShare} Gather.gat A.fx A.fi)
def cgo (d : Dev nD) (w : Fin (2 ^ 5)) : sProp 𝕄 := iprop(∃ Y, ⌜A.Yk Y⌝ ∗ Combine.go d w Y A.fia A.fib)
def ctd (d : Dev nD) (w : Fin (2 ^ 5)) : sProp 𝕄 := (Combine.oLoc d ↦[Combine.oSet d w]{fullShare} A.out)

/-- What a task is handed, and what it hands back. -/
def goF : (q : Fin 3) → Dev nD → Fin ((K (F := F)).nCore q) → Fin ((K (F := F)).nSub q) → sProp 𝕄
  | 0 => fun d c i => rgo A d c.val i.val
  | 1 => fun d c i => ggo A d (wid c i)
  | 2 => fun d c i => cgo A d (wid c i)
def tdF : (q : Fin 3) → Dev nD → Fin ((K (F := F)).nCore q) → Fin ((K (F := F)).nSub q) → sProp 𝕄
  | 0 => fun d c i => rtd A d c.val i.val
  | 1 => fun d c i => gtd A d (wid c i)
  | 2 => fun d c i => ctd A d (wid c i)

set_option synthInstance.maxHeartbeats 400000 in
instance (d : Dev nD) (c i : ℕ) : BI.Storable (upEmb : UEmb _ 𝕄) (rgo A d c i) := by
  unfold rgo Route.go; split <;> infer_instance
set_option synthInstance.maxHeartbeats 400000 in
instance (d : Dev nD) (c i : ℕ) : BI.Storable (upEmb : UEmb _ 𝕄) (rtd A d c i) := by
  unfold rtd Route.td; split <;> infer_instance
instance (d : Dev nD) (w : Fin (2 ^ 5)) : BI.Storable (upEmb : UEmb _ 𝕄) (ggo A d w) := by unfold ggo Gather.go; infer_instance
instance (d : Dev nD) (w : Fin (2 ^ 5)) : BI.Storable (upEmb : UEmb _ 𝕄) (gtd A d w) := by unfold gtd; infer_instance
instance (d : Dev nD) (w : Fin (2 ^ 5)) : BI.Storable (upEmb : UEmb _ 𝕄) (cgo A d w) := by unfold cgo Combine.go; infer_instance
instance (d : Dev nD) (w : Fin (2 ^ 5)) : BI.Storable (upEmb : UEmb _ 𝕄) (ctd A d w) := by unfold ctd; infer_instance

instance goF_storable (q : Fin 3) (d : Dev nD) (c : Fin ((K (F := F)).nCore q)) (i : Fin ((K (F := F)).nSub q)) :
    BI.Storable (upEmb : UEmb _ 𝕄) (goF A q d c i) :=
  match q with
  | 0 => (inferInstance : BI.Storable (upEmb : UEmb _ 𝕄) (rgo A d c.val i.val))
  | 1 => (inferInstance : BI.Storable (upEmb : UEmb _ 𝕄) (ggo A d (wid c i)))
  | 2 => (inferInstance : BI.Storable (upEmb : UEmb _ 𝕄) (cgo A d (wid c i)))
instance tdF_storable (q : Fin 3) (d : Dev nD) (c : Fin ((K (F := F)).nCore q)) (i : Fin ((K (F := F)).nSub q)) :
    BI.Storable (upEmb : UEmb _ 𝕄) (tdF A q d c i) :=
  match q with
  | 0 => (inferInstance : BI.Storable (upEmb : UEmb _ 𝕄) (rtd A d c.val i.val))
  | 1 => (inferInstance : BI.Storable (upEmb : UEmb _ 𝕄) (gtd A d (wid c i)))
  | 2 => (inferInstance : BI.Storable (upEmb : UEmb _ 𝕄) (ctd A d (wid c i)))

/-- A sequencer is handed its tasks' parts side by side, and hands back theirs. -/
def P : (K (F := F)).Pay (nD := nD) (Val := Elt F) (Name := ℕ) (U := UU) where
  st q d c := bigSep Finset.univ fun i => goF A q d c i
  dn q d c := bigSep Finset.univ fun i => tdF A q d c i
  go q d c i := goF A q d c i
  td q d c i := tdF A q d c i
  x _ _ := iprop(emp)

instance P_storable : (P A).IsStorable where
  st q d c := (inferInstance : BI.Storable (upEmb : UEmb _ 𝕄) (bigSep Finset.univ fun i => goF A q d c i))
  dn q d c := (inferInstance : BI.Storable (upEmb : UEmb _ 𝕄) (bigSep Finset.univ fun i => tdF A q d c i))
  go q d c i := goF_storable A q d c i
  td q d c i := tdF_storable A q d c i

theorem vecSplit (q : Fin 3) : (K (F := F)).VecSplit' (P A) q := by
  intro d c
  show (bigSep Finset.univ fun i => goF A q d c i) ⊢ |={Set.univ}=> iprop((bigSep Finset.univ fun i => goF A q d c i)
    ∗ ((bigSep Finset.univ fun i => tdF A q d c i) -∗ (bigSep Finset.univ fun i => tdF A q d c i)))
  iintro H; imodintro
  isplitl [H]; · iexact H
  iintro H; iexact H

theorem obl_post {thr : Thread nD τ} {X B C : sProp 𝕄} {O : CellTallies nD τ sig (HIx 3)} {W : Waits sig (HIx 3)} {q : Fin 3} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def coords0 (c : Fin (grid0.bound 0)) (s : Fin (grid0.bound 1)) : grid0.Coords := fun | 0 => c | 1 => s | ⟨_ + 2, h⟩ => absurd h (Nat.not_lt.2 (Nat.le_add_left _ _))
def coords1 (c : Fin (grid1.bound 0)) (s : Fin (grid1.bound 1)) : grid1.Coords := fun | 0 => c | 1 => s | ⟨_ + 2, h⟩ => absurd h (Nat.not_lt.2 (Nat.le_add_left _ _))
def coords3 (c : Fin (grid3.bound 0)) (s : Fin (grid3.bound 1)) : grid3.Coords := fun | 0 => c | 1 => s | ⟨_ + 2, h⟩ => absurd h (Nat.not_lt.2 (Nat.le_add_left _ _))

section Tile
open Route in
theorem vector0 (c : Fin τ.nSC) (s : Fin τ.nSub) :
    defs₀ (F := F) (.scVector c s) 0 ()
      = SparseCore.onTile hcore0 hsub0 (fun c s => cc0__route (coords0 c s) hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9) ⟨⟩ c s := rfl
open Gather in
theorem vector1 (c : Fin τ.nSC) (s : Fin τ.nSub) :
    defs₀ (F := F) (.scVector c s) 1 ()
      = SparseCore.onTile hcore1 hsub1 (fun c s => cc1__gather (coords1 c s) xV (Memref.isWhole_whole _) iV (Memref.isWhole_whole _) oV (Memref.isWhole_whole _)
            sV (Memref.isWhole_whole _) rV (Memref.isWhole_whole _) cc1_scratch2 cc1_scoped0 cc1_scoped1) ⟨⟩ c s := rfl
open Combine in
theorem vector3 (c : Fin τ.nSC) (s : Fin τ.nSub) :
    defs₀ (F := F) (.scVector c s) 3 ()
      = SparseCore.onTile hcore3 hsub3 (fun c s => cc3__combine (coords3 c s) yV (Memref.isWhole_whole _) iaV (Memref.isWhole_whole _) ibV (Memref.isWhole_whole _) oV (Memref.isWhole_whole _)
            saV (Memref.isWhole_whole _) sbV (Memref.isWhole_whole _) raV (Memref.isWhole_whole _) rbV (Memref.isWhole_whole _) cc3_scratch4 cc3_scratch5
            cc3_scoped0 cc3_scoped1 cc3_scoped2) ⟨⟩ c s := rfl

/-- The routing, at a subcore: it runs on the first one, and the others do nothing. -/
theorem route_body (d : Dev nD) (L : grid0.Coords) (O : CellTallies nD τ sig (HIx 3)) (W : Waits sig (HIx 3)) (hO : ∀ g, O g none = 0) :
    iprop(levAts (K (F := F)).L (K (F := F)).lev ∗ emp ∗ rgo A d (L 0).val (L 1).val
        ∗ scopedBufs (Route.thr d L) ∗ scopedSems0 (Route.thr d L) ∗ owes (Route.thr d L) O W)
      ⊢ wp frame (wpE (defs₀ (F := F)) 𝒱₀ (Route.thr d L) none) Set.univ
          (open Route in cc0__route L hkH (Memref.isWhole_whole _) hwH (Memref.isWhole_whole _) htH (Memref.isWhole_whole _) opH (Memref.isWhole_whole _) owH (Memref.isWhole_whole _) oaH (Memref.isWhole_whole _) obH (Memref.isWhole_whole _) orH (Memref.isWhole_whole _) onH (Memref.isWhole_whole _) ofH (Memref.isWhole_whole _)
            kV (Memref.isWhole_whole _) wV (Memref.isWhole_whole _) tV (Memref.isWhole_whole _) pV (Memref.isWhole_whole _) sV (Memref.isWhole_whole _) aV (Memref.isWhole_whole _) bV (Memref.isWhole_whole _) cV (Memref.isWhole_whole _) rV (Memref.isWhole_whole _) nV (Memref.isWhole_whole _) fV (Memref.isWhole_whole _) xV (Memref.isWhole_whole _)
            cc0_scoped0 cc0_scoped1 cc0_scoped2 cc0_scoped3 cc0_scoped4 cc0_scoped5 cc0_scoped6 cc0_scoped7 cc0_scoped8 cc0_scoped9)
          fun _ => iprop(rtd A d (L 0).val (L 1).val
            ∗ scopedBufs (Route.thr d L) ∗ scopedSems0 (Route.thr d L)
            ∗ ∃ W', ⌜∀ p ∈ W', p ∈ W ∨ p.2 = none⌝ ∗ owes (Route.thr d L) O W') := by
  by_cases h1 : k0_cond1 L = 1#1
  · have hc := (Route.cond1_iff L).mp h1
    simp only [rgo, rtd, if_pos hc]
    exact Route.body d L h1 A.fk A.fw A.ft A.key A.hk A.hfk A.hft O W hO
  · have hc : ¬ ((L 0).val = 0 ∧ (L 1).val = 0) := fun h => h1 ((Route.cond1_iff L).mpr h)
    simp only [rgo, rtd, if_neg hc]
    exact Route.idle d L h1 O W

/-- The combine, from any output of the experts of which what is needed is known. -/
theorem combine_body (d : Dev nD) (L : grid3.Coords) (O : CellTallies nD τ sig (HIx 3)) (W : Waits sig (HIx 3)) (hO : ∀ g, O g none = 0) :
    iprop(levAts (K (F := F)).L (K (F := F)).lev ∗ emp ∗ cgo A d (Combine.wL L)
        ∗ scopedBufs (Combine.thr d L) ∗ scopedSems0 (Combine.thr d L) ∗ owes (Combine.thr d L) O W)
      ⊢ wp frame (wpE (defs₀ (F := F)) 𝒱₀ (Combine.thr d L) none) Set.univ
          (open Combine in cc3__combine L yV (Memref.isWhole_whole _) iaV (Memref.isWhole_whole _) ibV (Memref.isWhole_whole _) oV (Memref.isWhole_whole _)
            saV (Memref.isWhole_whole _) sbV (Memref.isWhole_whole _) raV (Memref.isWhole_whole _) rbV (Memref.isWhole_whole _) cc3_scratch4 cc3_scratch5
            cc3_scoped0 cc3_scoped1 cc3_scoped2)
          fun _ => iprop(ctd A d (Combine.wL L)
            ∗ scopedBufs (Combine.thr d L) ∗ scopedSems0 (Combine.thr d L)
            ∗ ∃ W', ⌜∀ p ∈ W', p ∈ W ∨ p.2 = none⌝ ∗ owes (Combine.thr d L) O W') := by
  unfold cgo ctd
  iintro ⟨Hl, He, ⟨%Y, %hY, Hgo⟩, Hb, Hs, HO⟩
  rw [← A.hout Y hY]
  iapply (Combine.tile_body d L Y A.fia A.fib A.hfia A.hfib O W hO)
  isplitl [Hl]; · iexact Hl
  isplitl [He]; · iexact He
  isplitl [Hgo]; · iexact Hgo
  isplitl [Hb]; · iexact Hb
  isplitl [Hs]; · iexact Hs
  iexact HO

set_option maxRecDepth 16384 in
theorem tileObl0 : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector0]; simp only [SparseCore.onTile, hci, and_self, ↓reduceDIte]
  exact (route_body A d (coords0 ⟨_, hci.1⟩ ⟨_, hci.2⟩) O W hO).trans (wp_mono frame _ _ fun _ => obl_post)

set_option maxRecDepth 16384 in
theorem tileObl1 : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  exact (Gather.tile_body d (coords1 ⟨_, hci.1⟩ ⟨_, hci.2⟩) A.fx A.fi A.hfi O W hO).trans (wp_mono frame _ _ fun _ => obl_post)

set_option maxRecDepth 16384 in
theorem tileObl2 : (K (F := F)).TileObl (D (F := F)) 𝒱 (P A) v₀ 2 := by
  intro d c i O W hO _ _
  simp only [show (P A).ox = fun _ _ => 0 from rfl, add_zero]
  have hci : ((K (F := F)).core 2 c).val < grid3.bound 0 ∧ ((K (F := F)).sub 2 i).val < grid3.bound 1 := ⟨c.isLt, i.isLt⟩
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  rw [vector3]; simp only [SparseCore.onTile, hci, and_self, ↓reduceDIte]
  exact (combine_body A d (coords3 ⟨_, hci.1⟩ ⟨_, hci.2⟩) O W hO).trans (wp_mono frame _ _ fun _ => obl_post)

end Tile

/-! ## The whole arrays, divided among the subcores -/

theorem wid_surj : (Finset.univ : Finset (Fin (2 ^ 5))) = (Finset.univ ×ˢ Finset.univ : Finset (Fin 2 × Fin 16)).image fun p => wid p.1 p.2 := by decide

theorem wid_inj : Set.InjOn (fun p : Fin 2 × Fin 16 => wid p.1 p.2) ((Finset.univ ×ˢ Finset.univ : Finset (Fin 2 × Fin 16)) : Set _) := by
  intro a _ b _ h
  have := congrArg Fin.val h
  simp only [wid] at this
  exact Prod.ext (Fin.ext (by omega)) (Fin.ext (by omega))

/-- All the subcores, SparseCore by SparseCore. -/
theorem bigSep_wid (Φ : Fin (2 ^ 5) → sProp 𝕄) :
    (bigSep Finset.univ fun c : Fin 2 => bigSep Finset.univ fun i : Fin 16 => Φ (wid c i)) = bigSep Finset.univ Φ := by
  rw [wid_surj, SparseCore.bigSep_image_of_injOn wid_inj, SparseCore.bigSep_product]

theorem addEmp (X : sProp 𝕄) : X ⊢ iprop(X ∗ emp) := by
  iintro H
  isplitl [H]; · iexact H
  itrivial

/-- One subcore's part is everyone's, when the others have none. -/
theorem bigSep_first (X : sProp 𝕄) :
    (bigSep Finset.univ fun c : Fin 2 => bigSep Finset.univ fun i : Fin 16 => if c.val = 0 ∧ i.val = 0 then X else iprop(emp)) = X := by
  have h : ∀ (c : Fin 2) (i : Fin 16), (if c.val = 0 ∧ i.val = 0 then X else iprop(emp)) = (fun w : Fin (2 ^ 5) => if w = 0 then X else (iprop(emp) : sProp 𝕄)) (wid c i) := by
    intro c i
    have : (wid c i = 0) ↔ (c.val = 0 ∧ i.val = 0) := by
      rw [Fin.ext_iff]; simp only [wid]; show 2 * i.val + c.val = 0 ↔ _; omega
    simp only [this]
  rw [show (bigSep Finset.univ fun c : Fin 2 => bigSep Finset.univ fun i : Fin 16 => if c.val = 0 ∧ i.val = 0 then X else iprop(emp))
      = bigSep Finset.univ fun c : Fin 2 => bigSep Finset.univ fun i : Fin 16 => (fun w : Fin (2 ^ 5) => if w = 0 then X else (iprop(emp) : sProp 𝕄)) (wid c i) from
      bigSep_congr fun c _ => bigSep_congr fun i _ => h c i,
    bigSep_wid (fun w : Fin (2 ^ 5) => if w = 0 then X else (iprop(emp) : sProp 𝕄)), SparseCore.bigSep_erase' (Finset.mem_univ (0 : Fin (2 ^ 5))), if_pos rfl]
  rw [bigSep_congr (Ψ := fun _ => (iprop(emp) : sProp 𝕄)) fun w hw => if_neg (Finset.ne_of_mem_erase hw)]
  refine (congrArg (fun Z : sProp 𝕄 => iprop(X ∗ Z)) (bigSep_emp_const _)).trans ?_
  exact BI.Entails.antisymm (show iprop(X ∗ emp) ⊢ X from sep_elim_left) (addEmp X)

theorem route_st (d : Dev nD) : (bigSep Finset.univ fun c : Fin ((K (F := F)).nCore 0) => (P A).st 0 d c) = Route.go d A.fk A.fw A.ft :=
  bigSep_first (Route.go d A.fk A.fw A.ft)
theorem route_dn (d : Dev nD) : (bigSep Finset.univ fun c : Fin ((K (F := F)).nCore 0) => (P A).dn 0 d c) = Route.td d A.key A.fw :=
  bigSep_first (Route.td d A.key A.fw)
theorem gather_st (d : Dev nD) : (bigSep Finset.univ fun c : Fin ((K (F := F)).nCore 1) => (P A).st 1 d c) = bigSep Finset.univ fun w => ggo A d w :=
  bigSep_wid (ggo A d)
theorem gather_dn (d : Dev nD) : (bigSep Finset.univ fun c : Fin ((K (F := F)).nCore 1) => (P A).dn 1 d c) = bigSep Finset.univ fun w => gtd A d w :=
  bigSep_wid (gtd A d)
theorem combine_st (d : Dev nD) : (bigSep Finset.univ fun c : Fin ((K (F := F)).nCore 2) => (P A).st 2 d c) = bigSep Finset.univ fun w => cgo A d w :=
  bigSep_wid (cgo A d)
theorem combine_dn (d : Dev nD) : (bigSep Finset.univ fun c : Fin ((K (F := F)).nCore 2) => (P A).dn 2 d c) = bigSep Finset.univ fun w => ctd A d w :=
  bigSep_wid (ctd A d)

/-- The gather's output, by subcore. -/
theorem gather_rows (d : Dev nD) (f : Buf (Elt F) (Gather.oLoc d)) :
    (Gather.oLoc d ↦{fullShare} f : sProp 𝕄) = bigSep Finset.univ fun w => Gather.oLoc d ↦[Gather.oSet d w]{fullShare} f := by
  have hdis : ∀ w ∈ (Finset.univ : Finset (Fin (2 ^ 5))), ∀ w' ∈ (Finset.univ : Finset (Fin (2 ^ 5))), w ≠ w' → Disjoint (Gather.oSet d w) (Gather.oSet d w') := by
    intro w _ w' _ h
    refine Finset.disjoint_left.mpr fun y hy hy' => h (Fin.ext ?_)
    exact (Finset.mem_filter.mp hy).2.symm.trans (Finset.mem_filter.mp hy').2
  have hcov : (Finset.univ : Finset (Fin (2 ^ 5))).biUnion (Gather.oSet d) = Finset.univ := by
    refine Finset.eq_univ_iff_forall.mpr fun (y : S16384x128.Idx) => Finset.mem_biUnion.mpr ?_
    have hy : (y 0).val < 16384 := (y 0).isLt
    exact ⟨⟨(y 0).val / 512, by omega⟩, Finset.mem_univ _, Finset.mem_filter.mpr ⟨Finset.mem_univ y, rfl⟩⟩
  rw [← pointsTo_biUnion Finset.univ (ℓ := Gather.oLoc d) (Gather.oSet d) hdis, hcov]

/-- The combine's output, by subcore. -/
theorem combine_rows (d : Dev nD) (f : Buf (Elt F) (Combine.oLoc d)) :
    (Combine.oLoc d ↦{fullShare} f : sProp 𝕄) = bigSep Finset.univ fun w => Combine.oLoc d ↦[Combine.oSet d w]{fullShare} f := by
  have hdis : ∀ w ∈ (Finset.univ : Finset (Fin (2 ^ 5))), ∀ w' ∈ (Finset.univ : Finset (Fin (2 ^ 5))), w ≠ w' → Disjoint (Combine.oSet d w) (Combine.oSet d w') := by
    intro w _ w' _ h
    refine Finset.disjoint_left.mpr fun y hy hy' => h (Fin.ext ?_)
    exact (Finset.mem_filter.mp hy).2.symm.trans (Finset.mem_filter.mp hy').2
  have hcov : (Finset.univ : Finset (Fin (2 ^ 5))).biUnion (Combine.oSet d) = Finset.univ := by
    refine Finset.eq_univ_iff_forall.mpr fun (y : S4096x128.Idx) => Finset.mem_biUnion.mpr ?_
    have hy : (y 0).val < 4096 := (y 0).isLt
    exact ⟨⟨(y 0).val / 128, by omega⟩, Finset.mem_univ _, Finset.mem_filter.mpr ⟨Finset.mem_univ y, rfl⟩⟩
  rw [← pointsTo_biUnion Finset.univ (ℓ := Combine.oLoc d) (Combine.oSet d) hdis, hcov]

/-- Rows at some contents. -/
theorem exI {ℓ : Loc nD τ sig} {I : Finset (Idx ℓ)} {f : Buf (Elt F) ℓ} : (ℓ ↦[I]{fullShare} f : sProp 𝕄) ⊢ iprop(∃ f, ℓ ↦[I]{fullShare} f) := by
  iintro H; iexists f; iexact H

theorem cgo_intro (d : Dev nD) (Y : S16384x128.Idx → Elt F .f32) (hY : A.Yk Y) (w : Fin (2 ^ 5)) :
    (Combine.go d w Y A.fia A.fib : sProp 𝕄) ⊢ cgo A d w := by
  unfold cgo
  iintro H
  iexists Y
  isplitr; · ipureintro; exact hY
  iexact H

theorem gather_split (d : Dev nD) (fo : Buf (Elt F) (Gather.oLoc d)) :
    iprop((Gather.xLoc d ↦{fullShare} A.fx) ∗ (Gather.iLoc d ↦{fullShare} A.fi) ∗ (Gather.oLoc d ↦{fullShare} fo))
      ⊢ (bigSep Finset.univ fun w => ggo A d w : sProp 𝕄) := by
  unfold ggo Gather.go
  rw [pointsTo_leaves Finset.univ (ℓ := Gather.xLoc d) A.fx 5 fullShare, pointsTo_leaves Finset.univ (ℓ := Gather.iLoc d) A.fi 5 fullShare, gather_rows,
    bigSep_sep', bigSep_sep']
  refine sep_mono_right (sep_mono_right ?_)
  refine bigSep_mono fun w _ => ?_
  exact exI (ℓ := Gather.oLoc d) (I := Gather.oSet d w) (f := fo)

theorem combine_split' (d : Dev nD) (Y : S16384x128.Idx → Elt F .f32) (fo : Buf (Elt F) (Combine.oLoc d)) :
    iprop((Combine.yLoc d ↦{fullShare} Y) ∗ (Combine.iaLoc d ↦{fullShare} A.fia) ∗ (Combine.ibLoc d ↦{fullShare} A.fib) ∗ (Combine.oLoc d ↦{fullShare} fo))
      ⊢ (bigSep Finset.univ fun w => Combine.go d w Y A.fia A.fib : sProp 𝕄) := by
  unfold Combine.go
  rw [pointsTo_leaves Finset.univ (ℓ := Combine.yLoc d) Y 5 fullShare, pointsTo_leaves Finset.univ (ℓ := Combine.iaLoc d) A.fia 5 fullShare,
    pointsTo_leaves Finset.univ (ℓ := Combine.ibLoc d) A.fib 5 fullShare, combine_rows, bigSep_sep', bigSep_sep', bigSep_sep']
  refine sep_mono_right (sep_mono_right (sep_mono_right ?_))
  refine bigSep_mono fun w _ => ?_
  exact exI (ℓ := Combine.oLoc d) (I := Combine.oSet d w) (f := fo)

theorem combine_split (d : Dev nD) (Y : S16384x128.Idx → Elt F .f32) (hY : A.Yk Y) (fo : Buf (Elt F) (Combine.oLoc d)) :
    iprop((Combine.yLoc d ↦{fullShare} Y) ∗ (Combine.iaLoc d ↦{fullShare} A.fia) ∗ (Combine.ibLoc d ↦{fullShare} A.fib) ∗ (Combine.oLoc d ↦{fullShare} fo))
      ⊢ (bigSep Finset.univ fun w => cgo A d w : sProp 𝕄) :=
  (combine_split' A d Y fo).trans (bigSep_mono fun w _ => cgo_intro A d Y hY w)

theorem gather_join (d : Dev nD) : (bigSep Finset.univ fun w => gtd A d w : sProp 𝕄) = (Gather.oLoc d ↦{fullShare} Gather.gat A.fx A.fi) :=
  (gather_rows d _).symm
theorem combine_join (d : Dev nD) : (bigSep Finset.univ fun w => ctd A d w : sProp 𝕄) = (Combine.oLoc d ↦{fullShare} A.out) :=
  (combine_rows d _).symm

end Cert.Proof

end
-- ==== Proof.MoePoint.lean ====
/-
  The body obligation of the prefetched call: at every grid point the body takes what the windows hold and what the scratch holds to
  what the next point finds.
-/
module

public import proofs.«01_k».proof.Proof.MoeRegion

@[expose] public section

set_option maxRecDepth 4000

noncomputable section

namespace Cert.Proof.Moe

open Cert.KernelIdeal Cert.KernelIdeal.Gen
open Cert.Proof (K D 𝒱₀ 𝒱 UH UU EH EP)
open Idealize.ShloMosaic Idealize.ShloMosaic.TcCoe Idealize.ShloMosaic.Tactic
open Idealize.ShloMosaic.SparseCore.Cfg (HIx)
open Idealize.ShloMosaic.Pipeline (RDat prefHeld)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

/-- The two tables, one by one. -/
theorem prefHeld_eq (pf : pre2.Contents (Elt F)) (c : Dev nD) :
    (prefHeld pre2 c (fun _ => fullShare) pf : sProp 𝕄)
      = iprop(owns (c : Thread nD τ) (Memref.whole main_v22) fullShare (pf 0 : Vec F S8 .i32)
          ∗ owns (c : Thread nD τ) (Memref.whole main_v21) fullShare (pf 1 : Vec F S2x8 .i32)) :=
  (bigSep_univ_eq_bigSepL [(0 : Fin 2), (1 : Fin 2)] (by decide) (by decide) _).trans
    (congrArg₂ (fun P Q : sProp 𝕄 => iprop(P ∗ Q)) (owns_whole (c : Thread nD τ) main_v22 fullShare (pf 0 : Vec F S8 .i32)).symm
      (owns_whole (c : Thread nD τ) main_v21 fullShare (pf 1 : Vec F S2x8 .i32)).symm)

section Region

variable {a : (pcfg2 (F := F)).Adm} {r n fe : ℕ → ℕ} (X : Vec F S1024x2048 .f32) (W13 : Vec F S8x4096x2048 .f32) (W2 : Vec F S8x2048x2048 .f32)
  (ws : Vec F S1024x1 .f32) (Y0 : Vec F S1024x2048 .f32) (O : CellTallies nD τ sig (HIx 3)) (B : Set (SemLoc sig × HIx 3)) (c : Dev nD)

theorem body_obl (h : Tab a.1 r n fe) : (rdat a r n X W13 W2 ws Y0 O B c).BodyObligation (defs₀ (F := F)) 𝒱₀ none Set.univ := by
  intro t Y hY
  have ht : t.val < 64 := lt_of_lt_of_eq t.isLt N_2
  have c0 := coord0 t
  have c1 := coord1 t
  have he := lt0 (grid2.coords t)
  have hs := lt1 (grid2.coords t)
  obtain ⟨d0, hd0⟩ := finds_in X W13 W2 ws Y0 O B c 0 rfl (fun _ _ _ h => h) t (Y 0) (hY 0)
  obtain ⟨d1, hd1⟩ := finds_in X W13 W2 ws Y0 O B c 1 rfl (fun _ _ _ h => h) t (Y 1) (hY 1)
  obtain ⟨d2, hd2⟩ := finds_in X W13 W2 ws Y0 O B c 2 rfl (fun _ _ _ h => h) t (Y 2) (hY 2)
  obtain ⟨d3, hd3⟩ := finds_in X W13 W2 ws Y0 O B c 3 rfl (fun _ _ _ h => h) t (Y 3) (hY 3)
  obtain ⟨d4, hd4⟩ := finds_in X W13 W2 ws Y0 O B c 4 rfl (fun _ _ _ h => h) t (Y 4) (hY 4)
  have h5 := finds5 X W13 W2 ws Y0 O B c t (Y 5) (hY 5)
  replace hd0 := hd0.trans (fetched0 X W13 W2 ws Y0 O B c t d0)
  replace hd1 := hd1.trans (fetched1 X W13 W2 ws Y0 O B c h t d1)
  replace hd2 := hd2.trans (fetched2 X W13 W2 ws Y0 O B c h t d2)
  replace hd3 := hd3.trans (fetched3 X W13 W2 ws Y0 O B c h t d3)
  replace hd4 := hd4.trans (fetched4 X W13 W2 ws Y0 O B c t d4)
  rw [bigSep_W2, bigSep_W2]
  rw [show (rdat a r n X W13 W2 ws Y0 O B c).Φ t.castSucc = iprop((∃ H : Vec F S256x2048 .f32, ⌜HOK r n X W13 (t.val / 8) (min (t.val % 8) 4) H⌝
        ∗ owns (c : Thread nD τ) (Memref.whole cc2_scratch0) fullShare H) ∗ prefHeld pre2 c (fun _ => fullShare) a.1) from rfl,
    show (rdat a r n X W13 W2 ws Y0 O B c).Φ t.succ = iprop((∃ H : Vec F S256x2048 .f32, ⌜HOK r n X W13 ((t.val + 1) / 8) (min ((t.val + 1) % 8) 4) H⌝
        ∗ owns (c : Thread nD τ) (Memref.whole cc2_scratch0) fullShare H) ∗ prefHeld pre2 c (fun _ => fullShare) a.1) from rfl,
    show (rdat a r n X W13 W2 ws Y0 O B c).owesAt none t.succ = (rdat a r n X W13 W2 ws Y0 O B c).owesAt none t.castSucc from rfl]
  rw [prefHeld_eq]
  rw [hd0, hd1, hd2, hd3, hd4]
  by_cases hlo : t.val % 8 < 4
  · iintro ⟨⟨⟨%H, %hH, Hs⟩, Ht0, Ht1⟩, HO, H0, H1, H2, H3, H4, H5⟩
    have hb := body_lo (F := F) (Ix := HIx 3) (Name := ℕ) (U := UU) (Lvl := ℕ) 𝒱₀ c none Set.univ (grid2.coords t) (Memref.whole main_v22) (Memref.isWhole_whole _) (Memref.whole main_v21) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (Memref.whole cc2_scratch0) (Memref.isWhole_whole _)
      (r := r (t.val / 8)) (n := n (t.val / 8)) (h.n_le _ (by omega)) (h.le _ (by omega)) (h.dvd _ (by omega)) (by omega) (q3 := fullShare)
      (a.1 1 : Vec F S2x8 .i32) ((congrArg (fun e => (a.1 1 : Vec F S2x8 .i32) (ix2 0 e)) c0).trans (h.t1 _ (by omega)))
      ((congrArg (fun e => (a.1 1 : Vec F S2x8 .i32) (ix2 1 e)) c0).trans (h.t2 _ (by omega))) (blk W13 (fe (grid2.coords t 0).val) (512 * min (grid2.coords t 1).val 3))
      (blk W13 (fe (grid2.coords t 0).val) (2048 + 512 * min (grid2.coords t 1).val 3)) X H

    iapply wp_wand_r
    isplitl [Ht1 H0 H1 H2 Hs]
    · iapply hb
      isplitl [Ht1]; · iexact Ht1
      isplitl [H0]; · iexact H0
      isplitl [H1]; · iexact H1
      isplitl [H2]; · iexact H2
      iexact Hs
    iintro %_ ⟨Ht1, H0, H1, H2, Hs⟩
    isplitl [Hs Ht0 Ht1]
    · isplitl [Hs]
      · iexists _
        isplitr [Hs]
        rotate_left
        · iexact Hs
        · ipureintro
          have h1 := HOK_succ h.toRoutes (by omega : t.val / 8 < 8) hH
          rw [show min (t.val % 8) 4 = t.val % 8 by omega] at h1
          rw [c0, c1, show min (t.val % 8) 3 = t.val % 8 by omega, show (t.val + 1) / 8 = t.val / 8 by omega,
            show min ((t.val + 1) % 8) 4 = t.val % 8 + 1 by omega]
          exact h1
      isplitl [Ht0] <;> iassumption
    isplitl [HO]; · iexact HO
    isplitl [H0]
    · iexists _; isplitr [H0]; rotate_left
      · iexact H0
      · ipureintro; rfl
    isplitl [H1]
    · iexists _; isplitr [H1]; rotate_left
      · iexact H1
      · ipureintro; rfl
    isplitl [H2]
    · iexists _; isplitr [H2]; rotate_left
      · iexact H2
      · ipureintro; rfl
    isplitl [H3]
    · iexists _; isplitr [H3]; rotate_left
      · iexact H3
      · ipureintro; rfl
    isplitl [H4]
    · iexists _; isplitr [H4]; rotate_left
      · iexact H4
      · ipureintro; rfl
    iexists _; isplitr [H5]; rotate_left
    · iexact H5
    · ipureintro
      intro hYY
      have := YOK_lo (by omega : t.val / 8 < 8) hlo (Y := Y 5) (by rw [show 8 * (t.val / 8) + t.val % 8 = t.val by omega]; exact hYY)
      rwa [show 8 * (t.val / 8) + t.val % 8 = t.val by omega] at this
  · iintro ⟨⟨⟨%H, %hH, Hs⟩, Ht0, Ht1⟩, HO, H0, H1, H2, H3, H4, H5⟩
    have hb := body_hi (F := F) (Ix := HIx 3) (Name := ℕ) (U := UU) (Lvl := ℕ) 𝒱₀ c none Set.univ (grid2.coords t) (Memref.whole main_v22) (Memref.isWhole_whole _) (Memref.whole main_v21) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (Memref.whole cc2_scratch0) (Memref.isWhole_whole _)
      (r := r (t.val / 8)) (n := n (t.val / 8)) (h.n_le _ (by omega)) (h.le _ (by omega)) (h.dvd _ (by omega)) (by omega) (q3 := fullShare)
      (a.1 1 : Vec F S2x8 .i32) ((congrArg (fun e => (a.1 1 : Vec F S2x8 .i32) (ix2 0 e)) c0).trans (h.t1 _ (by omega)))
      ((congrArg (fun e => (a.1 1 : Vec F S2x8 .i32) (ix2 1 e)) c0).trans (h.t2 _ (by omega))) (blk W2 (fe (grid2.coords t 0).val) (512 * ((grid2.coords t 1).val - 4))) ws (Y 5) H

    iapply wp_wand_r
    isplitl [Ht1 H3 H4 H5 Hs]
    · iapply hb
      isplitl [Ht1]; · iexact Ht1
      isplitl [H3]; · iexact H3
      isplitl [H4]; · iexact H4
      isplitl [H5]; · iexact H5
      iexact Hs
    iintro %_ ⟨Ht1, H3, H4, H5, Hs⟩
    isplitl [Hs Ht0 Ht1]
    · isplitl [Hs]
      · iexists H
        isplitr [Hs]
        rotate_left
        · iexact Hs
        · ipureintro
          by_cases h7 : t.val % 8 = 7
          · rw [show min ((t.val + 1) % 8) 4 = 0 by omega]; exact HOK_zero _ _
          · rw [show (t.val + 1) / 8 = t.val / 8 by omega, show min ((t.val + 1) % 8) 4 = min (t.val % 8) 4 by omega]; exact hH
      isplitl [Ht0] <;> iassumption
    isplitl [HO]; · iexact HO
    isplitl [H0]
    · iexists _; isplitr [H0]; rotate_left
      · iexact H0
      · ipureintro; rfl
    isplitl [H1]
    · iexists _; isplitr [H1]; rotate_left
      · iexact H1
      · ipureintro; rfl
    isplitl [H2]
    · iexists _; isplitr [H2]; rotate_left
      · iexact H2
      · ipureintro; rfl
    isplitl [H3]
    · iexists _; isplitr [H3]; rotate_left
      · iexact H3
      · ipureintro; rfl
    isplitl [H4]
    · iexists _; isplitr [H4]; rotate_left
      · iexact H4
      · ipureintro; rfl
    iexists _; isplitr [H5]; rotate_left
    · iexact H5
    · ipureintro
      intro hYY
      have := YOK_hi h.toRoutes (by omega : t.val / 8 < 8) (by omega : t.val % 8 - 4 < 4) (by rwa [show min (t.val % 8) 4 = 4 by omega] at hH)
        (Y := Y 5) (by rw [show 8 * (t.val / 8) + 4 + (t.val % 8 - 4) = t.val by omega]; exact hYY)
      rw [show 8 * (t.val / 8) + 4 + (t.val % 8 - 4) = t.val by omega] at this
      rw [c0, c1]
      exact this

end Region

end Cert.Proof.Moe

end
-- ==== Proof.MoeSeg.lean ====
/-
  The prefetched call as one step of @main: from its arrays and tables held whole to the same with the output right in every row an
  expert owns.
-/
module

public import proofs.«01_k».proof.Proof.MoePoint

@[expose] public section

set_option maxRecDepth 4000

noncomputable section

namespace Cert.Proof.Moe

open Cert.KernelIdeal Cert.KernelIdeal.Gen
open Cert.Proof (K D 𝒱₀ 𝒱 UH UU EH EP)
open Idealize.ShloMosaic Idealize.ShloMosaic.TcCoe Idealize.ShloMosaic.Tactic
open Idealize.ShloMosaic.SparseCore.Cfg (HIx)
open Idealize.ShloMosaic.Pipeline (RDat prefHeld)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (a : (pcfg2 (F := F)).Adm) (r n fe : ℕ → ℕ) (X : Vec F S1024x2048 .f32) (W13 : Vec F S8x4096x2048 .f32) (W2 : Vec F S8x2048x2048 .f32)
  (ws : Vec F S1024x1 .f32) (Y0 : Vec F S1024x2048 .f32) (O : CellTallies nD τ sig (HIx 3)) (B : Set (SemLoc sig × HIx 3)) (c : Dev nD)

/-- A windowed array is a whole buffer. -/
theorem whole_pts (b : Ref sig .tc) (q q' : PosShare TreeShare) (h : q = q') (f : b.ty.Contents (Elt F)) :
    ((Memref.whole b).view.loc (c : Thread nD τ) ↦[(Memref.whole b).view.set]{q} f : sProp 𝕄) = (((c : Thread nD τ).loc b) ↦{q'} f) := by
  subst h
  simp only [Memref.view_whole, View.set_whole]

theorem whole_pts_of (b : Ref sig .tc) (q q' : PosShare TreeShare) (h : q = q') (f g : b.ty.Contents (Elt F)) (hg : g = f) :
    ((Memref.whole b).view.loc (c : Thread nD τ) ↦[(Memref.whole b).view.set]{q} f : sProp 𝕄) = (((c : Thread nD τ).loc b) ↦{q'} g) := by
  subst hg; exact whole_pts c b q q' h g

/-- The windowed arrays, one by one. -/
def six (f0 : Vec F S1024x2048 .f32) (f1 f2 : Vec F S8x4096x2048 .f32) (f3 : Vec F S8x2048x2048 .f32) (f4 : Vec F S1024x1 .f32)
    (f5 : Vec F S1024x2048 .f32) : sProp 𝕄 :=
  iprop((((c : Thread nD τ).loc main_v16) ↦{fullShare} f0) ∗ (((c : Thread nD τ).loc main_arg3) ↦{fullShare.left} f1)
    ∗ (((c : Thread nD τ).loc main_arg3) ↦{fullShare.right} f2) ∗ (((c : Thread nD τ).loc main_arg4) ↦{fullShare} f3)
    ∗ (((c : Thread nD τ).loc main_v23) ↦{fullShare} f4) ∗ (((c : Thread nD τ).loc main_v24) ↦{fullShare} f5))

theorem arrays_eq : ((rdat a r n X W13 W2 ws Y0 O B c).arrays (rdat a r n X W13 W2 ws Y0 O B c).A : sProp 𝕄) = six c X W13 W13 W2 ws Y0 := by
  unfold RDat.arrays
  refine (bigSep_W2 _).trans ?_
  refine congrArg₂ (fun P Q : sProp 𝕄 => iprop(P ∗ Q)) (whole_pts c main_v16 _ _ rfl X) ?_
  refine congrArg₂ (fun P Q : sProp 𝕄 => iprop(P ∗ Q)) (whole_pts c main_arg3 _ _ rfl W13) ?_
  refine congrArg₂ (fun P Q : sProp 𝕄 => iprop(P ∗ Q)) (whole_pts c main_arg3 _ _ rfl W13) ?_
  refine congrArg₂ (fun P Q : sProp 𝕄 => iprop(P ∗ Q)) (whole_pts c main_arg4 _ _ rfl W2) ?_
  exact congrArg₂ (fun P Q : sProp 𝕄 => iprop(P ∗ Q)) (whole_pts c main_v23 _ _ rfl ws) (whole_pts c main_v24 _ _ rfl Y0)

omit [FloatOps F] in
/-- A written-back point's step. -/
theorem arrAt_flush {cfg : Pipeline.Cfg sig Λ₀} {c : Dev nD} (rd : RDat τ (Elt F) (HIx 3) ℕ UU ℕ cfg c) (w : Fin cfg.W) (t : ℕ) (h : t < cfg.N)
    (hf : (cfg.win w).flush ⟨t, h⟩ = true) : rd.ArrAt w (t + 1) = rd.ArrStep w ⟨t, h⟩ (rd.ArrAt w t) := by
  rw [RDat.ArrAt]
  simp only [dif_pos h, if_pos hf]

/-- What the output's array holds at the end. -/
theorem out_ok (G : Vec F S1024x2048 .f32) (hG : (rdat a r n X W13 W2 ws Y0 O B c).ArrAt 5 64 G) : YOK r n X W13 W2 ws 64 G := by
  have h63 : 63 < (cfg2 a).N := by show 63 < grid2.N; rw [N_2]; omega
  have hf : ((cfg2 a).win 5).flush ⟨63, h63⟩ = true := (flush5 (a := a) ⟨63, h63⟩).mpr rfl
  rw [show (64 : ℕ) = 63 + 1 from rfl, arrAt_flush _ _ 63 h63 hf] at hG
  obtain ⟨G₀, Z, -, ⟨Y, hY, hR⟩, hG⟩ := hG
  have hZ : YOK r n X W13 W2 ws 64 Z := hR (finds5 X W13 W2 ws Y0 O B c ⟨63, h63⟩ Y hY)
  have e : (((cfg2 a).win 5).blk ⟨63, h63⟩).view.write (Elt F) G₀ (((cfg2 a).win 5).cut ((cfg2 a).grid.coords ⟨63, h63⟩) Z) Finset.univ = Z := by
    have hid : ∀ y : S1024x2048.Idx, (((cfg2 a).win 5).blk ⟨63, h63⟩).view.emb y = y := fun y => by
      refine (eq_ix2 (m := 1024) (n := 2048) _ (p := (y 0).val) (q := (y 1).val) ?_ ?_).trans (eq_ix2 (m := 1024) (n := 2048) y rfl rfl).symm
      · show 0 * 1024 + 1 * (y 0).val = _; omega
      · show 0 * 2048 + 1 * (y 1).val = _; omega
    funext (y : S1024x2048.Idx)
    have := View.write_emb_of_mem (Val := Elt F) (v := (((cfg2 a).win 5).blk ⟨63, h63⟩).view) G₀ (((cfg2 a).win 5).cut ((cfg2 a).grid.coords ⟨63, h63⟩) Z)
      (M := Finset.univ) (x := y) (Finset.mem_univ _)
    rw [hid y] at this
    exact this
  rw [hG.trans e]; exact hZ

theorem arraysAt_elim : ((rdat a r n X W13 W2 ws Y0 O B c).arraysAt 64 : sProp 𝕄)
    ⊢ iprop(∃ G : Vec F S1024x2048 .f32, ⌜YOK r n X W13 W2 ws 64 G⌝ ∗ six c X W13 W13 W2 ws G) := by
  unfold RDat.arraysAt
  refine (Entails.of_eq (bigSep_W2 _)).trans ?_
  iintro ⟨⟨%f0, %h0, H0⟩, ⟨%f1, %h1, H1⟩, ⟨%f2, %h2, H2⟩, ⟨%f3, %h3, H3⟩, ⟨%f4, %h4, H4⟩, ⟨%f5, %h5, H5⟩⟩
  replace h0 := ((congrFun (RDat.ArrAt_in _ 0 rfl 64) f0).mp h0).symm
  replace h1 := ((congrFun (RDat.ArrAt_in _ 1 rfl 64) f1).mp h1).symm
  replace h2 := ((congrFun (RDat.ArrAt_in _ 2 rfl 64) f2).mp h2).symm
  replace h3 := ((congrFun (RDat.ArrAt_in _ 3 rfl 64) f3).mp h3).symm
  replace h4 := ((congrFun (RDat.ArrAt_in _ 4 rfl 64) f4).mp h4).symm
  iexists f5
  isplitr
  · ipureintro; exact out_ok a r n X W13 W2 ws Y0 O B c f5 h5
  unfold six
  isplitl [H0]; · iapply (Entails.of_eq (whole_pts_of c main_v16 _ _ rfl f0 X h0)) $$ H0
  isplitl [H1]; · iapply (Entails.of_eq (whole_pts_of c main_arg3 _ _ rfl f1 W13 h1)) $$ H1
  isplitl [H2]; · iapply (Entails.of_eq (whole_pts_of c main_arg3 _ _ rfl f2 W13 h2)) $$ H2
  isplitl [H3]; · iapply (Entails.of_eq (whole_pts_of c main_arg4 _ _ rfl f3 W2 h3)) $$ H3
  isplitl [H4]; · iapply (Entails.of_eq (whole_pts_of c main_v23 _ _ rfl f4 ws h4)) $$ H4
  iapply (Entails.of_eq (whole_pts c main_v24 _ _ rfl f5)) $$ H5

/-- What the call starts from, and (at the output it leaves) what it ends with. -/
def st (G : Vec F S1024x2048 .f32) : sProp 𝕄 :=
  iprop((((c : Thread nD τ).loc main_v16) ↦{fullShare} X) ∗ (((c : Thread nD τ).loc main_arg3) ↦{fullShare} W13)
    ∗ (((c : Thread nD τ).loc main_arg4) ↦{fullShare} W2) ∗ (((c : Thread nD τ).loc main_v23) ↦{fullShare} ws)
    ∗ (((c : Thread nD τ).loc main_v24) ↦{fullShare} G)
    ∗ (((c : Thread nD τ).loc main_v22) ↦{fullShare} (a.1 0 : Vec F S8 .i32)) ∗ (((c : Thread nD τ).loc main_v21) ↦{fullShare} (a.1 1 : Vec F S2x8 .i32))
    ∗ Pipeline.owesWithin c O (B ∪ (cfg2 a).waitPairs none))

/-- The tables of the one pipeline, and its proof data. -/
def adms : (p : Fin 1) → (pcfgs (F := F) p).Adm := fun | 0 => a
def rds : (p : Fin 1) → (c : Dev nD) → RDat τ (Elt F) (HIx 3) ℕ UU ℕ (Pipeline.pin (pcfgs (F := F)) (adms a) p) c :=
  fun | 0 => fun c => rdat a r n X W13 W2 ws Y0 O B c

variable (lv : GSem nD τ sig → HIx 3 → ℕ)

theorem pref_eq : (prefHeld pre2 c (fun _ => fullShare) a.1 : sProp 𝕄)
    = iprop((((c : Thread nD τ).loc main_v22) ↦{fullShare} (a.1 0 : Vec F S8 .i32)) ∗ (((c : Thread nD τ).loc main_v21) ↦{fullShare} (a.1 1 : Vec F S2x8 .i32))) :=
  bigSep_univ_eq_bigSepL [(0 : Fin 2), (1 : Fin 2)] (by decide) (by decide) _

theorem phi_eq (t : Fin ((cfg2 a).N + 1)) (k : ℕ) (hk : t.val = k) : (rdat a r n X W13 W2 ws Y0 O B c).Φ t
    = iprop((∃ H : Vec F S256x2048 .f32, ⌜HOK r n X W13 (k / 8) (min (k % 8) 4) H⌝ ∗ owns (c : Thread nD τ) (Memref.whole cc2_scratch0) fullShare H)
      ∗ prefHeld pre2 c (fun _ => fullShare) a.1) := by subst hk; rfl

/-- The call as a region of @main. -/
def reg (h : Tab a.1 r n fe) (hO : ∀ g, O g none = 0) (hlv : (K (F := F)).Refines lv) :
    Pipeline.RDat.RegionSeg (pcfgs (F := F)) (adms a) (rds a r n X W13 W2 ws Y0 O B) none defs₀ 𝒱₀ (K (F := F)).L lv 0 where
  win := winFacts₀2
  block_pos := block_pos2
  stage_whole := stage_whole2
  K := PEmpty
  osem k := k.elim
  ho := Pipeline.OwnSemFacts.none _
  hbody c := body_obl X W13 W2 ws Y0 O B c h
  hwaits c := Pipeline.RDat.cellsWaits_intro (Pipeline.pin (pcfgs (F := F)) (adms a)) (rds a r n X W13 W2 ws Y0 O B) none 0 c
    fun w s t => (K (F := F)).mayWait_none _ hO lv hlv
  pre c := st a X W13 W2 ws O B c Y0
  post c := iprop(∃ G, ⌜YOK r n X W13 W2 ws 64 G⌝ ∗ st a X W13 W2 ws O B c G)
  X _ := iprop(emp)
  Y c := prefHeld pre2 c (fun _ => fullShare) a.1
  Z _ := iprop(emp)
  hentry c := by
    rw [Pipeline.ownSems0_none]
    show _ ⊢ |={Set.univ}=> iprop((rdat a r n X W13 W2 ws Y0 O B c).arrays (rdat a r n X W13 W2 ws Y0 O B c).A
      ∗ prefHeld pre2 c (fun _ => fullShare) a.1 ∗ Pipeline.owesWithin c O (B ∪ (cfg2 a).waitPairs none) ∗ emp ∗ emp)
    rw [arrays_eq, pref_eq]
    unfold st six
    iintro ⟨⟨H0, H1, H3, H4, H5, T0, T1, HO⟩, -, -⟩
    imodintro
    ihave H1 := (pointsTo_share (PosShare.mem_left_op_right fullShare)).1 $$ H1
    icases H1 with ⟨H1, H2⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [T0 T1]; · isplitl [T0] <;> iassumption
    isplitl [HO]; · iexact HO
    isplitl <;> iempintro
  hin c := by
    show iprop(emp ∗ prefHeld pre2 c (fun _ => fullShare) a.1 ∗ Pipeline.scopedRest spec2 c) ⊢ (rdat a r n X W13 W2 ws Y0 O B c).Φ 0
    rw [scopedRest2_eq, phi_eq a r n X W13 W2 ws Y0 O B c 0 0 rfl]
    iintro ⟨-, Hp, ⟨%f, Hs⟩⟩
    isplitl [Hs]
    · iexists f
      isplitr
      · ipureintro; exact HOK_zero _ _
      · iapply (Entails.of_eq (owns_whole (c : Thread nD τ) cc2_scratch0 fullShare f).symm) $$ Hs
    iexact Hp
  hout c := by
    show (rdat a r n X W13 W2 ws Y0 O B c).Φ (Fin.last (cfg2 a).N) ⊢ iprop(prefHeld pre2 c (fun _ => fullShare) a.1 ∗ Pipeline.ownSems0 (fun k : PEmpty => k.elim) c ∗ Pipeline.scopedRest spec2 c)
    rw [Pipeline.ownSems0_none, scopedRest2_eq, phi_eq a r n X W13 W2 ws Y0 O B c _ 64 (by show grid2.N = 64; exact N_2)]
    iintro ⟨⟨%H, -, Hs⟩, Hp⟩
    isplitl [Hp]; · iexact Hp
    isplitr; · iempintro
    iexists H
    iapply (Entails.of_eq (owns_whole (c : Thread nD τ) cc2_scratch0 fullShare H)) $$ Hs
  hexit c := by
    show iprop((rdat a r n X W13 W2 ws Y0 O B c).arraysAt grid2.N ∗ Pipeline.owesWithin c O (B ∪ (cfg2 a).waitPairs none)
      ∗ prefHeld pre2 c (fun _ => fullShare) a.1 ∗ emp) ⊢ _
    rw [N_2, pref_eq]
    unfold st
    iintro ⟨HA, HO, ⟨T0, T1⟩, -⟩
    imodintro
    ihave HA := (arraysAt_elim a r n X W13 W2 ws Y0 O B c) $$ HA
    icases HA with ⟨%G, %hG, HA⟩
    unfold six
    icases HA with ⟨H0, H1, H2, H3, H4, H5⟩
    iexists G
    isplitr; · ipureintro; exact hG
    isplitl [H0]; · iexact H0
    isplitl [H1 H2]
    · iapply (pointsTo_share (PosShare.mem_left_op_right fullShare)).2
      isplitl [H1] <;> iassumption
    isplitl [H3]; · iexact H3
    isplitl [H4]; · iexact H4
    isplitl [H5]; · iexact H5
    isplitl [T0]; · iexact T0
    isplitl [T1]; · iexact T1
    iexact HO

end Cert.Proof.Moe

end
-- ==== Proof.Values.lean ====
/-
  The values of one run, from the five argument arrays: what the routing reads and writes, what the gather moves, what the experts
  compute, and what the combine adds; with the bounds the SparseCore calls ask for.
-/
module

public import proofs.«01_k».proof.Proof.Pay
public import proofs.«01_k».proof.Proof.MoeSeg

@[expose] public section

noncomputable section

namespace Cert.Proof

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Route (permF wsF rowF)
open Cert.Proof.Moe (w32 YOK outV Routes Tab)
open Cert.Proof.Routing

variable {F : FTy → Type} [FloatOps F]

local notation "𝕄" => MT nD τ sig (HIx 3) (Elt F) ℕ UU ℕ

/-- The five arguments, with what is assumed of the experts. -/
structure In (F : FTy → Type) where
  x : Vec F S256x2048 .f32
  e : Vec F S256x2 .i32
  w : Vec F S256x2 .f32
  W13 : Vec F S8x4096x2048 .f32
  W2 : Vec F S8x2048x2048 .f32
  he : ∀ t j, ((e (ix2 (m := 256) (n := 2) t j) : BitVec 32)).toNat < 8
  hd : ∀ t, t < 256 → (e (ix2 (m := 256) (n := 2) t 0) : BitVec 32) ≠ e (ix2 (m := 256) (n := 2) t 1)

variable (I : In F)

/-- The expert pair `p` names, pair 2t + j being token t's choice j. -/
def key (p : ℕ) : ℕ := ((I.e (ix2 (m := 256) (n := 2) (p / 2) (p % 2)) : BitVec 32)).toNat

theorem key_lt (p : ℕ) : key I p < 8 := I.he _ _

theorem key_ne (t : ℕ) (ht : t < 256) : key I (2 * t) ≠ key I (2 * t + 1) := by
  unfold key
  rw [show 2 * t / 2 = t by omega, show 2 * t % 2 = 0 by omega, show (2 * t + 1) / 2 = t by omega, show (2 * t + 1) % 2 = 1 by omega]
  intro h
  exact I.hd t ht (BitVec.eq_of_toNat_eq h)

theorem routesI : Routes (ro (key I)) (ns (key I)) (fe (key I)) := routes (fun p _ => key_lt I p) (key_ne I)

def fkI : Vec F S512 .i32 := fun y => I.e (ix2 (m := 256) (n := 2) ((y 0).val / 2) ((y 0).val % 2))
def fwI : Vec F S512 .f32 := fun y => I.w (ix2 (m := 256) (n := 2) ((y 0).val / 2) ((y 0).val % 2))
def ftI : Vec F S512 .i32 := fun y => w32 ((y 0).val / 2)
/-- The tokens' rows, each cut into sixteen. -/
def fxI : Vec F S4096x128 .f32 := fun y => I.x (ix2 (m := 256) (n := 2048) ((y 0).val / 16) ((y 0).val % 16 * 128 + (y 1).val))

/-- Entry k of a row list whose rows are cut into sixteen. -/
def chunk (v : ℕ → BitVec 32) (k : ℕ) : BitVec 32 := v (k / 16) * 16#32 + w32 (k % 16)

theorem chunk_toNat (v : ℕ → BitVec 32) (k : ℕ) (h : (v (k / 16)).toNat < 2 ^ 20) : (chunk v k).toNat = 16 * (v (k / 16)).toNat + k % 16 := by
  unfold chunk w32
  rw [BitVec.toNat_add, BitVec.toNat_mul, BitVec.toNat_ofNat]
  simp only [BitVec.toNat_ofNat]
  omega

/-- The token each padded row holds. -/
def tok (k : ℕ) : BitVec 32 := (permF (F := F) (key I) : Vec F S1024 .i32) (ix1 (m := 1024) k)

theorem tok_lt (k : ℕ) : (tok I k).toNat < 256 := by
  unfold tok permF
  refine placed_prop (Q := fun b : BitVec 32 => b.toNat < 256) (by decide) 512 _ fun p hp => ?_
  unfold w32
  rw [BitVec.toNat_ofNat]
  omega

theorem tok_dest (p : ℕ) (hp : p < 512) : (tok I (dest (key I) p)).toNat = p / 2 := by
  have hl := dest_lt_1024 (key := key I) (fun p _ => key_lt I p) hp
  unfold tok permF
  rw [show (((ix1 (m := 1024) (dest (key I) p)) : S1024.Idx) 0).val = dest (key I) p from Nat.mod_eq_of_lt hl,
    placed_dest (key := key I) (fun p => w32 (p / 2)) 0#32 (le_refl 512) hp]
  unfold w32
  rw [BitVec.toNat_ofNat]
  omega

/-- The row of pair 2t + b. -/
def rowW (b k : ℕ) : BitVec 32 := (rowF (F := F) (key I) b : Vec F S256 .i32) (ix1 (m := 256) k)

theorem rowW_toNat (b k : ℕ) (hb : b < 2) (hk : k < 256) : (rowW I b k).toNat = dest (key I) (2 * k + b) := by
  have hl := dest_lt_1024 (key := key I) (fun p _ => key_lt I p) (p := 2 * k + b) (by omega)
  unfold rowW rowF
  rw [show (((ix1 (m := 256) k) : S256.Idx) 0).val = k from Nat.mod_eq_of_lt hk]
  unfold w32
  rw [BitVec.toNat_ofNat]
  omega

def fiI : Vec F S16384 .i32 := fun y => chunk (tok I) (y 0).val
def fiR (b : ℕ) : Vec F S4096 .i32 := fun y => chunk (rowW I b) (y 0).val

theorem fiI_toNat (y : S16384.Idx) : ((fiI I y : BitVec 32)).toNat = 16 * (tok I ((y 0).val / 16)).toNat + (y 0).val % 16 := by
  have := tok_lt I ((y 0).val / 16)
  exact chunk_toNat _ _ (by omega)

theorem fiI_lt (y : S16384.Idx) : ((fiI I y : BitVec 32)).toNat < 4096 := by
  have h := tok_lt I ((y 0).val / 16)
  rw [fiI_toNat]; omega

theorem fiR_toNat (b : ℕ) (hb : b < 2) (y : S4096.Idx) :
    ((fiR I b y : BitVec 32)).toNat = 16 * dest (key I) (2 * ((y 0).val / 16) + b) + (y 0).val % 16 := by
  have hy : (y 0).val < 4096 := (y 0).isLt
  have h := rowW_toNat I b ((y 0).val / 16) hb (by omega)
  have hl := dest_lt_1024 (key := key I) (fun p _ => key_lt I p) (p := 2 * ((y 0).val / 16) + b) (by omega)
  unfold fiR
  rw [chunk_toNat _ _ (by omega), h]

theorem fiR_lt (b : ℕ) (hb : b < 2) (y : S4096.Idx) : ((fiR I b y : BitVec 32)).toNat < 16384 := by
  have hy : (y 0).val < 4096 := (y 0).isLt
  have hl := dest_lt_1024 (key := key I) (fun p _ => key_lt I p) (p := 2 * ((y 0).val / 16) + b) (by omega)
  rw [fiR_toNat I b hb]; omega

/-- The gathered rows. -/
def XI : Vec F S1024x2048 .f32 := fun z => I.x (ix2 (m := 256) (n := 2048) (tok I (z 0).val).toNat (z 1).val)
/-- The padded rows' weights. -/
def wsI : Vec F S1024x1 .f32 := fun z => (wsF (key I) (fwI I) : Vec F S1024 .f32) (ix1 (m := 1024) (z 0).val)

/-- What the experts leave of pair p in column c. -/
def outAt (p c : ℕ) : F .f32 :=
  outV (ro (key I)) (XI I) I.W13 I.W2 (wsI I) (key I p) (dest (key I) p - ro (key I) (key I p)) c

/-- The sums, as the combine lays them out and as the result lays them out. -/
def outI : Vec F S4096x128 .f32 := fun y =>
  FloatOps.addf (φ := .f32) (outAt I (2 * ((y 0).val / 16)) ((y 0).val % 16 * 128 + (y 1).val)) (outAt I (2 * ((y 0).val / 16) + 1) ((y 0).val % 16 * 128 + (y 1).val))
def resI : Vec F S256x2048 .f32 := fun y => FloatOps.addf (φ := .f32) (outAt I (2 * (y 0).val) (y 1).val) (outAt I (2 * (y 0).val + 1) (y 1).val)

/-- A [1024, 2048] array with its rows cut into sixteen. -/
def cut (G : Vec F S1024x2048 .f32) : Vec F S16384x128 .f32 := fun y =>
  G (ix2 (m := 1024) (n := 2048) ((y 0).val / 16) ((y 0).val % 16 * 128 + (y 1).val))

/-- What is known of the experts' output. -/
def YkI (Y : S16384x128.Idx → Elt F .f32) : Prop :=
  ∃ G : Vec F S1024x2048 .f32, YOK (ro (key I)) (ns (key I)) (XI I) I.W13 I.W2 (wsI I) 64 G ∧ Y = cut G

theorem pick_cut {G : Vec F S1024x2048 .f32} (hG : YOK (ro (key I)) (ns (key I)) (XI I) I.W13 I.W2 (wsI I) 64 G) (b : ℕ) (hb : b < 2) (y : S4096x128.Idx) :
    Combine.pick (cut G) (fiR I b) y = outAt I (2 * ((y 0).val / 16) + b) ((y 0).val % 16 * 128 + (y 1).val) := by
  have hy : (y 0).val < 4096 := (y 0).isLt
  have hy1 : (y 1).val < 128 := (y 1).isLt
  have hp : 2 * ((y 0).val / 16) + b < 512 := by omega
  have hl := dest_lt_1024 (key := key I) (fun p _ => key_lt I p) hp
  have hx : (((ix1 (m := 4096) (y 0).val) : S4096.Idx) 0).val = (y 0).val := Nat.mod_eq_of_lt hy
  have ht := fiR_toNat I b hb (ix1 (m := 4096) (y 0).val)
  rw [hx] at ht
  unfold Combine.pick cut
  have e0 : (((ix2 (m := 16384) (n := 128) ((fiR I b (ix1 (m := 4096) (y 0).val) : BitVec 32)).toNat (y 1).val) : S16384x128.Idx) 0).val =
      16 * dest (key I) (2 * ((y 0).val / 16) + b) + (y 0).val % 16 := by
    rw [Moe.ix2_zero _ _ (by rw [ht]; omega), ht]
  have e1 : (((ix2 (m := 16384) (n := 128) ((fiR I b (ix1 (m := 4096) (y 0).val) : BitVec 32)).toNat (y 1).val) : S16384x128.Idx) 1).val = (y 1).val :=
    Moe.ix2_one _ _ hy1
  rw [e0, e1, show (16 * dest (key I) (2 * ((y 0).val / 16) + b) + (y 0).val % 16) / 16 = dest (key I) (2 * ((y 0).val / 16) + b) by omega,
    show (16 * dest (key I) (2 * ((y 0).val / 16) + b) + (y 0).val % 16) % 16 = (y 0).val % 16 by omega]
  have hz0 : (((ix2 (m := 1024) (n := 2048) (dest (key I) (2 * ((y 0).val / 16) + b)) ((y 0).val % 16 * 128 + (y 1).val)) : S1024x2048.Idx) 0).val =
      dest (key I) (2 * ((y 0).val / 16) + b) := Moe.ix2_zero _ _ hl
  have hz1 : (((ix2 (m := 1024) (n := 2048) (dest (key I) (2 * ((y 0).val / 16) + b)) ((y 0).val % 16 * 128 + (y 1).val)) : S1024x2048.Idx) 1).val =
      (y 0).val % 16 * 128 + (y 1).val := Moe.ix2_one _ _ (by omega)
  have hlo := le_dest (key := key I) (2 * ((y 0).val / 16) + b)
  have hhi := dest_lt (key := key I) hp
  have hk := key_lt I (2 * ((y 0).val / 16) + b)
  rw [hG (key I (2 * ((y 0).val / 16) + b)) hk _ (by rw [hz0]; exact hlo) (by rw [hz0]; exact hhi) (by rw [hz1]; omega), hz0, hz1]
  rfl

theorem comb_cut (Y : S16384x128.Idx → Elt F .f32) (h : YkI I Y) : Combine.comb Y (fiR I 0) (fiR I 1) = outI I := by
  obtain ⟨G, hG, rfl⟩ := h
  funext y
  show FloatOps.addf (φ := .f32) (Combine.pick (cut G) (fiR I 0) y) (Combine.pick (cut G) (fiR I 1) y) = _
  rw [pick_cut I hG 0 (by omega), pick_cut I hG 1 (by omega)]
  rfl

/-- The values of the run from these arguments. -/
def vals : Vals F where
  key := key I
  hk p _ := key_lt I p
  fk := fkI I
  fw := fwI I
  ft := ftI
  hfk p hp := by
    unfold fkI key w32
    rw [show (((ix1 (m := 512) p) : S512.Idx) 0).val = p from Nat.mod_eq_of_lt hp]
    exact (BitVec.ofNat_toNat 32 _ ▸ (BitVec.setWidth_eq _).symm)
  hft p hp := by
    unfold ftI
    rw [show (((ix1 (m := 512) p) : S512.Idx) 0).val = p from Nat.mod_eq_of_lt hp]
  fx := fxI I
  fi := fiI I
  hfi := fiI_lt I
  Yk := YkI I
  fia := fiR I 0
  fib := fiR I 1
  hfia := fiR_lt I 0 (by omega)
  hfib := fiR_lt I 1 (by omega)
  out := outI I
  hout := comb_cut I

/-- What the gather leaves is the gathered rows, cut into sixteen. -/
theorem gat_cut (z : S1024x2048.Idx) (y : S16384x128.Idx) (h0 : (y 0).val = 16 * (z 0).val + (z 1).val / 128) (h1 : (y 1).val = (z 1).val % 128) :
    Gather.gat (fxI I) (fiI I) y = XI I z := by
  have hz : (z 0).val < 1024 := (z 0).isLt
  have hz1 : (z 1).val < 2048 := (z 1).isLt
  have hy : (y 0).val < 16384 := (y 0).isLt
  have hx : (((ix1 (m := 16384) (y 0).val) : S16384.Idx) 0).val = (y 0).val := Nat.mod_eq_of_lt hy
  have ht := fiI_toNat I (ix1 (m := 16384) (y 0).val)
  rw [hx, show (y 0).val / 16 = (z 0).val by omega, show (y 0).val % 16 = (z 1).val / 128 by omega] at ht
  have hlt := tok_lt I (z 0).val
  unfold Gather.gat fxI XI
  have e0 : (((ix2 (m := 4096) (n := 128) ((fiI I (ix1 (m := 16384) (y 0).val) : BitVec 32)).toNat (y 1).val) : S4096x128.Idx) 0).val =
      16 * (tok I (z 0).val).toNat + (z 1).val / 128 := by
    rw [Moe.ix2_zero _ _ (by rw [ht]; omega), ht]
  have e1 : (((ix2 (m := 4096) (n := 128) ((fiI I (ix1 (m := 16384) (y 0).val) : BitVec 32)).toNat (y 1).val) : S4096x128.Idx) 1).val = (z 1).val % 128 :=
    (Moe.ix2_one (m := 4096) (n := 128) _ _ (y 1).isLt).trans h1
  rw [e0, e1, show (16 * (tok I (z 0).val).toNat + (z 1).val / 128) / 16 = (tok I (z 0).val).toNat by omega,
    show (16 * (tok I (z 0).val).toNat + (z 1).val / 128) % 16 * 128 + (z 1).val % 128 = (z 1).val by omega]

end Cert.Proof
-- ==== Proof.Host.lean ====
/-
  @main on the TensorCore as what it is: stretches of host operations, the three SparseCore calls and the experts' region between them.
-/
module

public import proofs.«01_k».proof.Proof.Pay
public import proofs.«01_k».proof.Proof.MoeSeg

@[expose] public section

noncomputable section

namespace Cert.Proof

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 3) (Elt F) ℕ UU ℕ

/-- The experts, the weights and the pair numbers, as one row each. -/
def opsA : List (HloOp τ sig (Elt F)) := [
  StableHlo.reshape main_arg1 main_v0 (rfl : (.i32 : EltTy) = .i32) shapeCasts_S256x2_S512,
  StableHlo.reshape main_arg2 main_v1 (rfl : (.f32 : EltTy) = .f32) shapeCasts_S256x2_S512,
  StableHlo.nullary main_v2 (iotaInDim S512 32 0),
  StableHlo.nullary main_c (constantI S_ 32 2#32)]

/-- The token of each pair: its number halved. -/
def opsB : List (HloOp τ sig (Elt F)) := [
  StableHlo.unary main_c main_call0_v0 (id : (⟨S_, .i32⟩ : BufTy).Contents (Elt F) → (⟨S_, .i32⟩ : BufTy).Contents (Elt F)),
  StableHlo.unary main_call0_v0 main_call0_v1 ((broadcastInDim S512 ![] bcast_S_S512) : (⟨S_, .i32⟩ : BufTy).Contents (Elt F) → (⟨S512, .i32⟩ : BufTy).Contents (Elt F)),
  StableHlo.binary main_v2 main_call0_v1 main_call0_v2 (Host.divsi : (⟨S512, .i32⟩ : BufTy).Contents (Elt F) → (⟨S512, .i32⟩ : BufTy).Contents (Elt F) → (⟨S512, .i32⟩ : BufTy).Contents (Elt F)),
  StableHlo.unary main_v2 main_call0_v3 (signi : (⟨S512, .i32⟩ : BufTy).Contents (Elt F) → (⟨S512, .i32⟩ : BufTy).Contents (Elt F)),
  StableHlo.unary main_call0_v0 main_call0_v4 (signi : (⟨S_, .i32⟩ : BufTy).Contents (Elt F) → (⟨S_, .i32⟩ : BufTy).Contents (Elt F)),
  StableHlo.unary main_call0_v4 main_call0_v5 ((broadcastInDim S512 ![] bcast_S_S512) : (⟨S_, .i32⟩ : BufTy).Contents (Elt F) → (⟨S512, .i32⟩ : BufTy).Contents (Elt F)),
  StableHlo.binary main_call0_v3 main_call0_v5 main_call0_v6 ((cmpi .ne) : (⟨S512, .i32⟩ : BufTy).Contents (Elt F) → (⟨S512, .i32⟩ : BufTy).Contents (Elt F) → (⟨S512, .i1⟩ : BufTy).Contents (Elt F)),
  StableHlo.unary main_call0_v0 main_call0_v7 ((broadcastInDim S512 ![] bcast_S_S512) : (⟨S_, .i32⟩ : BufTy).Contents (Elt F) → (⟨S512, .i32⟩ : BufTy).Contents (Elt F)),
  StableHlo.binary main_v2 main_call0_v7 main_call0_v8 (Host.remsi : (⟨S512, .i32⟩ : BufTy).Contents (Elt F) → (⟨S512, .i32⟩ : BufTy).Contents (Elt F) → (⟨S512, .i32⟩ : BufTy).Contents (Elt F)),
  StableHlo.nullary main_call0_c ((constantI S_ 32 0#32) : (⟨S_, .i32⟩ : BufTy).Contents (Elt F)),
  StableHlo.unary main_call0_c main_call0_v9 ((broadcastInDim S512 ![] bcast_S_S512) : (⟨S_, .i32⟩ : BufTy).Contents (Elt F) → (⟨S512, .i32⟩ : BufTy).Contents (Elt F)),
  StableHlo.binary main_call0_v8 main_call0_v9 main_call0_v10 ((cmpi .ne) : (⟨S512, .i32⟩ : BufTy).Contents (Elt F) → (⟨S512, .i32⟩ : BufTy).Contents (Elt F) → (⟨S512, .i1⟩ : BufTy).Contents (Elt F)),
  StableHlo.binary main_call0_v6 main_call0_v10 main_call0_v11 (andi : (⟨S512, .i1⟩ : BufTy).Contents (Elt F) → (⟨S512, .i1⟩ : BufTy).Contents (Elt F) → (⟨S512, .i1⟩ : BufTy).Contents (Elt F)),
  StableHlo.nullary main_call0_c_0 ((constantI S_ 32 1#32) : (⟨S_, .i32⟩ : BufTy).Contents (Elt F)),
  StableHlo.unary main_call0_c_0 main_call0_v12 ((broadcastInDim S512 ![] bcast_S_S512) : (⟨S_, .i32⟩ : BufTy).Contents (Elt F) → (⟨S512, .i32⟩ : BufTy).Contents (Elt F)),
  StableHlo.binary main_call0_v2 main_call0_v12 main_call0_v13 (subi : (⟨S512, .i32⟩ : BufTy).Contents (Elt F) → (⟨S512, .i32⟩ : BufTy).Contents (Elt F) → (⟨S512, .i32⟩ : BufTy).Contents (Elt F)),
  StableHlo.ternary main_call0_v11 main_call0_v13 main_call0_v2 main_v3 (select : (⟨S512, .i1⟩ : BufTy).Contents (Elt F) → (⟨S512, .i32⟩ : BufTy).Contents (Elt F) → (⟨S512, .i32⟩ : BufTy).Contents (Elt F) → (⟨S512, .i32⟩ : BufTy).Contents (Elt F))]

/-- The rows of 128 lanes the gather reads, and which. -/
def opsC : List (HloOp τ sig (Elt F)) := [
  StableHlo.reshape main_arg0 main_v5 (rfl : (.f32 : EltTy) = .f32) shapeCasts_S256x2048_S4096x128,
  StableHlo.unary main_v4_0 main_v6 (broadcastInDim S1024x1 ![0] bcast_S1024_S1024x1_0 : (⟨S1024, .i32⟩ : BufTy).Contents (Elt F) → (⟨S1024x1, .i32⟩ : BufTy).Contents (Elt F)),
  StableHlo.nullary main_c_0 (constantI S_ 32 16#32),
  StableHlo.unary main_c_0 main_v7 (broadcastInDim S1024x1 ![] bcast_S_S1024x1 : (⟨S_, .i32⟩ : BufTy).Contents (Elt F) → (⟨S1024x1, .i32⟩ : BufTy).Contents (Elt F)),
  StableHlo.binary main_v6 main_v7 main_v8 (muli : (⟨S1024x1, .i32⟩ : BufTy).Contents (Elt F) → (⟨S1024x1, .i32⟩ : BufTy).Contents (Elt F) → (⟨S1024x1, .i32⟩ : BufTy).Contents (Elt F)),
  StableHlo.nullary main_v9 (iotaInDim S16 32 0),
  StableHlo.unary main_v9 main_v10 (broadcastInDim S1x16 ![1] bcast_S16_S1x16_1 : (⟨S16, .i32⟩ : BufTy).Contents (Elt F) → (⟨S1x16, .i32⟩ : BufTy).Contents (Elt F)),
  StableHlo.unary main_v8 main_v11 (broadcastInDim S1024x16 ![0, 1] bcast_S1024x1_S1024x16_0_1 : (⟨S1024x1, .i32⟩ : BufTy).Contents (Elt F) → (⟨S1024x16, .i32⟩ : BufTy).Contents (Elt F)),
  StableHlo.unary main_v10 main_v12 (broadcastInDim S1024x16 ![0, 1] bcast_S1x16_S1024x16_0_1 : (⟨S1x16, .i32⟩ : BufTy).Contents (Elt F) → (⟨S1024x16, .i32⟩ : BufTy).Contents (Elt F)),
  StableHlo.binary main_v11 main_v12 main_v13 (addi : (⟨S1024x16, .i32⟩ : BufTy).Contents (Elt F) → (⟨S1024x16, .i32⟩ : BufTy).Contents (Elt F) → (⟨S1024x16, .i32⟩ : BufTy).Contents (Elt F)),
  StableHlo.reshape main_v13 main_v14 (rfl : (.i32 : EltTy) = .i32) shapeCasts_S1024x16_S16384]

/-- The gathered rows as tokens, and the experts' tables. -/
def opsD : List (HloOp τ sig (Elt F)) := [
  StableHlo.reshape main_v15 main_v16 (rfl : (.f32 : EltTy) = .f32) shapeCasts_S16384x128_S1024x2048,
  StableHlo.unary main_v4_4 main_v17 ((extractStridedSlice S8 ![0] · slices_S16_S8_0) : (⟨S16, .i32⟩ : BufTy).Contents (Elt F) → (⟨S8, .i32⟩ : BufTy).Contents (Elt F)),
  StableHlo.unary main_v4_5 main_v18 ((extractStridedSlice S8 ![0] · slices_S16_S8_0) : (⟨S16, .i32⟩ : BufTy).Contents (Elt F) → (⟨S8, .i32⟩ : BufTy).Contents (Elt F)),
  StableHlo.unary main_v17 main_v19 (broadcastInDim S1x8 ![1] bcast_S8_S1x8_1 : (⟨S8, .i32⟩ : BufTy).Contents (Elt F) → (⟨S1x8, .i32⟩ : BufTy).Contents (Elt F)),
  StableHlo.unary main_v18 main_v20 (broadcastInDim S1x8 ![1] bcast_S8_S1x8_1 : (⟨S8, .i32⟩ : BufTy).Contents (Elt F) → (⟨S1x8, .i32⟩ : BufTy).Contents (Elt F)),
  StableHlo.binary main_v19 main_v20 main_v21 ((fun a b => concatenate S2x8 0 [⟨S1x8, a⟩, ⟨S1x8, b⟩] concatenates_S1x8_S1x8_S2x8_d0) : (⟨S1x8, .i32⟩ : BufTy).Contents (Elt F) → (⟨S1x8, .i32⟩ : BufTy).Contents (Elt F) → (⟨S2x8, .i32⟩ : BufTy).Contents (Elt F)),
  StableHlo.unary main_v4_6 main_v22 ((extractStridedSlice S8 ![0] · slices_S16_S8_0) : (⟨S16, .i32⟩ : BufTy).Contents (Elt F) → (⟨S8, .i32⟩ : BufTy).Contents (Elt F)),
  StableHlo.unary main_v4_1 main_v23 (broadcastInDim S1024x1 ![0] bcast_S1024_S1024x1_0 : (⟨S1024, .f32⟩ : BufTy).Contents (Elt F) → (⟨S1024x1, .f32⟩ : BufTy).Contents (Elt F))]

/-- The experts' output by rows of 128 lanes, and which of them the combine reads. -/
def opsE : List (HloOp τ sig (Elt F)) := [
  StableHlo.reshape main_v24 main_v25 (rfl : (.f32 : EltTy) = .f32) shapeCasts_S1024x2048_S16384x128,
  StableHlo.unary main_v4_2 main_v26 (broadcastInDim S256x1 ![0] bcast_S256_S256x1_0 : (⟨S256, .i32⟩ : BufTy).Contents (Elt F) → (⟨S256x1, .i32⟩ : BufTy).Contents (Elt F)),
  StableHlo.nullary main_c_1 (constantI S_ 32 16#32),
  StableHlo.unary main_c_1 main_v27 (broadcastInDim S256x1 ![] bcast_S_S256x1 : (⟨S_, .i32⟩ : BufTy).Contents (Elt F) → (⟨S256x1, .i32⟩ : BufTy).Contents (Elt F)),
  StableHlo.binary main_v26 main_v27 main_v28 (muli : (⟨S256x1, .i32⟩ : BufTy).Contents (Elt F) → (⟨S256x1, .i32⟩ : BufTy).Contents (Elt F) → (⟨S256x1, .i32⟩ : BufTy).Contents (Elt F)),
  StableHlo.nullary main_v29 (iotaInDim S16 32 0),
  StableHlo.unary main_v29 main_v30 (broadcastInDim S1x16 ![1] bcast_S16_S1x16_1 : (⟨S16, .i32⟩ : BufTy).Contents (Elt F) → (⟨S1x16, .i32⟩ : BufTy).Contents (Elt F)),
  StableHlo.unary main_v28 main_v31 (broadcastInDim S256x16 ![0, 1] bcast_S256x1_S256x16_0_1 : (⟨S256x1, .i32⟩ : BufTy).Contents (Elt F) → (⟨S256x16, .i32⟩ : BufTy).Contents (Elt F)),
  StableHlo.unary main_v30 main_v32 (broadcastInDim S256x16 ![0, 1] bcast_S1x16_S256x16_0_1 : (⟨S1x16, .i32⟩ : BufTy).Contents (Elt F) → (⟨S256x16, .i32⟩ : BufTy).Contents (Elt F)),
  StableHlo.binary main_v31 main_v32 main_v33 (addi : (⟨S256x16, .i32⟩ : BufTy).Contents (Elt F) → (⟨S256x16, .i32⟩ : BufTy).Contents (Elt F) → (⟨S256x16, .i32⟩ : BufTy).Contents (Elt F)),
  StableHlo.reshape main_v33 main_v34 (rfl : (.i32 : EltTy) = .i32) shapeCasts_S256x16_S4096,
  StableHlo.unary main_v4_3 main_v35 (broadcastInDim S256x1 ![0] bcast_S256_S256x1_0 : (⟨S256, .i32⟩ : BufTy).Contents (Elt F) → (⟨S256x1, .i32⟩ : BufTy).Contents (Elt F)),
  StableHlo.nullary main_c_2 (constantI S_ 32 16#32),
  StableHlo.unary main_c_2 main_v36 (broadcastInDim S256x1 ![] bcast_S_S256x1 : (⟨S_, .i32⟩ : BufTy).Contents (Elt F) → (⟨S256x1, .i32⟩ : BufTy).Contents (Elt F)),
  StableHlo.binary main_v35 main_v36 main_v37 (muli : (⟨S256x1, .i32⟩ : BufTy).Contents (Elt F) → (⟨S256x1, .i32⟩ : BufTy).Contents (Elt F) → (⟨S256x1, .i32⟩ : BufTy).Contents (Elt F)),
  StableHlo.nullary main_v38 (iotaInDim S16 32 0),
  StableHlo.unary main_v38 main_v39 (broadcastInDim S1x16 ![1] bcast_S16_S1x16_1 : (⟨S16, .i32⟩ : BufTy).Contents (Elt F) → (⟨S1x16, .i32⟩ : BufTy).Contents (Elt F)),
  StableHlo.unary main_v37 main_v40 (broadcastInDim S256x16 ![0, 1] bcast_S256x1_S256x16_0_1 : (⟨S256x1, .i32⟩ : BufTy).Contents (Elt F) → (⟨S256x16, .i32⟩ : BufTy).Contents (Elt F)),
  StableHlo.unary main_v39 main_v41 (broadcastInDim S256x16 ![0, 1] bcast_S1x16_S256x16_0_1 : (⟨S1x16, .i32⟩ : BufTy).Contents (Elt F) → (⟨S256x16, .i32⟩ : BufTy).Contents (Elt F)),
  StableHlo.binary main_v40 main_v41 main_v42 (addi : (⟨S256x16, .i32⟩ : BufTy).Contents (Elt F) → (⟨S256x16, .i32⟩ : BufTy).Contents (Elt F) → (⟨S256x16, .i32⟩ : BufTy).Contents (Elt F)),
  StableHlo.reshape main_v42 main_v43 (rfl : (.i32 : EltTy) = .i32) shapeCasts_S256x16_S4096]

/-- The result. -/
def opsG : List (HloOp τ sig (Elt F)) := [
  StableHlo.reshape main_v44 main_v45 (rfl : (.f32 : EltTy) = .f32) shapeCasts_S4096x128_S256x2048]

theorem main_chain (d : Dev nD) : main (F := F) d = (Pipeline.chain
    [ StableHlo.seq opsA, StableHlo.seq opsB, (K (F := F)).run d 0, StableHlo.seq opsC, (K (F := F)).run d 1, StableHlo.seq opsD,
      Prog.lift (.customCall (SparseCore.inner (Pipeline.entry 0)) ()), StableHlo.seq opsE, (K (F := F)).run d 2, StableHlo.seq opsG ] :
      Prog (TpuEff nD τ sig (Elt F) (SparseCore.Sig ΛP 3) .tc) PUnit) := by
  rewrite [StableHlo.chain_seq_cons, StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

/-- What the stretch writes. -/
def wrA : List (Ref sig .tc) := [main_v0, main_v1, main_v2, main_c]
theorem opsA_writes : (opsA (F := F)).Forall fun op => op.writes ⊆ (wrA.map (Proc.devRef (τ := τ) .tc)).toFinset :=
  StableHlo.forall_writes_sub_of_map rfl
theorem opsA_fresh : ∀ op ∈ (opsA (F := F)), op.fresh = ∅ := List.forall_iff_forall_mem.mp (StableHlo.forall_fresh_of_map rfl)
theorem opsA_bufs : ∀ op ∈ (opsA (F := F)), op.bufs ⊆ Pipeline.ucRefs τ sig :=
  List.forall_iff_forall_mem.mp (by
    refine (List.forall_iff_forall_mem.mpr ?_ : (opsA (F := F)).Forall fun op => op.bufs ⊆ Pipeline.ucRefs τ sig)
    intro op hop
    refine Pipeline.sub_ucRefs op ?_
    revert op
    exact List.forall_iff_forall_mem.mp ⟨StableHlo.reshape_bufs_sub .., StableHlo.reshape_bufs_sub .., StableHlo.nullary_bufs_sub .., StableHlo.nullary_bufs_sub ..⟩)

/-- What the stretch writes. -/
def wrB : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v3]
theorem opsB_writes : (opsB (F := F)).Forall fun op => op.writes ⊆ (wrB.map (Proc.devRef (τ := τ) .tc)).toFinset :=
  StableHlo.forall_writes_sub_of_map rfl
theorem opsB_fresh : ∀ op ∈ (opsB (F := F)), op.fresh = ∅ := List.forall_iff_forall_mem.mp (StableHlo.forall_fresh_of_map rfl)
theorem opsB_bufs : ∀ op ∈ (opsB (F := F)), op.bufs ⊆ Pipeline.ucRefs τ sig :=
  List.forall_iff_forall_mem.mp (by
    refine (List.forall_iff_forall_mem.mpr ?_ : (opsB (F := F)).Forall fun op => op.bufs ⊆ Pipeline.ucRefs τ sig)
    intro op hop
    refine Pipeline.sub_ucRefs op ?_
    revert op
    exact List.forall_iff_forall_mem.mp ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩)

/-- What the stretch writes. -/
def wrC : List (Ref sig .tc) := [main_v5, main_v6, main_c_0, main_v7, main_v8, main_v9, main_v10, main_v11, main_v12, main_v13, main_v14]
theorem opsC_writes : (opsC (F := F)).Forall fun op => op.writes ⊆ (wrC.map (Proc.devRef (τ := τ) .tc)).toFinset :=
  StableHlo.forall_writes_sub_of_map rfl
theorem opsC_fresh : ∀ op ∈ (opsC (F := F)), op.fresh = ∅ := List.forall_iff_forall_mem.mp (StableHlo.forall_fresh_of_map rfl)
theorem opsC_bufs : ∀ op ∈ (opsC (F := F)), op.bufs ⊆ Pipeline.ucRefs τ sig :=
  List.forall_iff_forall_mem.mp (by
    refine (List.forall_iff_forall_mem.mpr ?_ : (opsC (F := F)).Forall fun op => op.bufs ⊆ Pipeline.ucRefs τ sig)
    intro op hop
    refine Pipeline.sub_ucRefs op ?_
    revert op
    exact List.forall_iff_forall_mem.mp ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩)

/-- What the stretch writes. -/
def wrD : List (Ref sig .tc) := [main_v16, main_v17, main_v18, main_v19, main_v20, main_v21, main_v22, main_v23]
theorem opsD_writes : (opsD (F := F)).Forall fun op => op.writes ⊆ (wrD.map (Proc.devRef (τ := τ) .tc)).toFinset :=
  StableHlo.forall_writes_sub_of_map rfl
theorem opsD_fresh : ∀ op ∈ (opsD (F := F)), op.fresh = ∅ := List.forall_iff_forall_mem.mp (StableHlo.forall_fresh_of_map rfl)
theorem opsD_bufs : ∀ op ∈ (opsD (F := F)), op.bufs ⊆ Pipeline.ucRefs τ sig :=
  List.forall_iff_forall_mem.mp (by
    refine (List.forall_iff_forall_mem.mpr ?_ : (opsD (F := F)).Forall fun op => op.bufs ⊆ Pipeline.ucRefs τ sig)
    intro op hop
    refine Pipeline.sub_ucRefs op ?_
    revert op
    exact List.forall_iff_forall_mem.mp ⟨StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub ..⟩)

/-- What the stretch writes. -/
def wrE : List (Ref sig .tc) := [main_v25, main_v26, main_c_1, main_v27, main_v28, main_v29, main_v30, main_v31, main_v32, main_v33, main_v34, main_v35, main_c_2, main_v36, main_v37, main_v38, main_v39, main_v40, main_v41, main_v42, main_v43]
theorem opsE_writes : (opsE (F := F)).Forall fun op => op.writes ⊆ (wrE.map (Proc.devRef (τ := τ) .tc)).toFinset :=
  StableHlo.forall_writes_sub_of_map rfl
theorem opsE_fresh : ∀ op ∈ (opsE (F := F)), op.fresh = ∅ := List.forall_iff_forall_mem.mp (StableHlo.forall_fresh_of_map rfl)
theorem opsE_bufs : ∀ op ∈ (opsE (F := F)), op.bufs ⊆ Pipeline.ucRefs τ sig :=
  List.forall_iff_forall_mem.mp (by
    refine (List.forall_iff_forall_mem.mpr ?_ : (opsE (F := F)).Forall fun op => op.bufs ⊆ Pipeline.ucRefs τ sig)
    intro op hop
    refine Pipeline.sub_ucRefs op ?_
    revert op
    exact List.forall_iff_forall_mem.mp ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub ..⟩)

/-- What the stretch writes. -/
def wrG : List (Ref sig .tc) := [main_v45]
theorem opsG_writes : (opsG (F := F)).Forall fun op => op.writes ⊆ (wrG.map (Proc.devRef (τ := τ) .tc)).toFinset :=
  StableHlo.forall_writes_sub_of_map rfl
theorem opsG_fresh : ∀ op ∈ (opsG (F := F)), op.fresh = ∅ := List.forall_iff_forall_mem.mp (StableHlo.forall_fresh_of_map rfl)
theorem opsG_bufs : ∀ op ∈ (opsG (F := F)), op.bufs ⊆ Pipeline.ucRefs τ sig :=
  List.forall_iff_forall_mem.mp (by
    refine (List.forall_iff_forall_mem.mpr ?_ : (opsG (F := F)).Forall fun op => op.bufs ⊆ Pipeline.ucRefs τ sig)
    intro op hop
    refine Pipeline.sub_ucRefs op ?_
    revert op
    exact List.forall_iff_forall_mem.mp (StableHlo.reshape_bufs_sub ..))

end Cert.Proof

end
-- ==== Proof.HostVals.lean ====
/-
  What each stretch of host operations leaves in the buffers the next call reads, entry by entry.
-/
module

public import proofs.«01_k».proof.Proof.Values
public import proofs.«01_k».proof.Proof.Host

@[expose] public section

noncomputable section

namespace Cert.Proof

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Proof.Routing
open Idealize.ShloMosaic.TcCoe
open Cert.Proof.Moe (w32)

variable {F : FTy → Type} [FloatOps F]

local notation "𝕄" => MT nD τ sig (HIx 3) (Elt F) ℕ UU ℕ

variable (V : Valuation τ sig (Elt F)) (I : In F)

theorem bcast_one {n m : ℕ} [NeZero n] {α : Type} (h : (⟨1, ![n]⟩ : Shape).BroadcastsInDim ⟨2, ![n, m]⟩ ![0]) (x : (⟨1, ![n]⟩ : Shape).Idx → α) (y : (⟨2, ![n, m]⟩ : Shape).Idx) :
    broadcastInDim ⟨2, ![n, m]⟩ ![0] h x y = x (ix1 (m := n) (y 0).val) := by
  unfold broadcastInDim
  refine congrArg x (eq_ix1 _ ?_)
  have hy : (y 0).val < n := (y 0).isLt
  dsimp only
  split
  · next h1 => show 0 = (y 0).val; have : n = 1 := h1; omega
  · rfl

theorem bcast_two {n m : ℕ} [NeZero m] {α : Type} (h : (⟨1, ![m]⟩ : Shape).BroadcastsInDim ⟨2, ![n, m]⟩ ![1]) (x : (⟨1, ![m]⟩ : Shape).Idx → α) (y : (⟨2, ![n, m]⟩ : Shape).Idx) :
    broadcastInDim ⟨2, ![n, m]⟩ ![1] h x y = x (ix1 (m := m) (y 1).val) := by
  unfold broadcastInDim
  refine congrArg x (eq_ix1 _ ?_)
  have hy : (y 1).val < m := (y 1).isLt
  dsimp only
  split
  · next h1 => show 0 = (y 1).val; have : m = 1 := h1; omega
  · rfl

theorem bcast_col {n m : ℕ} [NeZero n] {α : Type} (h : (⟨2, ![n, 1]⟩ : Shape).BroadcastsInDim ⟨2, ![n, m]⟩ ![0, 1]) (x : (⟨2, ![n, 1]⟩ : Shape).Idx → α) (y : (⟨2, ![n, m]⟩ : Shape).Idx) :
    broadcastInDim ⟨2, ![n, m]⟩ ![0, 1] h x y = x (ix2 (m := n) (n := 1) (y 0).val 0) := by
  unfold broadcastInDim
  refine congrArg x (eq_ix2 _ ?_ ?_)
  · have hy : (y 0).val < n := (y 0).isLt
    dsimp only
    split
    · next h1 => show 0 = (y 0).val; have : n = 1 := h1; omega
    · rfl
  · exact Nat.lt_one_iff.mp (Fin.isLt _)

theorem bcast_row {n m : ℕ} [NeZero m] {α : Type} (h : (⟨2, ![1, m]⟩ : Shape).BroadcastsInDim ⟨2, ![n, m]⟩ ![0, 1]) (x : (⟨2, ![1, m]⟩ : Shape).Idx → α) (y : (⟨2, ![n, m]⟩ : Shape).Idx) :
    broadcastInDim ⟨2, ![n, m]⟩ ![0, 1] h x y = x (ix2 (m := 1) (n := m) 0 (y 1).val) := by
  unfold broadcastInDim
  refine congrArg x (eq_ix2 _ ?_ ?_)
  · exact Nat.lt_one_iff.mp (Fin.isLt _)
  · have hy : (y 1).val < m := (y 1).isLt
    dsimp only
    split
    · next h1 => show 0 = (y 1).val; have : m = 1 := h1; omega
    · rfl

/-- The list of the rows cut into sixteen, from the list of the rows. -/
theorem chunk_list {n N : ℕ} [NeZero n] [NeZero N] (hN : N = 16 * n) (h1 : (⟨1, ![n]⟩ : Shape).BroadcastsInDim ⟨2, ![n, 1]⟩ ![0])
    (h2 : (⟨0, ![]⟩ : Shape).BroadcastsInDim ⟨2, ![n, 1]⟩ ![]) (h3 : (⟨1, ![16]⟩ : Shape).BroadcastsInDim ⟨2, ![1, 16]⟩ ![1])
    (h4 : (⟨2, ![n, 1]⟩ : Shape).BroadcastsInDim ⟨2, ![n, 16]⟩ ![0, 1]) (h5 : (⟨2, ![1, 16]⟩ : Shape).BroadcastsInDim ⟨2, ![n, 16]⟩ ![0, 1])
    (h6 : (⟨2, ![n, 16]⟩ : Shape).ShapeCasts ⟨1, ![N]⟩) (v : IVec ⟨1, ![n]⟩ 32) (y : (⟨1, ![N]⟩ : Shape).Idx) :
    shapeCast ⟨1, ![N]⟩ (addi (broadcastInDim ⟨2, ![n, 16]⟩ ![0, 1] h4 (muli (broadcastInDim ⟨2, ![n, 1]⟩ ![0] h1 v) (broadcastInDim ⟨2, ![n, 1]⟩ ![] h2 (constantI ⟨0, ![]⟩ 32 16#32))))
      (broadcastInDim ⟨2, ![n, 16]⟩ ![0, 1] h5 (broadcastInDim ⟨2, ![1, 16]⟩ ![1] h3 (iotaInDim ⟨1, ![16]⟩ 32 0)))) h6 y =
      chunk (fun k => v (ix1 (m := n) k)) (y 0).val := by
  have hy : (y 0).val < N := (y 0).isLt
  have e0 : (((ix2 (m := n) (n := 16) ((y 0).val / 16) ((y 0).val % 16)) : (⟨2, ![n, 16]⟩ : Shape).Idx) 0).val = (y 0).val / 16 := Moe.ix2_zero _ _ (by omega)
  have e1 : (((ix2 (m := n) (n := 16) ((y 0).val / 16) ((y 0).val % 16)) : (⟨2, ![n, 16]⟩ : Shape).Idx) 1).val = (y 0).val % 16 := Moe.ix2_one _ _ (by omega)
  rw [shapeCast_apply _ h6 y (ix2 (m := n) (n := 16) ((y 0).val / 16) ((y 0).val % 16)) (by
    rw [Shape.rowMajor_val_two, Shape.rowMajor_val_one, e0, e1]
    show (y 0).val / 16 * 16 + (y 0).val % 16 = (y 0).val
    omega)]
  unfold addi
  rw [bcast_col, bcast_row, bcast_two, e0, e1]
  unfold muli
  rw [bcast_one]
  show (v _ * 16#32 + w32 (((ix1 (m := 16) _ : (⟨1, ![16]⟩ : Shape).Idx)) 0).val : BitVec 32) = _
  rw [show ((((ix2 (m := n) (n := 1) ((y 0).val / 16) 0) : (⟨2, ![n, 1]⟩ : Shape).Idx) 0).val) = (y 0).val / 16 from Moe.ix2_zero _ _ (by omega),
    show ((((ix2 (m := 1) (n := 16) 0 ((y 0).val % 16)) : (⟨2, ![1, 16]⟩ : Shape).Idx) 1).val) = (y 0).val % 16 from Moe.ix2_one _ _ (by omega),
    show ((((ix1 (m := 16) ((y 0).val % 16)) : (⟨1, ![16]⟩ : Shape).Idx) 0).val) = (y 0).val % 16 from Nat.mod_eq_of_lt (by omega)]
  rfl

/-! ### The routing's inputs -/

theorem A_v0 (h : V (main_arg1 : DevRef τ sig) = I.e) : after opsA V (main_v0 : DevRef τ sig) = fkI I := by
  unfold opsA
  after_results
  funext y
  have hy : (y 0).val < 512 := (y 0).isLt
  refine (shapeCast_apply _ shapeCasts_S256x2_S512 y (ix2 (m := 256) (n := 2) ((y 0).val / 2) ((y 0).val % 2)) ?_).trans (congrFun h _)
  rw [Shape.rowMajor_val_two, Shape.rowMajor_val_one, Moe.ix2_zero (m := 256) (n := 2) _ _ (by omega), Moe.ix2_one (m := 256) (n := 2) _ _ (by omega)]
  show (y 0).val / 2 * 2 + (y 0).val % 2 = (y 0).val
  omega

theorem A_v1 (h : V (main_arg2 : DevRef τ sig) = I.w) : after opsA V (main_v1 : DevRef τ sig) = fwI I := by
  unfold opsA
  after_results
  funext y
  have hy : (y 0).val < 512 := (y 0).isLt
  refine (shapeCast_apply _ shapeCasts_S256x2_S512 y (ix2 (m := 256) (n := 2) ((y 0).val / 2) ((y 0).val % 2)) ?_).trans (congrFun h _)
  rw [Shape.rowMajor_val_two, Shape.rowMajor_val_one, Moe.ix2_zero (m := 256) (n := 2) _ _ (by omega), Moe.ix2_one (m := 256) (n := 2) _ _ (by omega)]
  show (y 0).val / 2 * 2 + (y 0).val % 2 = (y 0).val
  omega

/-- Half a number below 512, as the floor division computes it. -/
theorem half_word : ∀ p : Fin 512, (select
      (andi
        (cmpi CmpIPredicate.ne (signi (iotaInDim S512 32 0)) (broadcastInDim S512 ![] bcast_S_S512 (signi (id (constantI S_ 32 2#32)))))
        (cmpi CmpIPredicate.ne
          (Host.remsi (iotaInDim S512 32 0) (broadcastInDim S512 ![] bcast_S_S512 (id (constantI S_ 32 2#32))))
          (broadcastInDim S512 ![] bcast_S_S512 (constantI S_ 32 0#32))))
      (subi (Host.divsi (iotaInDim S512 32 0) (broadcastInDim S512 ![] bcast_S_S512 (id (constantI S_ 32 2#32))))
        (broadcastInDim S512 ![] bcast_S_S512 (constantI S_ 32 1#32)))
      (Host.divsi (iotaInDim S512 32 0) (broadcastInDim S512 ![] bcast_S_S512 (id (constantI S_ 32 2#32)))) : IVec S512 32) (ix1 (m := 512) p.val) =
    w32 (p.val / 2) := by
  decide +kernel

theorem B_v3 (h2 : V (main_v2 : DevRef τ sig) = iotaInDim S512 32 0) (hc : V (main_c : DevRef τ sig) = constantI S_ 32 2#32) :
    after opsB V (main_v3 : DevRef τ sig) = (ftI : Vec F S512 .i32) := by
  unfold opsB
  after_results
  rw [h2, hc]
  funext y
  have hy : (y 0).val < 512 := (y 0).isLt
  exact (congrArg _ (eq_ix1 (m := 512) y rfl)).trans (half_word ⟨(y 0).val, hy⟩)

theorem A_v2 : after opsA V (main_v2 : DevRef τ sig) = iotaInDim S512 32 0 := by
  unfold opsA; after_results
theorem A_c : after opsA V (main_c : DevRef τ sig) = constantI S_ 32 2#32 := by
  unfold opsA; after_results

/-! ### The gather's inputs -/

theorem C_v5 (h : V (main_arg0 : DevRef τ sig) = I.x) : after opsC V (main_v5 : DevRef τ sig) = fxI I := by
  unfold opsC
  after_results
  funext y
  have hy : (y 0).val < 4096 := (y 0).isLt
  have hy1 : (y 1).val < 128 := (y 1).isLt
  refine (shapeCast_apply _ shapeCasts_S256x2048_S4096x128 y (ix2 (m := 256) (n := 2048) ((y 0).val / 16) ((y 0).val % 16 * 128 + (y 1).val)) ?_).trans (congrFun h _)
  rw [Shape.rowMajor_val_two, Shape.rowMajor_val_two, Moe.ix2_zero (m := 256) (n := 2048) _ _ (by omega), Moe.ix2_one (m := 256) (n := 2048) _ _ (by omega)]
  show (y 0).val / 16 * 2048 + ((y 0).val % 16 * 128 + (y 1).val) = (y 0).val * 128 + (y 1).val
  omega

theorem C_v14 (h : V (main_v4_0 : DevRef τ sig) = (Route.permF (key I) : Vec F S1024 .i32)) : after opsC V (main_v14 : DevRef τ sig) = fiI I := by
  unfold opsC
  after_results
  rw [h]
  funext y
  exact chunk_list (n := 1024) (N := 16384) (by decide) bcast_S1024_S1024x1_0 bcast_S_S1024x1 bcast_S16_S1x16_1 bcast_S1024x1_S1024x16_0_1 bcast_S1x16_S1024x16_0_1
    shapeCasts_S1024x16_S16384 (Route.permF (F := F) (key I) : Vec F S1024 .i32) y

/-! ### The experts' inputs -/

theorem D_v16 (h : V (main_v15 : DevRef τ sig) = Gather.gat (fxI I) (fiI I)) : after opsD V (main_v16 : DevRef τ sig) = XI I := by
  unfold opsD
  after_results
  funext z
  have hz : (z 0).val < 1024 := (z 0).isLt
  have hz1 : (z 1).val < 2048 := (z 1).isLt
  have e0 : (((ix2 (m := 16384) (n := 128) (16 * (z 0).val + (z 1).val / 128) ((z 1).val % 128)) : S16384x128.Idx) 0).val = 16 * (z 0).val + (z 1).val / 128 :=
    Moe.ix2_zero _ _ (by omega)
  have e1 : (((ix2 (m := 16384) (n := 128) (16 * (z 0).val + (z 1).val / 128) ((z 1).val % 128)) : S16384x128.Idx) 1).val = (z 1).val % 128 :=
    Moe.ix2_one _ _ (by omega)
  refine (shapeCast_apply _ shapeCasts_S16384x128_S1024x2048 z (ix2 (m := 16384) (n := 128) (16 * (z 0).val + (z 1).val / 128) ((z 1).val % 128)) ?_).trans
    ((congrFun h _).trans (gat_cut I z _ e0 e1))
  rw [Shape.rowMajor_val_two, Shape.rowMajor_val_two, e0, e1]
  show (16 * (z 0).val + (z 1).val / 128) * 128 + (z 1).val % 128 = (z 0).val * 2048 + (z 1).val
  omega

theorem D_v22 (h : V (main_v4_6 : DevRef τ sig) = (Route.vec (fe (key I)) : Vec F S16 .i32)) (e : ℕ) (he : e < 8) :
    (after opsD V (main_v22 : DevRef τ sig) : Vec F S8 .i32) (ix1 (m := 8) e) = w32 (fe (key I) e) := by
  unfold opsD
  after_results
  rw [h]
  refine Eq.trans ?_ (Route.vec_ix (fe (key I)) (k := e) (by omega))
  refine congrArg (Route.vec (fe (key I))) (eq_ix1 (m := 16) _ ?_)
  show 0 + (ix1 (m := 8) e 0).val = e
  rw [Nat.zero_add]
  exact Nat.mod_eq_of_lt he

theorem D_v21_0 (h : V (main_v4_4 : DevRef τ sig) = (Route.vec (ro (key I)) : Vec F S16 .i32)) (e : ℕ) (he : e < 8) :
    (after opsD V (main_v21 : DevRef τ sig) : Vec F S2x8 .i32) (ix2 (m := 2) (n := 8) 0 e) = w32 (ro (key I) e) := by
  unfold opsD
  after_results
  rw [h]
  refine Eq.trans ?_ (Route.vec_ix (ro (key I)) (k := e) (by omega))
  refine (concatenate_pair_apply_left (t := S2x8) (s₁ := S1x8) (s₂ := S1x8) 0 _ _ concatenates_S1x8_S1x8_S2x8_d0 (ix2 (m := 2) (n := 8) 0 e) rfl (ix2 (m := 1) (n := 8) 0 e) ?_).trans ?_
  · intro b
    match b with
    | ⟨0, _⟩ => rfl
    | ⟨1, _⟩ => rfl
  rw [bcast_two (n := 1) (m := 8)]
  refine congrArg (Route.vec (ro (key I))) (eq_ix1 (m := 16) _ ?_)
  show 0 + (ix1 (m := 8) (ix2 (m := 1) (n := 8) 0 e 1).val 0).val = e
  rw [Nat.zero_add]
  exact (Nat.mod_eq_of_lt (Fin.isLt _)).trans (Nat.mod_eq_of_lt he)

theorem D_v21_1 (h : V (main_v4_5 : DevRef τ sig) = (Route.vec (ns (key I)) : Vec F S16 .i32)) (e : ℕ) (he : e < 8) :
    (after opsD V (main_v21 : DevRef τ sig) : Vec F S2x8 .i32) (ix2 (m := 2) (n := 8) 1 e) = w32 (ns (key I) e) := by
  unfold opsD
  after_results
  rw [h]
  refine Eq.trans ?_ (Route.vec_ix (ns (key I)) (k := e) (by omega))
  refine (concatenate_pair_apply_right (t := S2x8) (s₁ := S1x8) (s₂ := S1x8) 0 _ _ concatenates_S1x8_S1x8_S2x8_d0 (ix2 (m := 2) (n := 8) 1 e) rfl rfl (ix2 (m := 1) (n := 8) 0 e) ?_ rfl).trans ?_
  · intro b hb
    match b with
    | ⟨0, _⟩ => exact absurd rfl hb
    | ⟨1, _⟩ => rfl
  rw [bcast_two (n := 1) (m := 8)]
  refine congrArg (Route.vec (ns (key I))) (eq_ix1 (m := 16) _ ?_)
  show 0 + (ix1 (m := 8) (ix2 (m := 1) (n := 8) 0 e 1).val 0).val = e
  rw [Nat.zero_add]
  exact (Nat.mod_eq_of_lt (Fin.isLt _)).trans (Nat.mod_eq_of_lt he)

theorem D_v23 (h : V (main_v4_1 : DevRef τ sig) = (Route.wsF (key I) (fwI I) : Vec F S1024 .f32)) : after opsD V (main_v23 : DevRef τ sig) = wsI I := by
  unfold opsD
  after_results
  rw [h]
  funext y
  exact bcast_one (n := 1024) (m := 1) bcast_S1024_S1024x1_0 _ y

/-! ### The combine's inputs, and the result -/

theorem E_v25 (G : Vec F S1024x2048 .f32) (h : V (main_v24 : DevRef τ sig) = G) : after opsE V (main_v25 : DevRef τ sig) = cut G := by
  unfold opsE
  after_results
  funext y
  have hy : (y 0).val < 16384 := (y 0).isLt
  have hy1 : (y 1).val < 128 := (y 1).isLt
  refine (shapeCast_apply _ shapeCasts_S1024x2048_S16384x128 y (ix2 (m := 1024) (n := 2048) ((y 0).val / 16) ((y 0).val % 16 * 128 + (y 1).val)) ?_).trans (congrFun h _)
  rw [Shape.rowMajor_val_two, Shape.rowMajor_val_two, Moe.ix2_zero (m := 1024) (n := 2048) _ _ (by omega), Moe.ix2_one (m := 1024) (n := 2048) _ _ (by omega)]
  show (y 0).val / 16 * 2048 + ((y 0).val % 16 * 128 + (y 1).val) = (y 0).val * 128 + (y 1).val
  omega

theorem E_v34 (h : V (main_v4_2 : DevRef τ sig) = (Route.rowF (key I) 0 : Vec F S256 .i32)) : after opsE V (main_v34 : DevRef τ sig) = fiR I 0 := by
  unfold opsE
  after_results
  rw [h]
  funext y
  exact chunk_list (n := 256) (N := 4096) (by decide) bcast_S256_S256x1_0 bcast_S_S256x1 bcast_S16_S1x16_1 bcast_S256x1_S256x16_0_1 bcast_S1x16_S256x16_0_1
    shapeCasts_S256x16_S4096 (Route.rowF (F := F) (key I) 0 : Vec F S256 .i32) y

theorem E_v43 (h : V (main_v4_3 : DevRef τ sig) = (Route.rowF (key I) 1 : Vec F S256 .i32)) : after opsE V (main_v43 : DevRef τ sig) = fiR I 1 := by
  unfold opsE
  after_results
  rw [h]
  funext y
  exact chunk_list (n := 256) (N := 4096) (by decide) bcast_S256_S256x1_0 bcast_S_S256x1 bcast_S16_S1x16_1 bcast_S256x1_S256x16_0_1 bcast_S1x16_S256x16_0_1
    shapeCasts_S256x16_S4096 (Route.rowF (F := F) (key I) 1 : Vec F S256 .i32) y

theorem G_v45 (h : V (main_v44 : DevRef τ sig) = outI I) : after opsG V (main_v45 : DevRef τ sig) = resI I := by
  unfold opsG
  after_results
  funext z
  have hz : (z 0).val < 256 := (z 0).isLt
  have hz1 : (z 1).val < 2048 := (z 1).isLt
  have e0 : (((ix2 (m := 4096) (n := 128) (16 * (z 0).val + (z 1).val / 128) ((z 1).val % 128)) : S4096x128.Idx) 0).val = 16 * (z 0).val + (z 1).val / 128 :=
    Moe.ix2_zero _ _ (by omega)
  have e1 : (((ix2 (m := 4096) (n := 128) (16 * (z 0).val + (z 1).val / 128) ((z 1).val % 128)) : S4096x128.Idx) 1).val = (z 1).val % 128 :=
    Moe.ix2_one _ _ (by omega)
  refine (shapeCast_apply _ shapeCasts_S4096x128_S256x2048 z (ix2 (m := 4096) (n := 128) (16 * (z 0).val + (z 1).val / 128) ((z 1).val % 128)) ?_).trans
    ((congrFun h _).trans ?_)
  · rw [Shape.rowMajor_val_two, Shape.rowMajor_val_two, e0, e1]
    show (16 * (z 0).val + (z 1).val / 128) * 128 + (z 1).val % 128 = (z 0).val * 2048 + (z 1).val
    omega
  · unfold outI resI
    rw [e0, e1, show (16 * (z 0).val + (z 1).val / 128) / 16 = (z 0).val by omega,
      show (16 * (z 0).val + (z 1).val / 128) % 16 * 128 + (z 1).val % 128 = (z 1).val by omega]

end Cert.Proof
-- ==== Proof.Calls.lean ====
/-
  The four calls of @main as steps between valuations of the TensorCore's buffers: each takes the buffers it reads and writes out of
  those held, and puts them back at what the call leaves.
-/
module

public import proofs.«01_k».proof.Proof.HostVals

@[expose] public section

noncomputable section

namespace Cert.Proof

open Cert.KernelIdeal Cert.KernelIdeal.Gen
open Cert.Proof
open Cert.Proof.Moe (ix1 eq_ix1 ix2 eq_ix2)
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.TcCoe
open Cert.Proof.Routing
open Cert.Proof.Moe (w32 YOK Tab adms rds reg st)

variable {F : FTy → Type} [FloatOps F]

local notation "𝕄" => MT nD τ sig (HIx 3) (Elt F) ℕ UU ℕ

/-- The TensorCore's buffers but those listed, held at a valuation. -/
def rest (d : Dev nD) (l : List (Ref sig .tc)) (V : Valuation τ sig (Elt F)) : sProp 𝕄 :=
  held (SparseCore.T d) (Pipeline.ucRefs τ sig \ (l.map (Proc.devRef (τ := τ) .tc)).toFinset) V

set_option maxRecDepth 4096 in
theorem rest_pull (d : Dev nD) (l X : List (Ref sig .tc)) (V : Valuation τ sig (Elt F)) (hl : l.Nodup) (hs : ∀ r ∈ l, r.isScoped = false) (hx : ∀ r ∈ l, r ∉ X) :
    rest d X V = iprop(bigSepL (l.map (Proc.devRef (τ := τ) .tc)) (fun b => ((d, b) : Loc nD τ sig) ↦{fullShare} V b) ∗ rest d (l ++ X) V) := by
  have hm : ∀ g ∈ l.map (Proc.devRef (τ := τ) .tc), g ∈ Pipeline.ucRefs τ sig \ (X.map (Proc.devRef (τ := τ) .tc)).toFinset := fun g hg => by
    obtain ⟨r, hr, rfl⟩ := List.mem_map.mp hg
    refine Finset.mem_sdiff.mpr ⟨Finset.mem_filter.mpr ⟨StableHlo.devRef_mem_tcRefs r, by rw [Proc.isScoped_devRef, hs r hr]; exact Bool.false_ne_true⟩, fun h => ?_⟩
    obtain ⟨r', hr', e⟩ := List.mem_map.mp (List.mem_toFinset.mp h)
    exact hx r hr (Proc.devRef_injective _ e ▸ hr')
  have he : Pipeline.ucRefs τ sig \ ((l ++ X).map (Proc.devRef (τ := τ) .tc)).toFinset =
      (Pipeline.ucRefs τ sig \ (X.map (Proc.devRef (τ := τ) .tc)).toFinset) \ (l.map (Proc.devRef (τ := τ) .tc)).toFinset := by
    rw [List.map_append, List.toFinset_append, sdiff_sdiff_left, Finset.sup_eq_union, Finset.union_comm]
  unfold rest
  rw [he]
  exact bigSep_pull (Pipeline.ucRefs τ sig \ (X.map (Proc.devRef (τ := τ) .tc)).toFinset) (l.map (Proc.devRef (τ := τ) .tc)) (hl.map fun a b h => Proc.devRef_injective _ h) hm
    (fun b => ((d, b) : Loc nD τ sig) ↦{fullShare} V b)

theorem rest_congr (d : Dev nD) (l : List (Ref sig .tc)) (V V' : Valuation τ sig (Elt F))
    (h : ∀ b, b ∉ l.map (Proc.devRef (τ := τ) .tc) → V' b = V b) : rest d l V' = (rest d l V : sProp 𝕄) :=
  held_congr (SparseCore.T d) fun b hb => h b fun hm => (Finset.mem_sdiff.mp hb).2 (List.mem_toFinset.mpr hm)

/-- One buffer at new contents. -/
def put (V : Valuation τ sig (Elt F)) (r : Ref sig .tc) (x : r.ty.Contents (Elt F)) : Valuation τ sig (Elt F) :=
  Function.update V (Proc.devRef .tc r) x

theorem put_same (V : Valuation τ sig (Elt F)) (r : Ref sig .tc) (x : r.ty.Contents (Elt F)) : put V r x (Proc.devRef .tc r) = x :=
  Function.update_self ..
theorem put_ne (V : Valuation τ sig (Elt F)) (r : Ref sig .tc) (x : r.ty.Contents (Elt F)) (b : DevRef τ sig) (h : b ≠ Proc.devRef .tc r) : put V r x b = V b :=
  Function.update_of_ne h ..

variable (A : Vals F) (V : Valuation τ sig (Elt F)) (κ : GSem nD τ sig → ℕ) (d : Dev nD)

/-- What the routing leaves. -/
def up0 : Valuation τ sig (Elt F) :=
  put (put (put (put (put (put (put V main_v4_0 (Route.permF A.key : Vec F S1024 .i32)) main_v4_1 (Route.wsF A.key A.fw : Vec F S1024 .f32))
    main_v4_2 (Route.rowF A.key 0 : Vec F S256 .i32)) main_v4_3 (Route.rowF A.key 1 : Vec F S256 .i32))
    main_v4_4 (Route.vec (ro A.key) : Vec F S16 .i32)) main_v4_5 (Route.vec (ns A.key) : Vec F S16 .i32)) main_v4_6 (Route.vec (fe A.key) : Vec F S16 .i32)
/-- What the gather leaves. -/
def up1 : Valuation τ sig (Elt F) := put V main_v15 (Gather.gat A.fx A.fi : Vec F S16384x128 .f32)
/-- What the combine leaves. -/
def up2 : Valuation τ sig (Elt F) := put V main_v44 (A.out : Vec F S4096x128 .f32)

theorem up0_ne (b : DevRef τ sig) (h : b ∉ ([main_v4_0, main_v4_1, main_v4_2, main_v4_3, main_v4_4, main_v4_5, main_v4_6] : List (Ref sig .tc)).map (Proc.devRef (τ := τ) .tc)) :
    up0 A V b = V b := by
  simp only [List.map_cons, List.map_nil, List.mem_cons, List.not_mem_nil, or_false, not_or] at h
  obtain ⟨h0, h1, h2, h3, h4, h5, h6⟩ := h
  unfold up0
  rw [put_ne _ _ _ _ h6, put_ne _ _ _ _ h5, put_ne _ _ _ _ h4, put_ne _ _ _ _ h3, put_ne _ _ _ _ h2, put_ne _ _ _ _ h1, put_ne _ _ _ _ h0]

theorem up0_0 : up0 A V (main_v4_0 : DevRef τ sig) = (Route.permF A.key : Vec F S1024 .i32) := by
  unfold up0
  rw [put_ne _ _ _ (main_v4_0 : DevRef τ sig) (by decide), put_ne _ _ _ (main_v4_0 : DevRef τ sig) (by decide), put_ne _ _ _ (main_v4_0 : DevRef τ sig) (by decide), put_ne _ _ _ (main_v4_0 : DevRef τ sig) (by decide), put_ne _ _ _ (main_v4_0 : DevRef τ sig) (by decide), put_ne _ _ _ (main_v4_0 : DevRef τ sig) (by decide), put_same]
theorem up0_1 : up0 A V (main_v4_1 : DevRef τ sig) = (Route.wsF A.key A.fw : Vec F S1024 .f32) := by
  unfold up0
  rw [put_ne _ _ _ (main_v4_1 : DevRef τ sig) (by decide), put_ne _ _ _ (main_v4_1 : DevRef τ sig) (by decide), put_ne _ _ _ (main_v4_1 : DevRef τ sig) (by decide), put_ne _ _ _ (main_v4_1 : DevRef τ sig) (by decide), put_ne _ _ _ (main_v4_1 : DevRef τ sig) (by decide), put_same]
theorem up0_2 : up0 A V (main_v4_2 : DevRef τ sig) = (Route.rowF A.key 0 : Vec F S256 .i32) := by
  unfold up0
  rw [put_ne _ _ _ (main_v4_2 : DevRef τ sig) (by decide), put_ne _ _ _ (main_v4_2 : DevRef τ sig) (by decide), put_ne _ _ _ (main_v4_2 : DevRef τ sig) (by decide), put_ne _ _ _ (main_v4_2 : DevRef τ sig) (by decide), put_same]
theorem up0_3 : up0 A V (main_v4_3 : DevRef τ sig) = (Route.rowF A.key 1 : Vec F S256 .i32) := by
  unfold up0
  rw [put_ne _ _ _ (main_v4_3 : DevRef τ sig) (by decide), put_ne _ _ _ (main_v4_3 : DevRef τ sig) (by decide), put_ne _ _ _ (main_v4_3 : DevRef τ sig) (by decide), put_same]
theorem up0_4 : up0 A V (main_v4_4 : DevRef τ sig) = (Route.vec (ro A.key) : Vec F S16 .i32) := by
  unfold up0
  rw [put_ne _ _ _ (main_v4_4 : DevRef τ sig) (by decide), put_ne _ _ _ (main_v4_4 : DevRef τ sig) (by decide), put_same]
theorem up0_5 : up0 A V (main_v4_5 : DevRef τ sig) = (Route.vec (ns A.key) : Vec F S16 .i32) := by
  unfold up0
  rw [put_ne _ _ _ (main_v4_5 : DevRef τ sig) (by decide), put_same]
theorem up0_6 : up0 A V (main_v4_6 : DevRef τ sig) = (Route.vec (fe A.key) : Vec F S16 .i32) := by
  unfold up0
  rw [put_same]

/-! ### What each call uses up -/

abbrev X1 : List (Ref sig .tc) := [main_v0, main_v1, main_v3]
abbrev X2 : List (Ref sig .tc) := [main_v5, main_v14, main_v0, main_v1, main_v3]
abbrev X3 : List (Ref sig .tc) := [main_v25, main_v34, main_v43, main_v5, main_v14, main_v0, main_v1, main_v3]
abbrev Y1 : List (Ref sig .tc) := [main_v4_0, main_v4_1, main_v4_2, main_v4_3, main_v4_4, main_v4_5, main_v4_6, main_v0, main_v1, main_v3]
abbrev Y2 : List (Ref sig .tc) := [main_v15, main_v5, main_v14, main_v0, main_v1, main_v3]
abbrev YM : List (Ref sig .tc) := [main_v16, main_arg3, main_arg4, main_v23, main_v24, main_v22, main_v21, main_v5, main_v14, main_v0, main_v1, main_v3]
abbrev Y3 : List (Ref sig .tc) := [main_v44, main_v25, main_v34, main_v43, main_v5, main_v14, main_v0, main_v1, main_v3]
abbrev YF : List (Ref sig .tc) := [main_arg0, main_arg1, main_arg2, main_arg3, main_arg4, main_v45, main_v25, main_v34, main_v43, main_v5, main_v14, main_v0, main_v1, main_v3]

theorem in0 (d : Dev nD) (V : Valuation τ sig (Elt F)) :
    rest d [] V = iprop(((((SparseCore.T d).loc main_v4_0) ↦{fullShare} V (main_v4_0 : DevRef τ sig)) ∗ (((SparseCore.T d).loc main_v4_1) ↦{fullShare} V (main_v4_1 : DevRef τ sig)) ∗ (((SparseCore.T d).loc main_v4_2) ↦{fullShare} V (main_v4_2 : DevRef τ sig)) ∗ (((SparseCore.T d).loc main_v4_3) ↦{fullShare} V (main_v4_3 : DevRef τ sig)) ∗ (((SparseCore.T d).loc main_v4_4) ↦{fullShare} V (main_v4_4 : DevRef τ sig)) ∗ (((SparseCore.T d).loc main_v4_5) ↦{fullShare} V (main_v4_5 : DevRef τ sig)) ∗ (((SparseCore.T d).loc main_v4_6) ↦{fullShare} V (main_v4_6 : DevRef τ sig)) ∗ (((SparseCore.T d).loc main_v0) ↦{fullShare} V (main_v0 : DevRef τ sig)) ∗ (((SparseCore.T d).loc main_v1) ↦{fullShare} V (main_v1 : DevRef τ sig)) ∗ (((SparseCore.T d).loc main_v3) ↦{fullShare} V (main_v3 : DevRef τ sig))) ∗ rest d Y1 V) :=
  rest_pull d [main_v4_0, main_v4_1, main_v4_2, main_v4_3, main_v4_4, main_v4_5, main_v4_6, main_v0, main_v1, main_v3] [] V (by decide) (by decide) (by decide)

theorem out0 (d : Dev nD) (V : Valuation τ sig (Elt F)) :
    rest d X1 V = iprop(((((SparseCore.T d).loc main_v4_0) ↦{fullShare} V (main_v4_0 : DevRef τ sig)) ∗ (((SparseCore.T d).loc main_v4_1) ↦{fullShare} V (main_v4_1 : DevRef τ sig)) ∗ (((SparseCore.T d).loc main_v4_2) ↦{fullShare} V (main_v4_2 : DevRef τ sig)) ∗ (((SparseCore.T d).loc main_v4_3) ↦{fullShare} V (main_v4_3 : DevRef τ sig)) ∗ (((SparseCore.T d).loc main_v4_4) ↦{fullShare} V (main_v4_4 : DevRef τ sig)) ∗ (((SparseCore.T d).loc main_v4_5) ↦{fullShare} V (main_v4_5 : DevRef τ sig)) ∗ (((SparseCore.T d).loc main_v4_6) ↦{fullShare} V (main_v4_6 : DevRef τ sig))) ∗ rest d Y1 V) :=
  rest_pull d [main_v4_0, main_v4_1, main_v4_2, main_v4_3, main_v4_4, main_v4_5, main_v4_6] X1 V (by decide) (by decide) (by decide)

theorem in1 (d : Dev nD) (V : Valuation τ sig (Elt F)) :
    rest d X1 V = iprop(((((SparseCore.T d).loc main_v15) ↦{fullShare} V (main_v15 : DevRef τ sig)) ∗ (((SparseCore.T d).loc main_v5) ↦{fullShare} V (main_v5 : DevRef τ sig)) ∗ (((SparseCore.T d).loc main_v14) ↦{fullShare} V (main_v14 : DevRef τ sig))) ∗ rest d Y2 V) :=
  rest_pull d [main_v15, main_v5, main_v14] X1 V (by decide) (by decide) (by decide)

theorem out1 (d : Dev nD) (V : Valuation τ sig (Elt F)) :
    rest d X2 V = iprop(((((SparseCore.T d).loc main_v15) ↦{fullShare} V (main_v15 : DevRef τ sig))) ∗ rest d Y2 V) :=
  rest_pull d [main_v15] X2 V (by decide) (by decide) (by decide)

theorem inM (d : Dev nD) (V : Valuation τ sig (Elt F)) :
    rest d X2 V = iprop(((((SparseCore.T d).loc main_v16) ↦{fullShare} V (main_v16 : DevRef τ sig)) ∗ (((SparseCore.T d).loc main_arg3) ↦{fullShare} V (main_arg3 : DevRef τ sig)) ∗ (((SparseCore.T d).loc main_arg4) ↦{fullShare} V (main_arg4 : DevRef τ sig)) ∗ (((SparseCore.T d).loc main_v23) ↦{fullShare} V (main_v23 : DevRef τ sig)) ∗ (((SparseCore.T d).loc main_v24) ↦{fullShare} V (main_v24 : DevRef τ sig)) ∗ (((SparseCore.T d).loc main_v22) ↦{fullShare} V (main_v22 : DevRef τ sig)) ∗ (((SparseCore.T d).loc main_v21) ↦{fullShare} V (main_v21 : DevRef τ sig))) ∗ rest d YM V) :=
  rest_pull d [main_v16, main_arg3, main_arg4, main_v23, main_v24, main_v22, main_v21] X2 V (by decide) (by decide) (by decide)

theorem in2 (d : Dev nD) (V : Valuation τ sig (Elt F)) :
    rest d X2 V = iprop(((((SparseCore.T d).loc main_v44) ↦{fullShare} V (main_v44 : DevRef τ sig)) ∗ (((SparseCore.T d).loc main_v25) ↦{fullShare} V (main_v25 : DevRef τ sig)) ∗ (((SparseCore.T d).loc main_v34) ↦{fullShare} V (main_v34 : DevRef τ sig)) ∗ (((SparseCore.T d).loc main_v43) ↦{fullShare} V (main_v43 : DevRef τ sig))) ∗ rest d Y3 V) :=
  rest_pull d [main_v44, main_v25, main_v34, main_v43] X2 V (by decide) (by decide) (by decide)

theorem out2 (d : Dev nD) (V : Valuation τ sig (Elt F)) :
    rest d X3 V = iprop(((((SparseCore.T d).loc main_v44) ↦{fullShare} V (main_v44 : DevRef τ sig))) ∗ rest d Y3 V) :=
  rest_pull d [main_v44] X3 V (by decide) (by decide) (by decide)

theorem inF (d : Dev nD) (V : Valuation τ sig (Elt F)) :
    rest d X3 V = iprop(((((SparseCore.T d).loc main_arg0) ↦{fullShare} V (main_arg0 : DevRef τ sig)) ∗ (((SparseCore.T d).loc main_arg1) ↦{fullShare} V (main_arg1 : DevRef τ sig)) ∗ (((SparseCore.T d).loc main_arg2) ↦{fullShare} V (main_arg2 : DevRef τ sig)) ∗ (((SparseCore.T d).loc main_arg3) ↦{fullShare} V (main_arg3 : DevRef τ sig)) ∗ (((SparseCore.T d).loc main_arg4) ↦{fullShare} V (main_arg4 : DevRef τ sig)) ∗ (((SparseCore.T d).loc main_v45) ↦{fullShare} V (main_v45 : DevRef τ sig))) ∗ rest d YF V) :=
  rest_pull d [main_arg0, main_arg1, main_arg2, main_arg3, main_arg4, main_v45] X3 V (by decide) (by decide) (by decide)

theorem rest0 : rest d Y1 (up0 A V) = (rest d Y1 V : sProp 𝕄) :=
  rest_congr d Y1 V (up0 A V) fun b hb => up0_ne A V b fun h => hb (by
    simp only [List.map_cons, List.map_nil, List.mem_cons] at h ⊢
    tauto)

theorem rest1 : rest d Y2 (up1 A V) = (rest d Y2 V : sProp 𝕄) :=
  rest_congr d Y2 V (up1 A V) fun b hb => put_ne _ _ _ b fun h => hb (by
    simp only [List.map_cons, List.mem_cons]
    tauto)

theorem rest2 : rest d Y3 (up2 A V) = (rest d Y3 V : sProp 𝕄) :=
  rest_congr d Y3 V (up2 A V) fun b hb => put_ne _ _ _ b fun h => hb (by
    simp only [List.map_cons, List.mem_cons]
    tauto)

theorem restM (G : Vec F S1024x2048 .f32) : rest d YM (put V main_v24 G) = (rest d YM V : sProp 𝕄) :=
  rest_congr d YM V (put V main_v24 G) fun b hb => put_ne _ _ _ b fun h => hb (by
    simp only [List.map_cons, List.mem_cons]
    tauto)

/-- The routing. -/
theorem step0 (h0 : V (main_v0 : DevRef τ sig) = A.fk) (h1 : V (main_v1 : DevRef τ sig) = A.fw) (h3 : V (main_v3 : DevRef τ sig) = A.ft) (Φ : PUnit → sProp 𝕄) :
    iprop((K (F := F)).ctx EH (P A) κ ∗ (K (F := F)).tcSt EH d 0 ∗ rest d [] V ∗ ((iprop((K (F := F)).tcSt EH d 1 ∗ rest d X1 (up0 A V))) -∗ Φ ⟨⟩))
      ⊢ wp frame (wpE ((K (F := F)).defs (D (F := F))) 𝒱 (SparseCore.T d) none) Set.univ ((K (F := F)).run d 0) Φ := by
  rw [in0 d V, h0, h1, h3, out0 d (up0 A V), rest0, up0_0, up0_1, up0_2, up0_3, up0_4, up0_5, up0_6]
  iintro ⟨#Hctx, Hst, ⟨⟨O0, O1, O2, O3, O4, O5, O6, H0, H1, H3⟩, HR⟩, Hk⟩
  iapply ((K (F := F)).wp_run (D (F := F)) 𝒱 (EH := EH) (P := P A) κ d 0) $$ [Hst O0 O1 O2 O3 O4 O5 O6 H0 H1 H3 HR Hk]
  isplitr; · iexact Hctx
  isplitl [Hst]; · iexact Hst
  isplitl [O0 O1 O2 O3 O4 O5 O6 H0 H1 H3]
  · iapply (Entails.of_eq (route_st A d).symm)
    unfold Route.go
    isplitl [H0]; · iexact H0
    isplitl [H1]; · iexact H1
    isplitl [H3]; · iexact H3
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    iexists _; iexact O6
  iintro ⟨Hst, Hdn⟩
  ihave Hdn' := (Entails.of_eq (route_dn A d)) $$ Hdn
  iapply Hk
  isplitl [Hst]; · iexact Hst
  isplitl [Hdn']; · unfold Route.td; iexact Hdn'
  iexact HR

/-- The gather. -/
theorem step1 (h0 : V (main_v5 : DevRef τ sig) = A.fx) (h1 : V (main_v14 : DevRef τ sig) = A.fi) (Φ : PUnit → sProp 𝕄) :
    iprop((K (F := F)).ctx EH (P A) κ ∗ (K (F := F)).tcSt EH d 1 ∗ rest d X1 V ∗ ((iprop((K (F := F)).tcSt EH d 2 ∗ rest d X2 (up1 A V))) -∗ Φ ⟨⟩))
      ⊢ wp frame (wpE ((K (F := F)).defs (D (F := F))) 𝒱 (SparseCore.T d) none) Set.univ ((K (F := F)).run d 1) Φ := by
  rw [in1 d V, h0, h1, out1 d (up1 A V), rest1, show up1 A V (main_v15 : DevRef τ sig) = _ from put_same _ _ _]
  iintro ⟨#Hctx, Hst, ⟨⟨HO, H0, H1⟩, HR⟩, Hk⟩
  iapply ((K (F := F)).wp_run (D (F := F)) 𝒱 (EH := EH) (P := P A) κ d 1) $$ [Hst H0 H1 HO HR Hk]
  isplitr; · iexact Hctx
  isplitl [Hst]; · iexact Hst
  isplitl [H0 H1 HO]
  · iapply (Entails.of_eq (gather_st A d).symm)
    iapply (gather_split A d (V (main_v15 : DevRef τ sig)))
    isplitl [H0]; · iexact H0
    isplitl [H1]; · iexact H1
    iexact HO
  iintro ⟨Hst, Hdn⟩
  ihave Hdn' := (Entails.of_eq ((gather_dn A d).trans (gather_join A d))) $$ Hdn
  iapply Hk
  isplitl [Hst]; · iexact Hst
  isplitl [Hdn']; · iexact Hdn'
  iexact HR

/-- The combine. -/
theorem step2 (Y : Vec F S16384x128 .f32) (hY : A.Yk Y) (h0 : V (main_v25 : DevRef τ sig) = Y) (h1 : V (main_v34 : DevRef τ sig) = A.fia)
    (h2 : V (main_v43 : DevRef τ sig) = A.fib) (Φ : PUnit → sProp 𝕄) :
    iprop((K (F := F)).ctx EH (P A) κ ∗ (K (F := F)).tcSt EH d 2 ∗ rest d X2 V ∗ ((iprop((K (F := F)).tcSt EH d 3 ∗ rest d X3 (up2 A V))) -∗ Φ ⟨⟩))
      ⊢ wp frame (wpE ((K (F := F)).defs (D (F := F))) 𝒱 (SparseCore.T d) none) Set.univ ((K (F := F)).run d 2) Φ := by
  rw [in2 d V, h0, h1, h2, out2 d (up2 A V), rest2, show up2 A V (main_v44 : DevRef τ sig) = _ from put_same _ _ _]
  iintro ⟨#Hctx, Hst, ⟨⟨HO, H0, H1, H2⟩, HR⟩, Hk⟩
  iapply ((K (F := F)).wp_run (D (F := F)) 𝒱 (EH := EH) (P := P A) κ d 2) $$ [Hst H0 H1 H2 HO HR Hk]
  isplitr; · iexact Hctx
  isplitl [Hst]; · iexact Hst
  isplitl [H0 H1 H2 HO]
  · iapply (Entails.of_eq (combine_st A d).symm)
    iapply (combine_split A d Y hY (V (main_v44 : DevRef τ sig)))
    isplitl [H0]; · iexact H0
    isplitl [H1]; · iexact H1
    isplitl [H2]; · iexact H2
    iexact HO
  iintro ⟨Hst, Hdn⟩
  ihave Hdn' := (Entails.of_eq ((combine_dn A d).trans (combine_join A d))) $$ Hdn
  iapply Hk
  isplitl [Hst]; · iexact Hst
  isplitl [Hdn']; · iexact Hdn'
  iexact HR

/-- The TensorCore's waits before the third call. -/
def waits : Set (SemLoc sig × HIx 3) := {p | (K (F := F)).lev (SparseCore.T d, p.1) p.2 ≤ 8 * (2 : ℕ)}

theorem owed_none (n : ℕ) (g : GSem nD τ sig) : (K (F := F)).Otc d n g (none : HIx 3) = 0 := by
  by_contra h
  have := (K (F := F)).lev_of_Otc_pos (Nat.pos_of_ne_zero h)
  rw [SparseCore.Cfg.lev_none] at this
  omega

theorem outM (G : Vec F S1024x2048 .f32) {X : Vec F S1024x2048 .f32} {W13 : Vec F S8x4096x2048 .f32} {W2 : Vec F S8x2048x2048 .f32} {ws : Vec F S1024x1 .f32}
    {t0 : Vec F S8 .i32} {t1 : Vec F S2x8 .i32} (h16 : V (main_v16 : DevRef τ sig) = X) (h3 : V (main_arg3 : DevRef τ sig) = W13)
    (h4 : V (main_arg4 : DevRef τ sig) = W2) (h23 : V (main_v23 : DevRef τ sig) = ws) (h22 : V (main_v22 : DevRef τ sig) = t0) (h21 : V (main_v21 : DevRef τ sig) = t1) :
    iprop(((((SparseCore.T d).loc main_v16) ↦{fullShare} X) ∗ (((SparseCore.T d).loc main_arg3) ↦{fullShare} W13) ∗ (((SparseCore.T d).loc main_arg4) ↦{fullShare} W2)
      ∗ (((SparseCore.T d).loc main_v23) ↦{fullShare} ws) ∗ (((SparseCore.T d).loc main_v24) ↦{fullShare} G) ∗ (((SparseCore.T d).loc main_v22) ↦{fullShare} t0)
      ∗ (((SparseCore.T d).loc main_v21) ↦{fullShare} t1)) ∗ rest d YM V) ⊢ (rest d X2 (put V main_v24 G) : sProp 𝕄) := by
  rw [inM d (put V main_v24 G), restM V d G, put_same, put_ne _ _ _ (main_v16 : DevRef τ sig) (by decide), put_ne _ _ _ (main_arg3 : DevRef τ sig) (by decide),
    put_ne _ _ _ (main_arg4 : DevRef τ sig) (by decide), put_ne _ _ _ (main_v23 : DevRef τ sig) (by decide), put_ne _ _ _ (main_v22 : DevRef τ sig) (by decide),
    put_ne _ _ _ (main_v21 : DevRef τ sig) (by decide), h16, h3, h4, h23, h22, h21]

/-- The experts. -/
theorem stepM [∀ e, Nonempty (Elt F e)] (a : (pcfg2 (F := F)).Adm) (r n fe : ℕ → ℕ) (X : Vec F S1024x2048 .f32) (W13 : Vec F S8x4096x2048 .f32) (W2 : Vec F S8x2048x2048 .f32)
    (ws : Vec F S1024x1 .f32) (hT : Tab a.1 r n fe) (h16 : V (main_v16 : DevRef τ sig) = X) (h3 : V (main_arg3 : DevRef τ sig) = W13)
    (h4 : V (main_arg4 : DevRef τ sig) = W2) (h23 : V (main_v23 : DevRef τ sig) = ws) (h22 : V (main_v22 : DevRef τ sig) = (a.1 0 : Vec F S8 .i32))
    (h21 : V (main_v21 : DevRef τ sig) = (a.1 1 : Vec F S2x8 .i32)) (Φ : PUnit → sProp 𝕄) :
    iprop((K (F := F)).ctx EH (P A) κ ∗ (K (F := F)).tcSt EH d 2 ∗ boundary (SparseCore.T d) ∗ rest d X2 V
        ∗ Pipeline.cellsGhost (Pipeline.pin (pcfgs (F := F)) (adms a)) EP 0 d ∗ Pipeline.toksInit (Pipeline.pin (pcfgs (F := F)) (adms a)) EP 0 d
        ∗ ((iprop(∃ G : Vec F S1024x2048 .f32, ⌜YOK r n X W13 W2 ws 64 G⌝ ∗ (K (F := F)).tcSt EH d 2 ∗ boundary (SparseCore.T d) ∗ rest d X2 (put V main_v24 G))) -∗ Φ ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 3) .tc) PUnit) Φ := by
  have hW : ∀ W : Waits sig (HIx 3), (K (F := F)).WBelow (SparseCore.T d) W (8 * (2 : ℕ)) → (↑W : Set (SemLoc sig × HIx 3)) ⊆ waits (F := F) d ∪ (cfg2 a).waitPairs none :=
    fun W hW p hp => Or.inl (hW p hp)
  have hW' : ∀ W : Waits sig (HIx 3), (↑W : Set (SemLoc sig × HIx 3)) ⊆ waits (F := F) d ∪ (cfg2 a).waitPairs none → (K (F := F)).WBelow (SparseCore.T d) W (8 * (2 : ℕ)) := by
    intro W hW p hp
    rcases hW hp with h | ⟨w, s, rfl⟩
    · exact h
    · rw [SparseCore.Cfg.lev_none]; exact Nat.zero_le _
  have hlv : (K (F := F)).Refines (nD := nD) (K (F := F)).lev := by sl_refines_lev
  obtain ⟨R, hR⟩ : ∃ R : sProp 𝕄, (K (F := F)).tcSt EH d 2 = iprop((∃ W, ⌜(K (F := F)).WBelow (SparseCore.T d) W (8 * 2)⌝ ∗ owes (SparseCore.T d) ((K (F := F)).Otc d 2) W) ∗ R) := ⟨_, rfl⟩
  rw [inM d V, h16, h3, h4, h23, h22, h21, hR]
  iintro ⟨#Hctx, ⟨⟨%W, %hW0, HO⟩, HR⟩, Hb, ⟨⟨B0, B1, B2, B3, B4, B5, B6⟩, Hrest⟩, Hg, Ht, Hk⟩
  ihave Hlev := (SparseCore.Cfg.ctx_levAts κ) $$ Hctx
  iapply ((K (F := F)).wp_liftProg (D (F := F)) 𝒱 (SparseCore.T d) Set.univ none (.op (.customCall (Pipeline.entry 0) ()) fun _ => .ret ⟨⟩) Φ)
  iapply (Pipeline.RDat.RegionSeg.wp (pcfgs (F := F)) (adms a) (rds a r n X W13 W2 ws (V (main_v24 : DevRef τ sig)) ((K (F := F)).Otc d 2) (waits (F := F) d)) none (cellOf_inj (adms a))
    EP defs₀ 𝒱₀ (K (F := F)).L (K (F := F)).lev
    (reg a r n fe X W13 W2 ws (V (main_v24 : DevRef τ sig)) ((K (F := F)).Otc d 2) (waits (F := F) d) (K (F := F)).lev hT (owed_none d 2) hlv) d none
    (fun u hu => nomatch hu) (fun _ => .ret ⟨⟩) Φ) $$ [HO HR Hb B0 B1 B2 B3 B4 B5 B6 Hrest Hg Ht Hk Hlev]
  isplitl [HR Hrest Hk]
  · iintro ⟨Hb, Hp⟩
    ihave Hp' := (show (reg a r n fe X W13 W2 ws (V (main_v24 : DevRef τ sig)) ((K (F := F)).Otc d 2) (waits (F := F) d) (K (F := F)).lev hT (owed_none d 2) hlv).post d ⊢ iprop(∃ G, ⌜YOK r n X W13 W2 ws 64 G⌝ ∗ Moe.st a X W13 W2 ws ((K (F := F)).Otc d 2) (waits (F := F) d) d G) from .rfl) $$ Hp
    icases Hp' with ⟨%G, %hG, Hst⟩
    unfold Moe.st
    icases Hst with ⟨B0, B1, B2, B3, B4, B5, B6, ⟨%W', %hW1, HO⟩⟩
    rw [wp_ret]
    imodintro
    iapply Hk
    iexists G
    isplitr; · ipureintro; exact hG
    isplitl [HO HR]
    · isplitl [HO]
      · iexists W'
        isplitr; · ipureintro; exact hW' W' hW1
        iexact HO
      iexact HR
    isplitl [Hb]; · iexact Hb
    iapply (outM V d G h16 h3 h4 h23 h22 h21)
    isplitl [B0 B1 B2 B3 B4 B5 B6]
    · isplitl [B0]; · iexact B0
      isplitl [B1]; · iexact B1
      isplitl [B2]; · iexact B2
      isplitl [B3]; · iexact B3
      isplitl [B4]; · iexact B4
      isplitl [B5]; · iexact B5
      iexact B6
    iexact Hrest
  isplitl [Hb]; · iexact Hb
  isplitl [HO B0 B1 B2 B3 B4 B5 B6]
  · iapply (show Moe.st a X W13 W2 ws ((K (F := F)).Otc d 2) (waits (F := F) d) d (V (main_v24 : DevRef τ sig)) ⊢ (reg a r n fe X W13 W2 ws (V (main_v24 : DevRef τ sig)) ((K (F := F)).Otc d 2) (waits (F := F) d) (K (F := F)).lev hT (owed_none d 2) hlv).pre d from .rfl)
    unfold Moe.st
    isplitl [B0]; · iexact B0
    isplitl [B1]; · iexact B1
    isplitl [B2]; · iexact B2
    isplitl [B3]; · iexact B3
    isplitl [B4]; · iexact B4
    isplitl [B5]; · iexact B5
    isplitl [B6]; · iexact B6
    iexists W
    isplitr; · ipureintro; exact hW W hW0
    iexact HO
  isplitl [Hlev]; · iexact Hlev
  isplitl [Hg]; · iexact Hg
  iexact Ht

end Cert.Proof
-- ==== Proof.State.lean ====
/-
  The buffers' contents at each point of @main, and what they are where a call reads them.
-/
module

public import proofs.«01_k».proof.Proof.HostVals
public import proofs.«01_k».proof.Proof.Calls

@[expose] public section

noncomputable section

namespace Cert.Proof

open Cert.KernelIdeal Cert.KernelIdeal.Gen
open Cert.Proof
open Cert.Proof.Moe (ix1 eq_ix1 ix2 eq_ix2 w32 Tab YOK)
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.Proof.Routing
open Idealize.ShloMosaic.TcCoe

variable {F : FTy → Type} [FloatOps F]

/-- A stretch's buffers are none of those used up. -/
theorem bufs_sub (ops : List (HloOp τ sig (Elt F))) (X : List (Ref sig .tc)) (h : ∀ op ∈ ops, op.bufs ⊆ Pipeline.ucRefs τ sig)
    (hX : ∀ op ∈ ops, ∀ r ∈ X, Proc.devRef (τ := τ) .tc r ∉ op.bufs) :
    ∀ op ∈ ops, op.bufs ⊆ Pipeline.ucRefs τ sig \ (X.map (Proc.devRef (τ := τ) .tc)).toFinset := fun op ho b hb =>
  Finset.mem_sdiff.mpr ⟨h op ho hb, fun hm => by
    obtain ⟨r, hr, e⟩ := List.mem_map.mp (List.mem_toFinset.mp hm)
    exact hX op ho r hr (e ▸ hb)⟩

theorem opsA_sub : ∀ op ∈ opsA (F := F), op.bufs ⊆ Pipeline.ucRefs τ sig \ (([] : List (Ref sig .tc)).map (Proc.devRef (τ := τ) .tc)).toFinset :=
  bufs_sub _ _ opsA_bufs fun _ _ _ h => absurd h List.not_mem_nil
theorem opsB_sub : ∀ op ∈ opsB (F := F), op.bufs ⊆ Pipeline.ucRefs τ sig \ (([] : List (Ref sig .tc)).map (Proc.devRef (τ := τ) .tc)).toFinset :=
  bufs_sub _ _ opsB_bufs fun _ _ _ h => absurd h List.not_mem_nil
set_option maxRecDepth 8192 in
theorem opsC_sub : ∀ op ∈ opsC (F := F), op.bufs ⊆ Pipeline.ucRefs τ sig \ (X1.map (Proc.devRef (τ := τ) .tc)).toFinset :=
  bufs_sub _ _ opsC_bufs (of_decide_eq_true rfl)
set_option maxRecDepth 8192 in
theorem opsD_sub : ∀ op ∈ opsD (F := F), op.bufs ⊆ Pipeline.ucRefs τ sig \ (X2.map (Proc.devRef (τ := τ) .tc)).toFinset :=
  bufs_sub _ _ opsD_bufs (of_decide_eq_true rfl)
set_option maxRecDepth 8192 in
theorem opsE_sub : ∀ op ∈ opsE (F := F), op.bufs ⊆ Pipeline.ucRefs τ sig \ (X2.map (Proc.devRef (τ := τ) .tc)).toFinset :=
  bufs_sub _ _ opsE_bufs (of_decide_eq_true rfl)
set_option maxRecDepth 8192 in
theorem opsG_sub : ∀ op ∈ opsG (F := F), op.bufs ⊆ Pipeline.ucRefs τ sig \ (X3.map (Proc.devRef (τ := τ) .tc)).toFinset :=
  bufs_sub _ _ opsG_bufs (of_decide_eq_true rfl)

variable (I : In F) (V0 : Valuation τ sig (Elt F))

/-! ### The valuations -/

def V1 : Valuation τ sig (Elt F) := after opsB (after opsA V0)
def V2 : Valuation τ sig (Elt F) := up0 (vals I) (V1 V0)
def V3 : Valuation τ sig (Elt F) := after opsC (V2 I V0)
def V4 : Valuation τ sig (Elt F) := up1 (vals I) (V3 I V0)
def V5 : Valuation τ sig (Elt F) := after opsD (V4 I V0)

variable (G : Vec F S1024x2048 .f32)

def V6 : Valuation τ sig (Elt F) := put (V5 I V0) main_v24 G
def V7 : Valuation τ sig (Elt F) := after opsE (V6 I V0 G)
def V8 : Valuation τ sig (Elt F) := up2 (vals I) (V7 I V0 G)
def V9 : Valuation τ sig (Elt F) := after opsG (V8 I V0 G)

/-! ### What each keeps -/

theorem keep1 (r : Ref sig .tc) (hA : r ∉ wrA) (hB : r ∉ wrB) : V1 V0 (Proc.devRef .tc r) = V0 (Proc.devRef .tc r) :=
  (after_of_writes_sub opsB _ opsB_writes hB).trans (after_of_writes_sub opsA _ opsA_writes hA)
theorem keep2 (r : Ref sig .tc)
    (h : Proc.devRef (τ := τ) .tc r ∉ ([main_v4_0, main_v4_1, main_v4_2, main_v4_3, main_v4_4, main_v4_5, main_v4_6] : List (Ref sig .tc)).map (Proc.devRef (τ := τ) .tc)) :
    V2 I V0 (Proc.devRef .tc r) = V1 V0 (Proc.devRef .tc r) := up0_ne _ _ _ h
theorem keep3 (r : Ref sig .tc) (h : r ∉ wrC) : V3 I V0 (Proc.devRef .tc r) = V2 I V0 (Proc.devRef .tc r) := after_of_writes_sub opsC _ opsC_writes h
theorem keep4 (r : Ref sig .tc) (h : Proc.devRef (τ := τ) .tc r ≠ Proc.devRef .tc main_v15) : V4 I V0 (Proc.devRef .tc r) = V3 I V0 (Proc.devRef .tc r) := put_ne _ _ _ _ h
theorem keep5 (r : Ref sig .tc) (h : r ∉ wrD) : V5 I V0 (Proc.devRef .tc r) = V4 I V0 (Proc.devRef .tc r) := after_of_writes_sub opsD _ opsD_writes h
theorem keep6 (r : Ref sig .tc) (h : Proc.devRef (τ := τ) .tc r ≠ Proc.devRef .tc main_v24) : V6 I V0 G (Proc.devRef .tc r) = V5 I V0 (Proc.devRef .tc r) := put_ne _ _ _ _ h
theorem keep7 (r : Ref sig .tc) (h : r ∉ wrE) : V7 I V0 G (Proc.devRef .tc r) = V6 I V0 G (Proc.devRef .tc r) := after_of_writes_sub opsE _ opsE_writes h
theorem keep8 (r : Ref sig .tc) (h : Proc.devRef (τ := τ) .tc r ≠ Proc.devRef .tc main_v44) : V8 I V0 G (Proc.devRef .tc r) = V7 I V0 G (Proc.devRef .tc r) := put_ne _ _ _ _ h
theorem keep9 (r : Ref sig .tc) (h : r ∉ wrG) : V9 I V0 G (Proc.devRef .tc r) = V8 I V0 G (Proc.devRef .tc r) := after_of_writes_sub opsG _ opsG_writes h

/-- The arguments. -/
abbrev argRefs : List (Ref sig .tc) := [main_arg0, main_arg1, main_arg2, main_arg3, main_arg4]

theorem arg2_eq (r : Ref sig .tc) (h : r ∈ argRefs) : V2 I V0 (Proc.devRef .tc r) = V0 (Proc.devRef .tc r) := by
  rw [keep2 I V0 r (by revert r; decide), keep1 V0 r (by revert r; decide) (by revert r; decide)]
theorem arg5_eq (r : Ref sig .tc) (h : r ∈ argRefs) : V5 I V0 (Proc.devRef .tc r) = V0 (Proc.devRef .tc r) := by
  rw [keep5 I V0 r (by revert r; decide), keep4 I V0 r (by revert r; decide), keep3 I V0 r (by revert r; decide), arg2_eq I V0 r h]
theorem arg9_eq (r : Ref sig .tc) (h : r ∈ argRefs) : V9 I V0 G (Proc.devRef .tc r) = V0 (Proc.devRef .tc r) := by
  rw [keep9 I V0 G r (by revert r; decide), keep8 I V0 G r (by revert r; decide), keep7 I V0 G r (by revert r; decide),
    keep6 I V0 G r (by revert r; decide), arg5_eq I V0 r h]

/-! ### What the calls read -/

structure Args : Prop where
  h0 : V0 (main_arg0 : DevRef τ sig) = I.x
  h1 : V0 (main_arg1 : DevRef τ sig) = I.e
  h2 : V0 (main_arg2 : DevRef τ sig) = I.w
  h3 : V0 (main_arg3 : DevRef τ sig) = I.W13
  h4 : V0 (main_arg4 : DevRef τ sig) = I.W2

variable {I V0} (hV : Args I V0)
include hV

theorem V1_v0 : V1 V0 (main_v0 : DevRef τ sig) = fkI I := (after_of_writes_sub opsB _ opsB_writes (by decide)).trans (A_v0 V0 I hV.h1)
theorem V1_v1 : V1 V0 (main_v1 : DevRef τ sig) = fwI I := (after_of_writes_sub opsB _ opsB_writes (by decide)).trans (A_v1 V0 I hV.h2)
omit hV in
theorem V1_v3 : V1 V0 (main_v3 : DevRef τ sig) = (ftI : Vec F S512 .i32) := B_v3 _ (A_v2 V0) (A_c V0)

theorem V3_v5 : V3 I V0 (main_v5 : DevRef τ sig) = fxI I := C_v5 _ I ((arg2_eq I V0 main_arg0 (by decide)).trans hV.h0)
omit hV in
theorem V3_v14 : V3 I V0 (main_v14 : DevRef τ sig) = fiI I := C_v14 _ I (up0_0 (vals I) (V1 V0))

omit hV in
theorem V5_v16 : V5 I V0 (main_v16 : DevRef τ sig) = XI I := D_v16 _ I (put_same (V3 I V0) main_v15 _)
omit hV in
theorem V5_v23 : V5 I V0 (main_v23 : DevRef τ sig) = wsI I :=
  D_v23 _ I (((keep4 I V0 main_v4_1 (by decide)).trans (keep3 I V0 main_v4_1 (by decide))).trans (up0_1 (vals I) (V1 V0)))

variable (I) in
/-- The first table: the experts in order. -/
def t0I : Vec F S8 .i32 := fun z => w32 (fe (key I) (z 0).val)
variable (I) in
/-- The second: their first rows and their counts of blocks. -/
def t1I : Vec F S2x8 .i32 := fun z => w32 (if (z 0).val = 0 then ro (key I) (z 1).val else ns (key I) (z 1).val)

omit hV in
theorem V5_v22 : V5 I V0 (main_v22 : DevRef τ sig) = t0I I := by
  funext z
  have hz : z = ix1 (m := 8) (z 0).val := eq_ix1 z rfl
  rw [hz]
  refine (D_v22 _ I (((keep4 I V0 main_v4_6 (by decide)).trans (keep3 I V0 main_v4_6 (by decide))).trans (up0_6 (vals I) (V1 V0))) _ (z 0).isLt).trans ?_
  unfold t0I
  rw [← hz]
omit hV in
theorem V5_v21 : V5 I V0 (main_v21 : DevRef τ sig) = t1I I := by
  funext z
  have h1 : (z 1).val < 8 := (z 1).isLt
  have h0 : (z 0).val = 0 ∨ (z 0).val = 1 := by have : (z 0).val < 2 := (z 0).isLt; omega
  unfold t1I
  rcases h0 with h0 | h0
  · have hz : z = ix2 (m := 2) (n := 8) 0 (z 1).val := eq_ix2 z h0 rfl
    rw [if_pos h0]
    refine (congrArg _ hz).trans ?_
    exact D_v21_0 _ I (((keep4 I V0 main_v4_4 (by decide)).trans (keep3 I V0 main_v4_4 (by decide))).trans (up0_4 (vals I) (V1 V0))) _ h1
  · have hz : z = ix2 (m := 2) (n := 8) 1 (z 1).val := eq_ix2 z h0 rfl
    rw [if_neg (by omega)]
    refine (congrArg _ hz).trans ?_
    exact D_v21_1 _ I (((keep4 I V0 main_v4_5 (by decide)).trans (keep3 I V0 main_v4_5 (by decide))).trans (up0_5 (vals I) (V1 V0))) _ h1

variable (I) in
/-- The tables' contents. -/
def pfI : pre2.Contents (Elt F) := fun | 0 => t0I I | 1 => t1I I

omit hV in
theorem tabI : Tab (pfI I) (ro (key I)) (ns (key I)) (fe (key I)) where
  toRoutes := routesI I
  t0 e he := by
    show t0I I _ = _
    unfold t0I
    rw [show (((ix1 (m := 8) e) : S8.Idx) 0).val = e from Nat.mod_eq_of_lt he]
  t1 e he := by
    show t1I I _ = _
    unfold t1I
    rw [show (((ix2 (m := 2) (n := 8) 0 e) : S2x8.Idx) 1).val = e from Nat.mod_eq_of_lt he, if_pos (show (((ix2 (m := 2) (n := 8) 0 e) : S2x8.Idx) 0).val = 0 from rfl)]
  t2 e he := by
    show t1I I _ = _
    unfold t1I
    rw [show (((ix2 (m := 2) (n := 8) 1 e) : S2x8.Idx) 1).val = e from Nat.mod_eq_of_lt he, if_neg (show ¬ (((ix2 (m := 2) (n := 8) 1 e) : S2x8.Idx) 0).val = 0 from Nat.one_ne_zero)]

variable (I) in
/-- The tables, admissible. -/
def admI : (pcfg2 (F := F)).Adm := ⟨pfI I, Moe.ok tabI⟩

omit hV in
theorem V7_v25 : V7 I V0 G (main_v25 : DevRef τ sig) = cut G := E_v25 _ G (put_same _ _ _)
omit hV in
theorem V6_4 (r : Ref sig .tc) (h : r ∈ ([main_v4_2, main_v4_3] : List (Ref sig .tc))) : V6 I V0 G (Proc.devRef .tc r) = V2 I V0 (Proc.devRef .tc r) := by
  rw [keep6 I V0 G r (by revert r; decide), keep5 I V0 r (by revert r; decide), keep4 I V0 r (by revert r; decide), keep3 I V0 r (by revert r; decide)]
omit hV in
theorem V7_v34 : V7 I V0 G (main_v34 : DevRef τ sig) = fiR I 0 := E_v34 _ I ((V6_4 G main_v4_2 (by decide)).trans (up0_2 (vals I) (V1 V0)))
omit hV in
theorem V7_v43 : V7 I V0 G (main_v43 : DevRef τ sig) = fiR I 1 := E_v43 _ I ((V6_4 G main_v4_3 (by decide)).trans (up0_3 (vals I) (V1 V0)))
omit hV in
theorem V9_v45 : V9 I V0 G (main_v45 : DevRef τ sig) = resI I := G_v45 _ I (put_same (V7 I V0 G) main_v44 _)

end Cert.Proof

end
-- ==== Proof.Main.lean ====
/-
  @main on the TensorCore: the stretches of host operations and the calls, one after the other, from the launch's buffers to the
  result; and the program's run.
-/
module

public import proofs.«01_k».proof.Proof.State

@[expose] public section

noncomputable section

namespace Cert.Proof

open Cert.KernelIdeal Cert.KernelIdeal.Gen
open Cert.Proof
open Cert.Proof.Moe (ix1 eq_ix1 ix2 eq_ix2 w32 Tab YOK adms)
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Cert.Proof.Routing
open Idealize.ShloMosaic.TcCoe

variable {F : FTy → Type} [FloatOps F]

local notation "𝕄" => MT nD τ sig (HIx 3) (Elt F) ℕ UU ℕ

/-- A stretch of host operations, from the buffers but those listed. -/
theorem seqR (d : Dev nD) (X : List (Ref sig .tc)) (ops : List (HloOp τ sig (Elt F)))
    (hb : ∀ op ∈ ops, op.bufs ⊆ Pipeline.ucRefs τ sig \ (X.map (Proc.devRef (τ := τ) .tc)).toFinset) (hf : ∀ op ∈ ops, op.fresh = ∅) (V : Valuation τ sig (Elt F))
    (k : PUnit → Prog (TpuEff nD τ sig (Elt F) (SparseCore.Sig ΛP 3) .tc) PUnit) (Φ : PUnit → sProp 𝕄) :
    iprop(boundary (SparseCore.T d) ∗ rest d X V
        ∗ ((iprop(boundary (SparseCore.T d) ∗ rest d X (after ops V))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (seq ops >>= k) Φ := by
  unfold rest
  iintro ⟨Hb, HR, Hk⟩
  iapply (wp_seq 𝒱 none Set.univ d (Pipeline.ucRefs τ sig \ (X.map (Proc.devRef (τ := τ) .tc)).toFinset) k ops hb hf V) $$ [Hb HR]
  · isplitl [Hb]; · iexact Hb
    iexact HR
  iexact Hk

variable (I : In F) (m : (ℓ : Loc nD τ sig) → Buf (Elt F) ℓ) (ρ : Dev nD → PrngReg)

/-- The launch's contents. -/
def at0 (d : Dev nD) : Valuation τ sig (Elt F) := fun b => m (d, b)

theorem rest_start (d : Dev nD) : (unscopedBufs d (fun b => m ((SparseCore.T d).loc b)) : sProp 𝕄) ⊢ rest d [] (at0 m d) := by
  unfold rest
  rw [List.map_nil, List.toFinset_nil, Finset.sdiff_empty]
  exact Entails.of_eq (Pipeline.unscopedBufs_held d (at0 m d))

/-- What the launch element deals the region. -/
abbrev GG (d : Dev nD) : sProp 𝕄 :=
  iprop(Pipeline.cellsGhost (Pipeline.pin (pcfgs (F := F)) (adms (admI I))) EP 0 d ∗ Pipeline.toksInit (Pipeline.pin (pcfgs (F := F)) (adms (admI I))) EP 0 d)

/-- What @main leaves to be read. -/
abbrev FIN (d : Dev nD) : sProp 𝕄 :=
  iprop((((SparseCore.T d).loc main_arg0) ↦{fullShare} m (d, (main_arg0 : DevRef τ sig))) ∗ (((SparseCore.T d).loc main_arg1) ↦{fullShare} m (d, (main_arg1 : DevRef τ sig)))
    ∗ (((SparseCore.T d).loc main_arg2) ↦{fullShare} m (d, (main_arg2 : DevRef τ sig))) ∗ (((SparseCore.T d).loc main_arg3) ↦{fullShare} m (d, (main_arg3 : DevRef τ sig)))
    ∗ (((SparseCore.T d).loc main_arg4) ↦{fullShare} m (d, (main_arg4 : DevRef τ sig))) ∗ (((SparseCore.T d).loc main_v45) ↦{fullShare} (resI I : Vec F S256x2048 .f32)))

theorem fin_out (d : Dev nD) (G : Vec F S1024x2048 .f32) : rest d X3 (V9 I (at0 m d) G) ⊢ (FIN I m d : sProp 𝕄) := by
  rw [inF d (V9 I (at0 m d) G), V9_v45, arg9_eq I (at0 m d) G main_arg0 (by decide), arg9_eq I (at0 m d) G main_arg1 (by decide), arg9_eq I (at0 m d) G main_arg2 (by decide),
    arg9_eq I (at0 m d) G main_arg3 (by decide), arg9_eq I (at0 m d) G main_arg4 (by decide)]
  iintro ⟨H, -⟩
  iexact H

/-- @main. -/
theorem hmain [∀ e, Nonempty (Elt F e)] (hI : ∀ d, Args I (at0 m d)) (κ : GSem nD τ sig → ℕ) (d : Dev nD) :
    iprop((K (F := F)).ctx EH (P (vals I)) κ ∗ (K (F := F)).tcSt EH d 0 ∗ (K (F := F)).tcRes m ρ d ∗ GG I d)
      ⊢ wp frame (wpE ((K (F := F)).defs (D (F := F))) 𝒱 (SparseCore.T d) none) Set.univ (main d)
          fun _ => iprop((K (F := F)).tcSt EH d 3 ∗ FIN I m d ∗ (K (F := F)).tcEnd d) := by
  unfold SparseCore.Cfg.tcRes SparseCore.Cfg.tcEnd
  rw [main_chain]
  simp only [Pipeline.chain_cons, Pipeline.chain_nil]
  iintro ⟨#Hctx, Hst, ⟨Hb, Hu, Hts, -⟩, ⟨Hg, Ht⟩⟩
  ihave HR := (rest_start m d) $$ Hu
  iapply (seqR d [] opsA opsA_sub opsA_fresh (at0 m d) _ _)
  isplitl [Hb]; · iexact Hb
  isplitl [HR]; · iexact HR
  iintro ⟨Hb, HR⟩
  iapply (seqR d [] opsB opsB_sub opsB_fresh _ _ _)
  isplitl [Hb]; · iexact Hb
  isplitl [HR]; · iexact HR
  iintro ⟨Hb, HR⟩
  rw [wp_bind]
  iapply (step0 (vals I) (V1 (at0 m d)) κ d (V1_v0 (hI d)) (V1_v1 (hI d)) V1_v3 _)
  isplitr; · iexact Hctx
  isplitl [Hst]; · iexact Hst
  isplitl [HR]; · iexact HR
  iintro ⟨Hst, HR⟩
  iapply (seqR d X1 opsC opsC_sub opsC_fresh (V2 I (at0 m d)) _ _)
  isplitl [Hb]; · iexact Hb
  isplitl [HR]; · iexact HR
  iintro ⟨Hb, HR⟩
  rw [wp_bind]
  iapply (step1 (vals I) (V3 I (at0 m d)) κ d (V3_v5 (hI d)) V3_v14 _)
  isplitr; · iexact Hctx
  isplitl [Hst]; · iexact Hst
  isplitl [HR]; · iexact HR
  iintro ⟨Hst, HR⟩
  iapply (seqR d X2 opsD opsD_sub opsD_fresh (V4 I (at0 m d)) _ _)
  isplitl [Hb]; · iexact Hb
  isplitl [HR]; · iexact HR
  iintro ⟨Hb, HR⟩
  rw [wp_bind]
  iapply (stepM (vals I) (V5 I (at0 m d)) κ d (admI I) (ro (key I)) (ns (key I)) (fe (key I)) (XI I) I.W13 I.W2 (wsI I) tabI V5_v16
    ((arg5_eq I (at0 m d) main_arg3 (by decide)).trans (hI d).h3) ((arg5_eq I (at0 m d) main_arg4 (by decide)).trans (hI d).h4) V5_v23 V5_v22 V5_v21 _)
  isplitr; · iexact Hctx
  isplitl [Hst]; · iexact Hst
  isplitl [Hb]; · iexact Hb
  isplitl [HR]; · iexact HR
  isplitl [Hg]; · iexact Hg
  isplitl [Ht]; · iexact Ht
  iintro ⟨%G, %hG, Hst, Hb, HR⟩
  iapply (seqR d X2 opsE opsE_sub opsE_fresh (V6 I (at0 m d) G) _ _)
  isplitl [Hb]; · iexact Hb
  isplitl [HR]; · iexact HR
  iintro ⟨Hb, HR⟩
  rw [wp_bind]
  iapply (step2 (vals I) (V7 I (at0 m d) G) κ d (cut G) ⟨G, hG, rfl⟩ (V7_v25 G) (V7_v34 G) (V7_v43 G) _)
  isplitr; · iexact Hctx
  isplitl [Hst]; · iexact Hst
  isplitl [HR]; · iexact HR
  iintro ⟨Hst, HR⟩
  iapply (seqR d X3 opsG opsG_sub opsG_fresh (V8 I (at0 m d) G) _ _)
  isplitl [Hb]; · iexact Hb
  isplitl [HR]; · iexact HR
  iintro ⟨Hb, HR⟩
  rw [wp_pure]
  imodintro
  isplitl [Hst]; · iexact Hst
  isplitl [HR]; · iapply (fin_out I m d G); iexact HR
  isplitl [Hb]; · iexact Hb
  iexact Hts

/-! ### The launch element -/

/-- The handshakes' cells and the region's. -/
def u₀ : UU := (initOf (K (F := F)).hsCells (K (F := F)).hsToks,
  (initOf (Pipeline.cells (Pipeline.pin (pcfgs (F := F)) (adms (admI I))) (cellOf_inj (adms (admI I))))
    (Pipeline.launchToks (Pipeline.pin (pcfgs (F := F)) (adms (admI I))) (cellOf_inj (adms (admI I)))), 1))

theorem u_split (a : UH) (b : UR sig nD τ) : (ownU ((a, (b, 1)) : UU) : sProp 𝕄) ⊢ iprop(BI.own (EH a) ∗ BI.own (EP b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op (b, (1 : Counters)))))

theorem one_region (Φ : Fin 1 → Dev nD → sProp 𝕄) :
    (bigSep Finset.univ fun c : Dev nD => bigSep Finset.univ fun p : Fin 1 => Φ p c) ⊢ bigSep Finset.univ fun c : Dev nD => Φ 0 c :=
  Entails.of_eq (bigSep_congr fun _ _ => bigSep_univ_of_subsingleton (0 : Fin 1))

theorem hu₀ (A : Vals F) : (ownU (u₀ I) : sProp 𝕄)
    ⊢ |={Set.univ}=> iprop(BI.own (EH (initOf (K (F := F)).hsCells (K (F := F)).hsToks)) ∗ (bigSep Finset.univ fun d : Dev nD => GG I d)
        ∗ bigSep Finset.univ fun thr : Thread nD τ => bigSep Finset.univ fun q : Fin 3 => (P A).x q thr) := by
  unfold u₀
  iintro Hu
  ihave H := (u_split _ _) $$ Hu
  icases H with ⟨HH, HP⟩
  imod (Pipeline.fund_ghost (Pipeline.pin (pcfgs (F := F)) (adms (admI I))) EP (cellOf_inj (adms (admI I)))) $$ HP with ⟨Hg, Ht⟩
  imodintro
  isplitl [HH]; · iexact HH
  isplitl [Hg Ht]
  · rw [bigSep_sep']
    isplitl [Hg]
    · iapply (one_region fun p c => Pipeline.cellsGhost (Pipeline.pin (pcfgs (F := F)) (adms (admI I))) EP p c)
      iexact Hg
    · iapply (one_region fun p c => Pipeline.toksInit (Pipeline.pin (pcfgs (F := F)) (adms (admI I))) EP p c)
      iexact Ht
  rw [show (bigSep Finset.univ fun thr : Thread nD τ => bigSep Finset.univ fun q : Fin 3 => (P A).x q thr) = (iprop(emp) : sProp 𝕄) from
    (bigSep_congr fun _ _ => bigSep_emp_const _).trans (bigSep_emp_const _)]
  iempintro

/-! ### The end -/

/-- What the final memory holds. -/
def fq (d : Dev nD) (s' : Phys nD τ sig (Elt F)) : Prop :=
  s'.mem.mem (d, (main_arg0 : DevRef τ sig)) = m (d, (main_arg0 : DevRef τ sig)) ∧ s'.mem.mem (d, (main_arg1 : DevRef τ sig)) = m (d, (main_arg1 : DevRef τ sig))
    ∧ s'.mem.mem (d, (main_arg2 : DevRef τ sig)) = m (d, (main_arg2 : DevRef τ sig)) ∧ s'.mem.mem (d, (main_arg3 : DevRef τ sig)) = m (d, (main_arg3 : DevRef τ sig))
    ∧ s'.mem.mem (d, (main_arg4 : DevRef τ sig)) = m (d, (main_arg4 : DevRef τ sig)) ∧ s'.mem.mem (d, (main_v45 : DevRef τ sig)) = (resI I : Vec F S256x2048 .f32)

theorem read (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN I m d ∗ SI s') ⊢ (⌜fq I m d s'⌝ : sProp 𝕄) := by
  iintro ⟨⟨H0, H1, H2, H3, H4, H5⟩, HS⟩
  ihave H := (read s' _ _) $$ [HS H0]
  · isplitl [HS] <;> iassumption
  icases H with ⟨%h0, HS⟩
  ihave H := (read s' _ _) $$ [HS H1]
  · isplitl [HS] <;> iassumption
  icases H with ⟨%h1, HS⟩
  ihave H := (read s' _ _) $$ [HS H2]
  · isplitl [HS] <;> iassumption
  icases H with ⟨%h2, HS⟩
  ihave H := (read s' _ _) $$ [HS H3]
  · isplitl [HS] <;> iassumption
  icases H with ⟨%h3, HS⟩
  ihave H := (read s' _ _) $$ [HS H4]
  · isplitl [HS] <;> iassumption
  icases H with ⟨%h4, HS⟩
  ihave H := (read s' _ _) $$ [HS H5]
  · isplitl [HS] <;> iassumption
  icases H with ⟨%h5, HS⟩
  ipureintro
  exact ⟨h0, h1, h2, h3, h4, h5⟩

/-- What the run's end satisfies. -/
def QC : PUnit × MemSt nD τ sig (Elt F) → Prop := fun r =>
  (∀ c : Dev nD, r.2.mem (c, (main_v45 : DevRef τ sig)) = (resI I : Vec F S256x2048 .f32)
    ∧ r.2.mem (c, (main_arg0 : DevRef τ sig)) = m (c, (main_arg0 : DevRef τ sig)) ∧ r.2.mem (c, (main_arg1 : DevRef τ sig)) = m (c, (main_arg1 : DevRef τ sig))
    ∧ r.2.mem (c, (main_arg2 : DevRef τ sig)) = m (c, (main_arg2 : DevRef τ sig)) ∧ r.2.mem (c, (main_arg3 : DevRef τ sig)) = m (c, (main_arg3 : DevRef τ sig))
    ∧ r.2.mem (c, (main_arg4 : DevRef τ sig)) = m (c, (main_arg4 : DevRef τ sig)))
    ∧ r.2.sem = fun _ => 0

/-- The program's run. -/
theorem run_main [∀ e, Nonempty (Elt F e)] (hI : ∀ d, Args I (at0 m d)) :
    θ_run (Cert.KernelIdeal.defs (F := F)) (Cert.KernelIdeal.threads (F := F)) ⟨m, fun _ => 0, ρ⟩ (QC I m) :=
  SparseCore.Cfg.θ_run_sc_quiescent (K := K (F := F)) (D := D (F := F)) (𝒱 := 𝒱) (EH := EH) (P := P (vals I)) (A := ∅) facts v₀
    (fun q hq => match q with | 0 => nomatch hq | 1 => nomatch hq | 2 => nomatch hq)
    (fun q _ => match q with | 0 => tileObl0 (vals I) | 1 => tileObl1 (vals I) | 2 => tileObl2 (vals I))
    (fun q _ => SparseCore.Cfg.VecSplit.of_plain (vecSplit (vals I) q))
    m ρ main (GG I) (FIN I m) (u₀ I) (sep_elim_left.trans (hu₀ I (vals I))) (hmain I m ρ hI) (fq I m) (hfin I m) (QC I m)
    (fun _ h hz => ⟨fun c => ⟨(h c).2.2.2.2.2, (h c).1, (h c).2.1, (h c).2.2.1, (h c).2.2.2.1, (h c).2.2.2.2.1⟩, hz⟩)

end Cert.Proof

end
-- ==== Proof.Inputs.lean ====
/-
  What the precondition says of a launch's arguments, and the inputs it makes of them: every expert id is one of the eight, and a
  token's two experts differ.
-/
module

public import proofs.«01_k».proof.Pre_routed
public import proofs.«01_k».proof.Proof.Gen.Pre_routed
public import proofs.«01_k».proof.Proof.Values
public import Idealize.ShloMosaic.Lib.ReduceAll

@[expose] public section

noncomputable section

namespace Cert.Proof

open Cert.Proof.Moe (ix1 ix2)
open Idealize.ShloMosaic

theorem bit_true : ∀ b : Bool, BitVec.ofBool b = 1#1 → b = true := by decide

section
variable {F : FTy → Type} [FloatOps F] (x : FVec F Cert.Pre_routed.S256x2048 .f32) (e : IVec Cert.Pre_routed.S256x2 32)
  (w : FVec F Cert.Pre_routed.S256x2 .f32) (W13 : FVec F Cert.Pre_routed.S8x4096x2048 .f32) (W2 : FVec F Cert.Pre_routed.S8x2048x2048 .f32)

/-- The predicate's index set has one element. -/
theorem scalar_sub : Subsingleton Cert.Pre_routed.S_.Idx := ⟨fun a b => funext fun k => k.elim0⟩

omit [FloatOps F] in
/-- Column `j` of a two-column table, cut out and laid flat. -/
theorem col_at {α : Type} (e : Cert.Pre_routed.S256x2.Idx → α) (j : ℕ) (hj : j < 2) (hs : Cert.Pre_routed.S256x2.Slices ![0, j] Cert.Pre_routed.S256x1)
    (hc : Cert.Pre_routed.S256x1.ShapeCasts Cert.Pre_routed.S256) (t : ℕ) (ht : t < 256) :
    shapeCast Cert.Pre_routed.S256 (extractStridedSlice Cert.Pre_routed.S256x1 ![0, j] e hs) hc (ix1 (m := 256) t) = e (ix2 (m := 256) (n := 2) t j) := by
  refine (shapeCast_apply _ hc _ (ix2 (m := 256) (n := 1) t 0) ?_).trans ?_
  · rw [Shape.rowMajor_val_two, Shape.rowMajor_val_one, Moe.ix2_zero (m := 256) (n := 1) _ _ ht, Moe.ix2_one (m := 256) (n := 1) _ _ (by omega)]
    show t * 1 + 0 = t % 256
    omega
  · unfold extractStridedSlice
    refine congrArg e (Moe.eq_ix2 (m := 256) (n := 2) _ ?_ ?_)
    · show 0 + t % 256 = t
      omega
    · show j + 0 % 1 = j
      omega

variable (h : Cert.Pre_routed.fn (F := F) x e w W13 W2 = fun _ => 1#1)
include h

theorem pre_parts :
    (∀ i, IntOp.andi (IntOp.cmpi .sge (e i) 0#32) (IntOp.cmpi .slt (e i) 8#32) = 1#1)
      ∧ ∀ t : Cert.Pre_routed.S256.Idx, IntOp.cmpi .ne (shapeCast Cert.Pre_routed.S256 (extractStridedSlice Cert.Pre_routed.S256x1 ![0, 0] e Cert.Pre_routed.Facts.slices_S256x2_S256x1_0_0) Cert.Pre_routed.Facts.shapeCasts_S256x1_S256 t)
          (shapeCast Cert.Pre_routed.S256 (extractStridedSlice Cert.Pre_routed.S256x1 ![0, 1] e Cert.Pre_routed.Facts.slices_S256x2_S256x1_0_1) Cert.Pre_routed.Facts.shapeCasts_S256x1_S256 t) = 1#1 := by
  have := scalar_sub
  have h0 := congrFun h (fun k => k.elim0)
  obtain ⟨ha, hb⟩ := IntOp.andi_eq_one.1 h0
  exact ⟨fun i => Host.reduce_andi_all _ _ _ _ _ ha i, fun t => Host.reduce_andi_all _ _ _ _ _ hb t⟩

/-- Every expert id is below 8. -/
theorem pre_lt (i : Cert.Pre_routed.S256x2.Idx) : (e i).toNat < 8 := by
  obtain ⟨ha, hb⟩ := IntOp.andi_eq_one.1 ((pre_parts x e w W13 W2 h).1 i)
  replace ha : (0#32).sle (e i) = true := bit_true _ ha
  replace hb : (e i).slt 8#32 = true := bit_true _ hb
  rw [BitVec.sle_eq_decide] at ha
  rw [BitVec.slt_eq_decide] at hb
  have ha := of_decide_eq_true ha
  have hb := of_decide_eq_true hb
  have h0 : (0#32 : BitVec 32).toInt = 0 := rfl
  have h8 : (8#32 : BitVec 32).toInt = 8 := rfl
  rw [h0] at ha
  rw [h8] at hb
  rw [BitVec.toInt_eq_toNat_cond] at ha hb
  split at ha <;> omega

/-- A token's two experts differ. -/
theorem pre_ne (t : ℕ) (ht : t < 256) : e (ix2 (m := 256) (n := 2) t 0) ≠ e (ix2 (m := 256) (n := 2) t 1) := by
  have hp := (pre_parts x e w W13 W2 h).2 (ix1 (m := 256) t)
  intro hq
  have hA : shapeCast Cert.Pre_routed.S256 (extractStridedSlice Cert.Pre_routed.S256x1 ![0, 0] e Cert.Pre_routed.Facts.slices_S256x2_S256x1_0_0) Cert.Pre_routed.Facts.shapeCasts_S256x1_S256 (ix1 (m := 256) t)
      = e (ix2 (m := 256) (n := 2) t 0) := by
    exact col_at e 0 (by omega) _ _ t ht
  have hB : shapeCast Cert.Pre_routed.S256 (extractStridedSlice Cert.Pre_routed.S256x1 ![0, 1] e Cert.Pre_routed.Facts.slices_S256x2_S256x1_0_1) Cert.Pre_routed.Facts.shapeCasts_S256x1_S256 (ix1 (m := 256) t)
      = e (ix2 (m := 256) (n := 2) t 1) := by
    exact col_at e 1 (by omega) _ _ t ht
  rw [hA, hB, hq] at hp
  exact absurd hp (by simp [IntOp.cmpi])
end

/-- The inputs of a run whose arguments the precondition admits. -/
def inOf {F : FTy → Type} [FloatOps F] (x : FVec F Cert.Pre_routed.S256x2048 .f32) (e : IVec Cert.Pre_routed.S256x2 32)
    (w : FVec F Cert.Pre_routed.S256x2 .f32) (W13 : FVec F Cert.Pre_routed.S8x4096x2048 .f32) (W2 : FVec F Cert.Pre_routed.S8x2048x2048 .f32)
    (h : Cert.Pre_routed.fn (F := F) x e w W13 W2 = fun _ => 1#1) : In F where
  x := x
  e := e
  w := w
  W13 := W13
  W2 := W2
  he t j := pre_lt x e w W13 W2 h _
  hd t ht := pre_ne x e w W13 W2 h t ht

end Cert.Proof

end
-- ==== Proof.Same.lean ====
/-
  The kernel's program and the one read at the ideal floats have the same text, so a run of one is a run of the other.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxRecDepth 8192 in
set_option maxHeartbeats 8000000 in
/-- The kernels' bodies are the same, kernel by kernel. -/
theorem bodies_same : Cert.Kernel.defs₀ (F := F) = Cert.KernelIdeal.defs₀ (F := F) := by
  funext p l a
  match p, l, a with
  | .scVector c s, 0, _ => rfl
  | .scVector c s, 1, _ => rfl
  | .scVector c s, 2, _ => rfl
  | .scVector c s, 3, _ => rfl
  | .tc, 0, _ => rfl
  | .tc, 1, _ => rfl
  | .tc, 2, _ => rfl
  | .tc, 3, _ => rfl
  | .scScalar c, 0, _ => rfl
  | .scScalar c, 1, _ => rfl
  | .scScalar c, 2, _ => rfl
  | .scScalar c, 3, _ => rfl

/-- The pipeline is the same. -/
theorem pipes_same : Cert.Kernel.pcfgs (F := F) = Cert.KernelIdeal.pcfgs (F := F) := rfl

set_option maxRecDepth 8192 in
set_option maxHeartbeats 8000000 in
/-- What a run of the one program shows, the run of the other shows: with the pipeline and the bodies set aside, the two are word
    for word the same. -/
theorem transfer (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (Cert.KernelIdeal.threads (F := F)) s Q) :
    θ_run (Cert.Kernel.defs (F := F)) (Cert.Kernel.threads (F := F)) s Q := by
  revert h
  delta Cert.Kernel.threads Cert.KernelIdeal.threads Cert.Kernel.defs Cert.KernelIdeal.defs Cert.Kernel.sc Cert.KernelIdeal.sc Cert.Kernel.main Cert.KernelIdeal.main
    Cert.Kernel.fn_floor_divide.body Cert.KernelIdeal.fn_floor_divide.body Cert.Kernel.fn_where.body Cert.KernelIdeal.fn_where.body
  rw [bodies_same]
  rw [pipes_same]
  generalize Cert.KernelIdeal.defs₀ (F := F) = D0
  generalize Cert.KernelIdeal.pcfgs (F := F) = P
  intro h
  exact h

end Cert.Proof

end
-- ==== Proof.Frames.lean ====
/-
  The three frames: the kernel's, at the machine's floats and at the ideal ones, from its one run; and the reference's.
-/
module

public import proofs.«01_k».proof.Defs
public import proofs.«01_k».proof.Proof.Gen.Kernel
public import proofs.«01_k».proof.Proof.Gen.ReferenceIdeal.Run
public import proofs.«01_k».proof.Proof.Main
public import proofs.«01_k».proof.Proof.Inputs
public import proofs.«01_k».proof.Proof.Same

@[expose] public section

noncomputable section

namespace Cert.Proof

open Idealize.ShloMosaic Idealize.SL.Sem
open Idealize.ShloMosaic.TcCoe

/-- The one device's inputs. -/
def inI (m : (ℓ : Loc Cert.KernelIdeal.nD Cert.KernelIdeal.τ Cert.KernelIdeal.sig) → Buf (Elt Ideal) ℓ) (h : Cert.Pre_KernelIdeal m) : In Ideal :=
  inOf _ _ _ _ _ (h 0)

theorem args_inI (m : (ℓ : Loc Cert.KernelIdeal.nD Cert.KernelIdeal.τ Cert.KernelIdeal.sig) → Buf (Elt Ideal) ℓ) (h : Cert.Pre_KernelIdeal m)
    (d : Dev Cert.KernelIdeal.nD) : Args (inI m h) (at0 m d) := by
  obtain rfl : d = 0 := Subsingleton.elim _ _
  exact ⟨rfl, rfl, rfl, rfl, rfl⟩

/-- The kernel's run at the ideal floats. -/
theorem run_ideal (m : (ℓ : Loc Cert.KernelIdeal.nD Cert.KernelIdeal.τ Cert.KernelIdeal.sig) → Buf (Elt Ideal) ℓ) (ρ : Dev Cert.KernelIdeal.nD → PrngReg)
    (h : Cert.Pre_KernelIdeal m) : θ_run (Cert.KernelIdeal.defs (F := Ideal)) (Cert.KernelIdeal.threads (F := Ideal)) ⟨m, fun _ => 0, ρ⟩ (QC (inI m h) m) :=
  run_main (inI m h) m ρ (args_inI m h)

theorem frame_kernelIdeal : Cert.quiescent_KernelIdeal := fun m ρ h =>
  (θ_run Cert.KernelIdeal.defs _ _).mono (fun _ hr => ⟨fun c => (hr.1 c).2, hr.2⟩) (run_ideal m ρ h)

theorem frame_kernel : Cert.quiescent_Kernel := fun m ρ h =>
  transfer _ _ ((θ_run Cert.KernelIdeal.defs _ _).mono (fun _ hr => ⟨fun c => (hr.1 c).2, hr.2⟩)
    (run_main (F := Bits) (inOf _ _ _ _ _ (h 0)) m ρ (fun d => by
      obtain rfl : d = 0 := Subsingleton.elim _ _
      exact ⟨rfl, rfl, rfl, rfl, rfl⟩)))

/-- The reference has no semaphores. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

end Cert.Proof

end
-- ==== Proof.Payload.lean ====
/-
  The expert kernel's two products at the ideal floats, at an index; and what they make of one pair of a token and an expert.
-/
module

public import proofs.«01_k».proof.Proof.Values
public import Idealize.ShloMosaic.Lib.Pointwise

@[expose] public section

noncomputable section

namespace Cert.Proof

open Cert.KernelIdeal Cert.KernelIdeal.Gen
open Idealize.ShloMosaic
open Cert.Proof.Routing
open Cert.Proof.Moe (outV hidV)

/-- An index named by two numbers, as one named by two coordinates. -/
theorem ix2_fin {m n : ℕ} [NeZero m] [NeZero n] (a b : ℕ) (ha : a < m) (hb : b < n) :
    Moe.ix2 (m := m) (n := n) a b = ix2 (⟨a, ha⟩ : Fin m) (⟨b, hb⟩ : Fin n) :=
  (Moe.eq_ix2 (m := m) (n := n) (ix2 (⟨a, ha⟩ : Fin m) (⟨b, hb⟩ : Fin n)) rfl rfl).symm

theorem ix3_fin {l m n : ℕ} [NeZero l] [NeZero m] [NeZero n] (a b c : ℕ) (ha : a < l) (hb : b < m) (hc : c < n) :
    Moe.ix3 (l := l) (m := m) (n := n) a b c = ix3 (⟨a, ha⟩ : Fin l) (⟨b, hb⟩ : Fin m) (⟨c, hc⟩ : Fin n) :=
  (Moe.eq_ix3 (l := l) (m := m) (n := n) (ix3 (⟨a, ha⟩ : Fin l) (⟨b, hb⟩ : Fin m) (⟨c, hc⟩ : Fin n)) rfl rfl rfl).symm

set_option maxRecDepth 16384 in
theorem pay3_at (A B : Vec Ideal S1x512x2048 .f32) (X : Vec Ideal S64x2048 .f32) (a : Fin 64) (b : Fin 512) :
    k2_pay3 (F := Ideal) A B X (ix2 a b) = ((∑ k : Fin 2048, (X (ix2 a k) * A (ix3 0 b k) : EReal)) * Ideal.logistic (∑ k : Fin 2048, (X (ix2 a k) * A (ix3 0 b k) : EReal))
      * (∑ k : Fin 2048, (X (ix2 a k) * B (ix3 0 b k) : EReal)) : EReal) := by
  pointwise [k2_pay3, k2_pay2, k2_pay1]

set_option maxRecDepth 16384 in
theorem pay6_at (A : Vec Ideal S1x512x2048 .f32) (X : Vec Ideal S64x2048 .f32) (w : Vec Ideal S64x1 .f32) (a : Fin 64) (b : Fin 512) :
    k2_pay6 (F := Ideal) A X w (ix2 a b) = ((∑ k : Fin 2048, (X (ix2 a k) * A (ix3 0 b k) : EReal)) * w (ix2 a 0) : EReal) := by
  pointwise [k2_pay6, k2_pay5]

variable (I : In Ideal)

/-- Entry `i` of token `t`'s first product with expert `e`. -/
def upN (t e i : ℕ) : EReal := ∑ k : Fin 2048, (I.x (Moe.ix2 (m := 256) (n := 2048) t k.val) * I.W13 (Moe.ix3 (l := 8) (m := 4096) (n := 2048) e i k.val) : EReal)

/-- Entry `i` of token `t`'s hidden activations with expert `e`. -/
def hidN (t e i : ℕ) : EReal := upN I t e i * Ideal.logistic (upN I t e i) * upN I t e (2048 + i)

/-- Entry `c` of what expert `e` makes of token `t`. -/
def outN (t e c : ℕ) : EReal := ∑ i : Fin 2048, (hidN I t e i.val * I.W2 (Moe.ix3 (l := 8) (m := 2048) (n := 2048) e c i.val) : EReal)

/-- The gathered row of a pair is its token's. -/
theorem XI_at (p : ℕ) (hp : p < 512) (k : ℕ) (hk : k < 2048) :
    XI I (Moe.ix2 (m := 1024) (n := 2048) (dest (key I) p) k) = I.x (Moe.ix2 (m := 256) (n := 2048) (p / 2) k) := by
  have hl := dest_lt_1024 (key := key I) (fun p _ => key_lt I p) hp
  unfold XI
  rw [Moe.ix2_zero (m := 1024) (n := 2048) _ _ hl, Moe.ix2_one (m := 1024) (n := 2048) _ _ hk, tok_dest I p hp]

/-- The padded weight of a pair is its own. -/
theorem wsI_at (p : ℕ) (hp : p < 512) : wsI I (Moe.ix2 (m := 1024) (n := 1) (dest (key I) p) 0) = I.w (Moe.ix2 (m := 256) (n := 2) (p / 2) (p % 2)) := by
  have hl := dest_lt_1024 (key := key I) (fun p _ => key_lt I p) hp
  unfold wsI Route.wsF
  rw [Moe.ix2_zero (m := 1024) (n := 1) _ _ hl, show (((Moe.ix1 (m := 1024) (dest (key I) p)) : S1024.Idx) 0).val = dest (key I) p from Nat.mod_eq_of_lt hl,
    placed_dest (key := key I) _ _ (le_refl 512) hp]
  unfold fwI
  rw [show (((Moe.ix1 (m := 512) p) : S512.Idx) 0).val = p from Nat.mod_eq_of_lt hp]

/-- The hidden activations the kernel keeps for a pair. -/
theorem hidV_at (p : ℕ) (hp : p < 512) (i : ℕ) (hi : i < 2048) (hq : dest (key I) p - ro (key I) (key I p) < 256) :
    hidV (ro (key I)) (XI I) I.W13 (key I p) (Moe.ix2 (m := 256) (n := 2048) (dest (key I) p - ro (key I) (key I p)) i) = hidN I (p / 2) (key I p) i := by
  have hlo := le_dest (key := key I) p
  unfold hidV
  rw [Moe.ix2_zero (m := 256) (n := 2048) _ _ hq, Moe.ix2_one (m := 256) (n := 2048) _ _ hi,
    ix2_fin (m := 64) (n := 512) _ _ (Nat.mod_lt _ (by decide)) (Nat.mod_lt _ (by decide)), pay3_at]
  have hX : ∀ k : Fin 2048, Moe.rows (XI I) (ro (key I) (key I p) + 64 * ((dest (key I) p - ro (key I) (key I p)) / 64))
      (ix2 (⟨(dest (key I) p - ro (key I) (key I p)) % 64, Nat.mod_lt _ (by decide)⟩ : Fin 64) k) = I.x (Moe.ix2 (m := 256) (n := 2048) (p / 2) k.val) := fun k => by
    unfold Moe.rows
    show XI I (Moe.ix2 (m := 1024) (n := 2048) (ro (key I) (key I p) + 64 * ((dest (key I) p - ro (key I) (key I p)) / 64) + (dest (key I) p - ro (key I) (key I p)) % 64) k.val) = _
    rw [show ro (key I) (key I p) + 64 * ((dest (key I) p - ro (key I) (key I p)) / 64) + (dest (key I) p - ro (key I) (key I p)) % 64 = dest (key I) p by omega]
    exact XI_at I p hp k.val k.isLt
  have hA : ∀ k : Fin 2048, Moe.blk I.W13 (key I p) (512 * (i / 512)) (ix3 (0 : Fin 1) (⟨i % 512, Nat.mod_lt _ (by decide)⟩ : Fin 512) k)
      = I.W13 (Moe.ix3 (l := 8) (m := 4096) (n := 2048) (key I p) i k.val) := fun k => by
    unfold Moe.blk
    show I.W13 (Moe.ix3 (l := 8) (m := 4096) (n := 2048) (key I p) (512 * (i / 512) + i % 512) k.val) = _
    rw [Nat.div_add_mod]
  have hB : ∀ k : Fin 2048, Moe.blk I.W13 (key I p) (2048 + 512 * (i / 512)) (ix3 (0 : Fin 1) (⟨i % 512, Nat.mod_lt _ (by decide)⟩ : Fin 512) k)
      = I.W13 (Moe.ix3 (l := 8) (m := 4096) (n := 2048) (key I p) (2048 + i) k.val) := fun k => by
    unfold Moe.blk
    show I.W13 (Moe.ix3 (l := 8) (m := 4096) (n := 2048) (key I p) (2048 + 512 * (i / 512) + i % 512) k.val) = _
    rw [Nat.add_assoc, Nat.div_add_mod]
  unfold hidN upN
  simp only [hX, hA, hB]

/-- What the kernel leaves of a pair. -/
theorem outAt_eq (p c : ℕ) (hp : p < 512) :
    outAt I p c = (outN I (p / 2) (key I p) c * I.w (Moe.ix2 (m := 256) (n := 2) (p / 2) (p % 2)) : EReal) := by
  have hlo := le_dest (key := key I) p
  have hhi := dest_lt (key := key I) hp
  have hn := (routesI I).n_le (key I p) (key_lt I p)
  have hq : dest (key I) p - ro (key I) (key I p) < 256 := by omega
  unfold outAt outV
  rw [ix2_fin (m := 64) (n := 512) _ _ (Nat.mod_lt _ (by decide)) (Nat.mod_lt _ (by decide)), pay6_at]
  have hH : ∀ k : Fin 2048, Moe.rows (hidV (ro (key I)) (XI I) I.W13 (key I p)) (64 * ((dest (key I) p - ro (key I) (key I p)) / 64))
      (ix2 (⟨(dest (key I) p - ro (key I) (key I p)) % 64, Nat.mod_lt _ (by decide)⟩ : Fin 64) k) = hidN I (p / 2) (key I p) k.val := fun k => by
    unfold Moe.rows
    show hidV (ro (key I)) (XI I) I.W13 (key I p) (Moe.ix2 (m := 256) (n := 2048) (64 * ((dest (key I) p - ro (key I) (key I p)) / 64) + (dest (key I) p - ro (key I) (key I p)) % 64) k.val) = _
    rw [Nat.div_add_mod]
    exact hidV_at I p hp k.val k.isLt hq
  have hW : ∀ k : Fin 2048, Moe.blk I.W2 (key I p) (512 * (c / 512)) (ix3 (0 : Fin 1) (⟨c % 512, Nat.mod_lt _ (by decide)⟩ : Fin 512) k)
      = I.W2 (Moe.ix3 (l := 8) (m := 2048) (n := 2048) (key I p) c k.val) := fun k => by
    unfold Moe.blk
    show I.W2 (Moe.ix3 (l := 8) (m := 2048) (n := 2048) (key I p) (512 * (c / 512) + c % 512) k.val) = _
    rw [Nat.div_add_mod]
  have hw : Moe.rows (wsI I) (ro (key I) (key I p) + 64 * ((dest (key I) p - ro (key I) (key I p)) / 64))
      (ix2 (⟨(dest (key I) p - ro (key I) (key I p)) % 64, Nat.mod_lt _ (by decide)⟩ : Fin 64) (0 : Fin 1)) = I.w (Moe.ix2 (m := 256) (n := 2) (p / 2) (p % 2)) := by
    unfold Moe.rows
    show wsI I (Moe.ix2 (m := 1024) (n := 1) (ro (key I) (key I p) + 64 * ((dest (key I) p - ro (key I) (key I p)) / 64) + (dest (key I) p - ro (key I) (key I p)) % 64) 0) = _
    rw [show ro (key I) (key I p) + 64 * ((dest (key I) p - ro (key I) (key I p)) / 64) + (dest (key I) p - ro (key I) (key I p)) % 64 = dest (key I) p by omega]
    exact wsI_at I p hp
  unfold outN
  simp only [hH, hW, hw]

end Cert.Proof

end
-- ==== Proof.Ref.lean ====
/-
  The reference's value at the ideal floats, at an index.
-/
module

public import proofs.«01_k».proof.Proof.Gen.ReferenceIdeal.Run
public import Idealize.ShloMosaic.Lib.Pointwise
public import Idealize.ShloMosaic.Lib.Routing.OpsPair
public import Idealize.ShloMosaic.Lib.Routing.OpsSet

@[expose] public section

noncomputable section

namespace Cert.Proof.Ref

open Cert.ReferenceIdeal Cert.ReferenceIdeal.Gen
open Idealize.ShloMosaic Idealize.SL.Sem
open Idealize.ShloMosaic.TcCoe

/-- Both halves of every expert's first product, token by token. -/
def upGate (x : FVec Ideal S256x2048 .f32) (W13 : FVec Ideal S8x4096x2048 .f32) : FVec Ideal S256x8x2x2048 .f32 :=
  shapeCast S256x8x2x2048 (Host.dotGeneral dot_S256x2048_S2048x32768_S256x32768_1_0_0_1_n_n none x
    (transpose S2048x32768 [1, 0] (shapeCast S32768x2048 W13 shapeCasts_S8x4096x2048_S32768x2048) transposes_S32768x2048_S2048x32768_1_0)) shapeCasts_S256x32768_S256x8x2x2048

/-- The hidden activations. -/
def hid (u : FVec Ideal S256x8x2x2048 .f32) : FVec Ideal S256x8x2048 .f32 :=
  mulf (mulf (shapeCast S256x8x2048 (extractStridedSlice S256x8x1x2048 ![0, 0, 0, 0] u slices_S256x8x2x2048_S256x8x1x2048_0_0_0_0) shapeCasts_S256x8x1x2048_S256x8x2048)
    (Host.divf (broadcastInDim S256x8x2048 ![] bcast_S_S256x8x2048 (constant S_ .f32 0x3F800000#32))
      (addf (broadcastInDim S256x8x2048 ![] bcast_S_S256x8x2048 (constant S_ .f32 0x3F800000#32))
        (Host.exp (Host.negf (shapeCast S256x8x2048 (extractStridedSlice S256x8x1x2048 ![0, 0, 0, 0] u slices_S256x8x2x2048_S256x8x1x2048_0_0_0_0) shapeCasts_S256x8x1x2048_S256x8x2048))))))
    (shapeCast S256x8x2048 (extractStridedSlice S256x8x1x2048 ![0, 0, 1, 0] u slices_S256x8x2x2048_S256x8x1x2048_0_0_1_0) shapeCasts_S256x8x1x2048_S256x8x2048)

/-- The index pairs the weights are placed at: a token and one of its experts. -/
def places (e : IVec S256x2 32) : IVec S256x2x2 32 :=
  concatenate S256x2x2 2 [⟨S256x2x1, (broadcastInDim S256x2x1 ![0, 1] bcast_S256x2_S256x2x1_0_1 (broadcastInDim S256x2 ![0, 1] bcast_S256x1_S256x2_0_1
      (select (cmpi .slt (broadcastInDim S256x1 ![0] bcast_S256_S256x1_0 (iotaInDim S256 32 0)) (broadcastInDim S256x1 ![] bcast_S_S256x1 (constantI S_ 32 0#32)))
        (addi (broadcastInDim S256x1 ![0] bcast_S256_S256x1_0 (iotaInDim S256 32 0)) (broadcastInDim S256x1 ![] bcast_S_S256x1 (constantI S_ 32 256#32)))
        (broadcastInDim S256x1 ![0] bcast_S256_S256x1_0 (iotaInDim S256 32 0)))))⟩,
    ⟨S256x2x1, (broadcastInDim S256x2x1 ![0, 1] bcast_S256x2_S256x2x1_0_1 (select (cmpi .slt e (broadcastInDim S256x2 ![] bcast_S_S256x2 (constantI S_ 32 0#32)))
      (addi e (broadcastInDim S256x2 ![] bcast_S_S256x2 (constantI S_ 32 8#32))) e))⟩] concatenates_S256x2x1_S256x2x1_S256x2x2_d2

/-- Every token's weight for every expert. -/
def weights (e : IVec S256x2 32) (w : FVec Ideal S256x2 .f32) : FVec Ideal S256x8 .f32 :=
  Host.scatter scatter_S256x8_S256x2x2_S256x2_n_01_01_2 (fun _ b => b) (broadcastInDim S256x8 ![] bcast_S_S256x8 (constant S_ .f32 0x00000000#32)) (places e) w

/-- The result, from the hidden activations and the weights. -/
def res (H : FVec Ideal S256x8x2048 .f32) (W2 : FVec Ideal S8x2048x2048 .f32) (g : FVec Ideal S256x8 .f32) : FVec Ideal S256x2048 .f32 :=
  Host.reduceAdd (mulf (Host.dotGeneral dot_S8x256x2048_S8x2048x2048_S8x256x2048_2_1_1_2_0_0 none (transpose S8x256x2048 [1, 0, 2] H transposes_S256x8x2048_S8x256x2048_1_0_2)
      (transpose S8x2048x2048 [0, 2, 1] W2 transposes_S8x2048x2048_S8x2048x2048_0_2_1))
    (broadcastInDim S8x256x2048 ![0, 1, 2] bcast_S8x256x1_S8x256x2048_0_1_2 (broadcastInDim S8x256x1 ![0, 1] bcast_S8x256_S8x256x1_0_1 (transpose S8x256 [1, 0] g transposes_S256x8_S8x256_1_0))))
    (constant S_ .f32 0x00000000#32) reducesTo_S8x256x2048_S256x2048_d0 h_S_

set_option maxRecDepth 16384 in
theorem run_at (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = res (hid (upGate (m ((c.tc : Thread nD τ).loc main_arg0)) (m ((c.tc : Thread nD τ).loc main_arg3))))
          (m ((c.tc : Thread nD τ).loc main_arg4)) (weights (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.ReferenceIdeal.Value.run (F := Ideal) m ρ)

set_option maxRecDepth 16384 in
theorem upGate_at (x : FVec Ideal S256x2048 .f32) (W13 : FVec Ideal S8x4096x2048 .f32) (t : Fin 256) (e : Fin 8) (h : Fin 2) (i : Fin 2048) :
    upGate x W13 (ix4 t e h i) = ∑ k : Fin 2048, (x (ix2 t k) * W13 (ix3 e (⟨2048 * h.val + i.val, by omega⟩ : Fin 4096) k) : EReal) := by
  pointwise [upGate]
  refine Finset.sum_congr rfl fun k _ => ?_
  refine congrArg (fun a : Fin 4096 => (x (ix2 t k) * W13 (ix3 e a k) : EReal)) (Fin.ext ?_)
  show (e.val * 4096 + h.val * 2048 + i.val) % 4096 = 2048 * h.val + i.val
  omega

set_option maxRecDepth 16384 in
theorem hid_at (u : FVec Ideal S256x8x2x2048 .f32) (t : Fin 256) (e : Fin 8) (i : Fin 2048) :
    hid u (ix3 t e i) = (u (ix4 t e 0 i) * Ideal.logistic (u (ix4 t e 0 i)) * u (ix4 t e 1 i) : EReal) := by
  pointwise [hid]
  rfl

set_option maxRecDepth 16384 in
theorem res_at (H : FVec Ideal S256x8x2048 .f32) (W2 : FVec Ideal S8x2048x2048 .f32) (g : FVec Ideal S256x8 .f32) (t : Fin 256) (c : Fin 2048) :
    res H W2 g (ix2 t c) = ∑ a : Fin 8, ((∑ i : Fin 2048, (H (ix3 t a i) * W2 (ix3 a c i) : EReal)) * g (ix2 t a) : EReal) := by
  pointwise [res]

set_option maxRecDepth 16384 in
theorem places_token (e : IVec S256x2 32) (t : Fin 256) (j : Fin 2) : places e (ix3 t j 0) = BitVec.ofNat 32 t.val := by
  pointwise [places]
  exact Routing.wrap_of_lt _ _ (by rw [BitVec.toNat_ofNat]; omega)

set_option maxRecDepth 16384 in
theorem places_expert (e : IVec S256x2 32) (t : Fin 256) (j : Fin 2) (h : (e (ix2 t j)).toNat < 8) : places e (ix3 t j 1) = e (ix2 t j) := by
  pointwise [places]
  exact Routing.wrap_of_lt _ _ (by omega)

/-- Where a weight lands: at its token, in its expert's column. -/
theorem lands (e : IVec S256x2 32) (he : ∀ t j, (e (ix2 t j)).toNat < 8) (t : Fin 256) (j : Fin 2) (a : Fin 256) (b : Fin 8) :
    scatter_S256x8_S256x2x2_S256x2_n_01_01_2.resultIdx? (ix2 t j) (places e) = some (ix2 a b) ↔ t = a ∧ (e (ix2 t j)).toNat = b.val := by
  have h8 := he t j
  have h := Routing.scatter_lands2 scatter_S256x8_S256x2x2_S256x2_n_01_01_2 rfl rfl rfl (places e) t j a b
  refine h.trans ?_
  have h0 : places e (ValueIdx.ix3 t j 0) = BitVec.ofNat 32 t.val := places_token e t j
  have h1 : places e (ValueIdx.ix3 t j 1) = e (ix2 t j) := places_expert e t j h8
  rw [h0, h1, BitVec.toInt_eq_toNat_cond, BitVec.toInt_eq_toNat_cond, BitVec.toNat_ofNat, Fin.ext_iff]
  omega

theorem two_cases : ∀ a b : Fin 2, a = b ∨ (a = 0 ∧ b = 1) ∨ (a = 1 ∧ b = 0) := by decide

theorem weights_hit (e : IVec S256x2 32) (he : ∀ t j, (e (ix2 t j)).toNat < 8) (hd : ∀ t, e (ix2 t 0) ≠ e (ix2 t 1)) (w : FVec Ideal S256x2 .f32)
    (t : Fin 256) (j : Fin 2) (b : Fin 8) (hb : (e (ix2 t j)).toNat = b.val) : weights e w (ix2 t b) = w (ix2 t j) := by
  refine Routing.scatter_set_hit _ _ _ _ _ _ (fun k hk => ?_) (ix2 t j) ((lands e he t j t b).2 ⟨rfl, hb⟩)
  obtain ⟨t', j', rfl⟩ : ∃ (t' : Fin 256) (j' : Fin 2), k = ix2 t' j' := ⟨k 0, k 1, eq_ix2 k⟩
  obtain ⟨rfl, hl⟩ := (lands e he t' j' t b).1 hk
  have hj : e (ix2 t' j') = e (ix2 t' j) := BitVec.eq_of_toNat_eq (hl.trans hb.symm)
  rcases two_cases j' j with h | ⟨h, h'⟩ | ⟨h, h'⟩
  · rw [h]
  · rw [h, h'] at hj
    exact absurd hj (hd t')
  · rw [h, h'] at hj
    exact absurd hj.symm (hd t')

theorem weights_miss (e : IVec S256x2 32) (he : ∀ t j, (e (ix2 t j)).toNat < 8) (w : FVec Ideal S256x2 .f32)
    (t : Fin 256) (b : Fin 8) (hb : ∀ j, (e (ix2 t j)).toNat ≠ b.val) : weights e w (ix2 t b) = (0 : EReal) := by
  refine (Routing.scatter_set_miss _ _ _ _ _ (fun k hk => ?_)).trans ?_
  · obtain ⟨t', j', rfl⟩ : ∃ (t' : Fin 256) (j' : Fin 2), k = ix2 t' j' := ⟨k 0, k 1, eq_ix2 k⟩
    obtain ⟨rfl, hl⟩ := (lands e he t' j' t b).1 hk
    exact hb j' hl
  · pointwise

/-- The reference's value: a token's two experts, each with its weight. -/
theorem res_two (x : FVec Ideal S256x2048 .f32) (e : IVec S256x2 32) (w : FVec Ideal S256x2 .f32) (W13 : FVec Ideal S8x4096x2048 .f32) (W2 : FVec Ideal S8x2048x2048 .f32)
    (he : ∀ t j, (e (ix2 t j)).toNat < 8) (hd : ∀ t, e (ix2 t 0) ≠ e (ix2 t 1)) (t : Fin 256) (c : Fin 2048) :
    res (hid (upGate x W13)) W2 (weights e w) (ix2 t c) =
      ((∑ i : Fin 2048, (hid (upGate x W13) (ix3 t (⟨(e (ix2 t 0)).toNat, he t 0⟩ : Fin 8) i) * W2 (ix3 (⟨(e (ix2 t 0)).toNat, he t 0⟩ : Fin 8) c i) : EReal)) * w (ix2 t 0)
        + (∑ i : Fin 2048, (hid (upGate x W13) (ix3 t (⟨(e (ix2 t 1)).toNat, he t 1⟩ : Fin 8) i) * W2 (ix3 (⟨(e (ix2 t 1)).toNat, he t 1⟩ : Fin 8) c i) : EReal)) * w (ix2 t 1) : EReal) := by
  have hne : (⟨(e (ix2 t 0)).toNat, he t 0⟩ : Fin 8) ≠ ⟨(e (ix2 t 1)).toNat, he t 1⟩ := fun h => hd t (BitVec.eq_of_toNat_eq (Fin.mk.inj h))
  rw [res_at, Finset.sum_eq_add (⟨(e (ix2 t 0)).toNat, he t 0⟩ : Fin 8) ⟨(e (ix2 t 1)).toNat, he t 1⟩ hne (fun b _ hb => ?_)
    (fun h => absurd (Finset.mem_univ _) h) (fun h => absurd (Finset.mem_univ _) h), weights_hit e he hd w t 0 _ rfl, weights_hit e he hd w t 1 _ rfl]
  rw [weights_miss e he w t b (fun j h => ?_)]
  · exact mul_zero _
  · match j, h with
    | 0, h => exact hb.1 (Fin.ext h.symm)
    | 1, h => exact hb.2 (Fin.ext h.symm)

end Cert.Proof.Ref

end
-- ==== Proof.Algebra.lean ====
/-
  The kernel's result at the ideal floats is the reference's.
-/
module

public import proofs.«01_k».proof.Proof.Payload
public import proofs.«01_k».proof.Proof.Ref

@[expose] public section

noncomputable section

namespace Cert.Proof

open Idealize.ShloMosaic

theorem ix2_val {m n : ℕ} [NeZero m] [NeZero n] (a : Fin m) (b : Fin n) : Moe.ix2 (m := m) (n := n) a.val b.val = ix2 a b :=
  ix2_fin a.val b.val a.isLt b.isLt

theorem ix3_val {l m n : ℕ} [NeZero l] [NeZero m] [NeZero n] (a : Fin l) (b : Fin m) (c : Fin n) : Moe.ix3 (l := l) (m := m) (n := n) a.val b.val c.val = ix3 a b c :=
  ix3_fin a.val b.val c.val a.isLt b.isLt c.isLt

variable (I : In Ideal)

/-- The reference's first product, as the kernel's. -/
theorem up_eq (t : Fin 256) (a : Fin 8) (h : Fin 2) (i : Fin 2048) : Ref.upGate I.x I.W13 (ix4 t a h i) = upN I t.val a.val (2048 * h.val + i.val) := by
  rw [Ref.upGate_at]
  unfold upN
  refine Finset.sum_congr rfl fun k _ => ?_
  rw [ix2_val (m := 256) (n := 2048) t k, ix3_fin (l := 8) (m := 4096) (n := 2048) a.val (2048 * h.val + i.val) k.val a.isLt (by omega) k.isLt]

/-- The reference's hidden activations, as the kernel's. -/
theorem hid_eq (t : Fin 256) (a : Fin 8) (i : Fin 2048) : Ref.hid (Ref.upGate I.x I.W13) (ix3 t a i) = hidN I t.val a.val i.val := by
  rw [Ref.hid_at, up_eq, up_eq]
  unfold hidN
  rw [show 2048 * (0 : Fin 2).val + i.val = i.val by simp, show 2048 * (1 : Fin 2).val + i.val = 2048 + i.val by simp]

/-- What the reference makes of a token with one expert, as the kernel. -/
theorem out_eq (t : Fin 256) (a : Fin 8) (c : Fin 2048) :
    (∑ i : Fin 2048, (Ref.hid (Ref.upGate I.x I.W13) (ix3 t a i) * I.W2 (ix3 a c i) : EReal)) = outN I t.val a.val c.val := by
  unfold outN
  refine Finset.sum_congr rfl fun i _ => ?_
  rw [hid_eq, ix3_val (l := 8) (m := 2048) (n := 2048) a c i]

theorem ref_eq : Ref.res (Ref.hid (Ref.upGate I.x I.W13)) I.W2 (Ref.weights I.e I.w) = resI I := by
  have he : ∀ (t : Fin 256) (j : Fin 2), ((I.e (ix2 t j) : BitVec 32)).toNat < 8 := fun t j => by
    rw [← ix2_val (m := 256) (n := 2) t j]; exact I.he _ _
  have hd : ∀ t : Fin 256, (I.e (ix2 t 0) : BitVec 32) ≠ I.e (ix2 t 1) := fun t => by
    rw [← ix2_val (m := 256) (n := 2) t 0, ← ix2_val (m := 256) (n := 2) t 1]; exact I.hd t.val t.isLt
  funext y
  obtain ⟨t, c, rfl⟩ : ∃ (t : Fin 256) (c : Fin 2048), y = ix2 t c := ⟨y 0, y 1, eq_ix2 y⟩
  have hk0 : key I (2 * t.val) = ((I.e (ix2 t 0) : BitVec 32)).toNat := by
    unfold key
    rw [show 2 * t.val / 2 = t.val by omega, show 2 * t.val % 2 = (0 : Fin 2).val by simp, ix2_val (m := 256) (n := 2) t 0]
  have hk1 : key I (2 * t.val + 1) = ((I.e (ix2 t 1) : BitVec 32)).toNat := by
    unfold key
    rw [show (2 * t.val + 1) / 2 = t.val by omega, show (2 * t.val + 1) % 2 = (1 : Fin 2).val by show _ = 1; omega, ix2_val (m := 256) (n := 2) t 1]
  refine (Ref.res_two I.x I.e I.w I.W13 I.W2 he hd t c).trans ?_
  rw [out_eq, out_eq]
  show _ = FloatOps.addf (F := Ideal) (φ := .f32) (outAt I (2 * t.val) c.val) (outAt I (2 * t.val + 1) c.val)
  rw [outAt_eq I _ _ (by omega), outAt_eq I _ _ (by omega), hk0, hk1,
    show 2 * t.val / 2 = t.val by omega, show 2 * t.val % 2 = (0 : Fin 2).val by simp, ix2_val (m := 256) (n := 2) t 0,
    show (2 * t.val + 1) / 2 = t.val by omega, show (2 * t.val + 1) % 2 = (1 : Fin 2).val by show _ = 1; omega, ix2_val (m := 256) (n := 2) t 1]
  rfl

end Cert.Proof

end
-- ==== Proof.Join.lean ====
/-
  From equal arguments the kernel and the reference, both at the ideal floats, end with equal results.
-/
module

public import proofs.«01_k».proof.Proof.Frames
public import proofs.«01_k».proof.Proof.Algebra

@[expose] public section

noncomputable section

namespace Cert.Proof

open Idealize.ShloMosaic Idealize.SL.Sem

theorem algebraic : Cert.algebraic_KernelIdeal_ReferenceIdeal := by
  intro m g m' g' h ha
  refine ⟨fun _ => resI (inI m h), (θ_run Cert.KernelIdeal.defs _ _).mono (fun _ hr => hr.1) (run_ideal m g h), ?_⟩
  refine (θ_run Cert.ReferenceIdeal.defs _ _).mono (fun r hr c => ⟨(hr c).1.trans ?_, (hr c).2⟩) (Ref.run_at m' g')
  obtain rfl : c = 0 := Subsingleton.elim _ _
  obtain ⟨h0, h1, h2, h3, h4⟩ := ha 0
  refine Eq.trans ?_ (ref_eq (inI m h))
  rw [h0, h1, h2, h3, h4]
  rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Frames
public import proofs.«01_k».proof.Proof.Join

@[expose] public section

noncomputable section

namespace Cert.Proof

theorem claim : Cert.Claim := ⟨Cert.Kernel.Gen.facts, Cert.KernelIdeal.Gen.facts, Cert.ReferenceIdeal.Gen.facts, Cert.Pre_routed.Gen.facts,
  frame_kernel, frame_kernelIdeal, frame_reference, trivial, algebraic⟩

end Cert.Proof

end
